-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Rel (m : (ℓ : Loc Cert.Rel.nD Cert.Rel.τ Cert.Rel.sig) → Buf (Elt Bits) ℓ) : Prop :=
  True

def Pre_RelIdeal (m : (ℓ : Loc Cert.RelIdeal.nD Cert.RelIdeal.τ Cert.RelIdeal.sig) → Buf (Elt Ideal) ℓ) : Prop :=
  True

def Pre_RelRefIdeal (m : (ℓ : Loc Cert.RelRefIdeal.nD Cert.RelRefIdeal.τ Cert.RelRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15)
      ∧ r.2.mem ((c.tc : Thread Cert.TailRefIdeal.nD Cert.TailRefIdeal.τ).loc Cert.TailRefIdeal.main_arg16) = m ((c.tc : Thread Cert.TailRefIdeal.nD Cert.TailRefIdeal.τ).loc Cert.TailRefIdeal.main_arg16))
      ∧ r.2.sem = fun _ => 0)

def quiescent_Rel [hRel : Cert.Rel.Facts] : Prop :=
  ∀ (m : (ℓ : Loc Cert.Rel.nD Cert.Rel.τ Cert.Rel.sig) → Buf (Elt Bits) ℓ) (g : Dev Cert.Rel.nD → PrngReg), Pre_Rel m →
    θ_run (Cert.Rel.defs (F := Bits)) (onTc (τ := Cert.Rel.τ) (Cert.Rel.main (F := Bits))) ⟨m, fun _ => 0, g⟩ (fun r => (∀ c : Dev Cert.Rel.nD,
      r.2.mem ((c.tc : Thread Cert.Rel.nD Cert.Rel.τ).loc Cert.Rel.main_arg0) = m ((c.tc : Thread Cert.Rel.nD Cert.Rel.τ).loc Cert.Rel.main_arg0)
      ∧ r.2.mem ((c.tc : Thread Cert.Rel.nD Cert.Rel.τ).loc Cert.Rel.main_arg1) = m ((c.tc : Thread Cert.Rel.nD Cert.Rel.τ).loc Cert.Rel.main_arg1)
      ∧ r.2.mem ((c.tc : Thread Cert.Rel.nD Cert.Rel.τ).loc Cert.Rel.main_arg2) = m ((c.tc : Thread Cert.Rel.nD Cert.Rel.τ).loc Cert.Rel.main_arg2)
      ∧ r.2.mem ((c.tc : Thread Cert.Rel.nD Cert.Rel.τ).loc Cert.Rel.main_arg3) = m ((c.tc : Thread Cert.Rel.nD Cert.Rel.τ).loc Cert.Rel.main_arg3)
      ∧ r.2.mem ((c.tc : Thread Cert.Rel.nD Cert.Rel.τ).loc Cert.Rel.main_arg4) = m ((c.tc : Thread Cert.Rel.nD Cert.Rel.τ).loc Cert.Rel.main_arg4)
      ∧ r.2.mem ((c.tc : Thread Cert.Rel.nD Cert.Rel.τ).loc Cert.Rel.main_arg5) = m ((c.tc : Thread Cert.Rel.nD Cert.Rel.τ).loc Cert.Rel.main_arg5))
      ∧ r.2.sem = fun _ => 0)

def quiescent_RelIdeal [hRelIdeal : Cert.RelIdeal.Facts] : Prop :=
  ∀ (m : (ℓ : Loc Cert.RelIdeal.nD Cert.RelIdeal.τ Cert.RelIdeal.sig) → Buf (Elt Ideal) ℓ) (g : Dev Cert.RelIdeal.nD → PrngReg), Pre_RelIdeal m →
    θ_run (Cert.RelIdeal.defs (F := Ideal)) (onTc (τ := Cert.RelIdeal.τ) (Cert.RelIdeal.main (F := Ideal))) ⟨m, fun _ => 0, g⟩ (fun r => (∀ c : Dev Cert.RelIdeal.nD,
      r.2.mem ((c.tc : Thread Cert.RelIdeal.nD Cert.RelIdeal.τ).loc Cert.RelIdeal.main_arg0) = m ((c.tc : Thread Cert.RelIdeal.nD Cert.RelIdeal.τ).loc Cert.RelIdeal.main_arg0)
      ∧ r.2.mem ((c.tc : Thread Cert.RelIdeal.nD Cert.RelIdeal.τ).loc Cert.RelIdeal.main_arg1) = m ((c.tc : Thread Cert.RelIdeal.nD Cert.RelIdeal.τ).loc Cert.RelIdeal.main_arg1)
      ∧ r.2.mem ((c.tc : Thread Cert.RelIdeal.nD Cert.RelIdeal.τ).loc Cert.RelIdeal.main_arg2) = m ((c.tc : Thread Cert.RelIdeal.nD Cert.RelIdeal.τ).loc Cert.RelIdeal.main_arg2)
      ∧ r.2.mem ((c.tc : Thread Cert.RelIdeal.nD Cert.RelIdeal.τ).loc Cert.RelIdeal.main_arg3) = m ((c.tc : Thread Cert.RelIdeal.nD Cert.RelIdeal.τ).loc Cert.RelIdeal.main_arg3)
      ∧ r.2.mem ((c.tc : Thread Cert.RelIdeal.nD Cert.RelIdeal.τ).loc Cert.RelIdeal.main_arg4) = m ((c.tc : Thread Cert.RelIdeal.nD Cert.RelIdeal.τ).loc Cert.RelIdeal.main_arg4)
      ∧ r.2.mem ((c.tc : Thread Cert.RelIdeal.nD Cert.RelIdeal.τ).loc Cert.RelIdeal.main_arg5) = m ((c.tc : Thread Cert.RelIdeal.nD Cert.RelIdeal.τ).loc Cert.RelIdeal.main_arg5))
      ∧ r.2.sem = fun _ => 0)

def quiescent_RelRefIdeal [hRelRefIdeal : Cert.RelRefIdeal.Facts] : Prop :=
  ∀ (m : (ℓ : Loc Cert.RelRefIdeal.nD Cert.RelRefIdeal.τ Cert.RelRefIdeal.sig) → Buf (Elt Ideal) ℓ) (g : Dev Cert.RelRefIdeal.nD → PrngReg), Pre_RelRefIdeal m →
    θ_run (Cert.RelRefIdeal.defs (F := Ideal)) (onTc (τ := Cert.RelRefIdeal.τ) (Cert.RelRefIdeal.main (F := Ideal))) ⟨m, fun _ => 0, g⟩ (fun r => (∀ c : Dev Cert.RelRefIdeal.nD,
      r.2.mem ((c.tc : Thread Cert.RelRefIdeal.nD Cert.RelRefIdeal.τ).loc Cert.RelRefIdeal.main_arg0) = m ((c.tc : Thread Cert.RelRefIdeal.nD Cert.RelRefIdeal.τ).loc Cert.RelRefIdeal.main_arg0)
      ∧ r.2.mem ((c.tc : Thread Cert.RelRefIdeal.nD Cert.RelRefIdeal.τ).loc Cert.RelRefIdeal.main_arg1) = m ((c.tc : Thread Cert.RelRefIdeal.nD Cert.RelRefIdeal.τ).loc Cert.RelRefIdeal.main_arg1)
      ∧ r.2.mem ((c.tc : Thread Cert.RelRefIdeal.nD Cert.RelRefIdeal.τ).loc Cert.RelRefIdeal.main_arg2) = m ((c.tc : Thread Cert.RelRefIdeal.nD Cert.RelRefIdeal.τ).loc Cert.RelRefIdeal.main_arg2)
      ∧ r.2.mem ((c.tc : Thread Cert.RelRefIdeal.nD Cert.RelRefIdeal.τ).loc Cert.RelRefIdeal.main_arg3) = m ((c.tc : Thread Cert.RelRefIdeal.nD Cert.RelRefIdeal.τ).loc Cert.RelRefIdeal.main_arg3)
      ∧ r.2.mem ((c.tc : Thread Cert.RelRefIdeal.nD Cert.RelRefIdeal.τ).loc Cert.RelRefIdeal.main_arg4) = m ((c.tc : Thread Cert.RelRefIdeal.nD Cert.RelRefIdeal.τ).loc Cert.RelRefIdeal.main_arg4)
      ∧ r.2.mem ((c.tc : Thread Cert.RelRefIdeal.nD Cert.RelRefIdeal.τ).loc Cert.RelRefIdeal.main_arg5) = m ((c.tc : Thread Cert.RelRefIdeal.nD Cert.RelRefIdeal.τ).loc Cert.RelRefIdeal.main_arg5))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)
      ∧ m' ((c.tc : Thread Cert.TailRefIdeal.nD Cert.TailRefIdeal.τ).loc Cert.TailRefIdeal.main_arg16) = m ((c.tc : Thread Cert.TailIdeal.nD Cert.TailIdeal.τ).loc Cert.TailIdeal.main_arg16)) →
    ∃ (v0 : (c : Dev Cert.TailIdeal.nD) → Buf (Elt Ideal) ((c.tc : Thread Cert.TailIdeal.nD Cert.TailIdeal.τ).loc Cert.TailIdeal.main_v13_0)) (v1 : (c : Dev Cert.TailIdeal.nD) → Buf (Elt Ideal) ((c.tc : Thread Cert.TailIdeal.nD Cert.TailIdeal.τ).loc Cert.TailIdeal.main_v13_1)) (v2 : (c : Dev Cert.TailIdeal.nD) → Buf (Elt Ideal) ((c.tc : Thread Cert.TailIdeal.nD Cert.TailIdeal.τ).loc Cert.TailIdeal.main_v13_2)) (v3 : (c : Dev Cert.TailIdeal.nD) → Buf (Elt Ideal) ((c.tc : Thread Cert.TailIdeal.nD Cert.TailIdeal.τ).loc Cert.TailIdeal.main_v13_3)) (v4 : (c : Dev Cert.TailIdeal.nD) → Buf (Elt Ideal) ((c.tc : Thread Cert.TailIdeal.nD Cert.TailIdeal.τ).loc Cert.TailIdeal.main_v13_4)) (v5 : (c : Dev Cert.TailIdeal.nD) → Buf (Elt Ideal) ((c.tc : Thread Cert.TailIdeal.nD Cert.TailIdeal.τ).loc Cert.TailIdeal.main_v13_5)) (v6 : (c : Dev Cert.TailIdeal.nD) → Buf (Elt Ideal) ((c.tc : Thread Cert.TailIdeal.nD Cert.TailIdeal.τ).loc Cert.TailIdeal.main_v13_6)) (v7 : (c : Dev Cert.TailIdeal.nD) → Buf (Elt Ideal) ((c.tc : Thread Cert.TailIdeal.nD Cert.TailIdeal.τ).loc Cert.TailIdeal.main_v13_7)) (v8 : (c : Dev Cert.TailIdeal.nD) → Buf (Elt Ideal) ((c.tc : Thread Cert.TailIdeal.nD Cert.TailIdeal.τ).loc Cert.TailIdeal.main_v13_8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v13_0) = v0 c
          ∧ r.2.mem ((c.tc : Thread Cert.TailIdeal.nD Cert.TailIdeal.τ).loc Cert.TailIdeal.main_v13_1) = v1 c
          ∧ r.2.mem ((c.tc : Thread Cert.TailIdeal.nD Cert.TailIdeal.τ).loc Cert.TailIdeal.main_v13_2) = v2 c
          ∧ r.2.mem ((c.tc : Thread Cert.TailIdeal.nD Cert.TailIdeal.τ).loc Cert.TailIdeal.main_v13_3) = v3 c
          ∧ r.2.mem ((c.tc : Thread Cert.TailIdeal.nD Cert.TailIdeal.τ).loc Cert.TailIdeal.main_v13_4) = v4 c
          ∧ r.2.mem ((c.tc : Thread Cert.TailIdeal.nD Cert.TailIdeal.τ).loc Cert.TailIdeal.main_v13_5) = v5 c
          ∧ r.2.mem ((c.tc : Thread Cert.TailIdeal.nD Cert.TailIdeal.τ).loc Cert.TailIdeal.main_v13_6) = v6 c
          ∧ r.2.mem ((c.tc : Thread Cert.TailIdeal.nD Cert.TailIdeal.τ).loc Cert.TailIdeal.main_v13_7) = v7 c
          ∧ r.2.mem ((c.tc : Thread Cert.TailIdeal.nD Cert.TailIdeal.τ).loc Cert.TailIdeal.main_v13_8) = v8 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v16_0) = v0 c
          ∧ r.2.mem ((c.tc : Thread Cert.TailRefIdeal.nD Cert.TailRefIdeal.τ).loc Cert.TailRefIdeal.main_v16_1) = v1 c
          ∧ r.2.mem ((c.tc : Thread Cert.TailRefIdeal.nD Cert.TailRefIdeal.τ).loc Cert.TailRefIdeal.main_v16_2) = v2 c
          ∧ r.2.mem ((c.tc : Thread Cert.TailRefIdeal.nD Cert.TailRefIdeal.τ).loc Cert.TailRefIdeal.main_v16_3) = v3 c
          ∧ r.2.mem ((c.tc : Thread Cert.TailRefIdeal.nD Cert.TailRefIdeal.τ).loc Cert.TailRefIdeal.main_v16_4) = v4 c
          ∧ r.2.mem ((c.tc : Thread Cert.TailRefIdeal.nD Cert.TailRefIdeal.τ).loc Cert.TailRefIdeal.main_v16_5) = v5 c
          ∧ r.2.mem ((c.tc : Thread Cert.TailRefIdeal.nD Cert.TailRefIdeal.τ).loc Cert.TailRefIdeal.main_v16_6) = v6 c
          ∧ r.2.mem ((c.tc : Thread Cert.TailRefIdeal.nD Cert.TailRefIdeal.τ).loc Cert.TailRefIdeal.main_v16_7) = v7 c
          ∧ r.2.mem ((c.tc : Thread Cert.TailRefIdeal.nD Cert.TailRefIdeal.τ).loc Cert.TailRefIdeal.main_v16_8) = v8 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15)
          ∧ r.2.mem ((c.tc : Thread Cert.TailRefIdeal.nD Cert.TailRefIdeal.τ).loc Cert.TailRefIdeal.main_arg16) = m' ((c.tc : Thread Cert.TailRefIdeal.nD Cert.TailRefIdeal.τ).loc Cert.TailRefIdeal.main_arg16))

def preserves_Rel_RelIdeal : Prop :=
  True

def algebraic_RelIdeal_RelRefIdeal [hRelIdeal : Cert.RelIdeal.Facts] [hRelRefIdeal : Cert.RelRefIdeal.Facts] : Prop :=
  ∀ (m : (ℓ : Loc Cert.RelIdeal.nD Cert.RelIdeal.τ Cert.RelIdeal.sig) → Buf (Elt Ideal) ℓ) (g : Dev Cert.RelIdeal.nD → PrngReg)
    (m' : (ℓ : Loc Cert.RelRefIdeal.nD Cert.RelRefIdeal.τ Cert.RelRefIdeal.sig) → Buf (Elt Ideal) ℓ) (g' : Dev Cert.RelRefIdeal.nD → PrngReg), Pre_RelIdeal m →
    (∀ c : Dev Cert.RelIdeal.nD,
      m' ((c.tc : Thread Cert.RelRefIdeal.nD Cert.RelRefIdeal.τ).loc Cert.RelRefIdeal.main_arg0) = m ((c.tc : Thread Cert.RelIdeal.nD Cert.RelIdeal.τ).loc Cert.RelIdeal.main_arg0)
      ∧ m' ((c.tc : Thread Cert.RelRefIdeal.nD Cert.RelRefIdeal.τ).loc Cert.RelRefIdeal.main_arg1) = m ((c.tc : Thread Cert.RelIdeal.nD Cert.RelIdeal.τ).loc Cert.RelIdeal.main_arg1)
      ∧ m' ((c.tc : Thread Cert.RelRefIdeal.nD Cert.RelRefIdeal.τ).loc Cert.RelRefIdeal.main_arg2) = m ((c.tc : Thread Cert.RelIdeal.nD Cert.RelIdeal.τ).loc Cert.RelIdeal.main_arg2)
      ∧ m' ((c.tc : Thread Cert.RelRefIdeal.nD Cert.RelRefIdeal.τ).loc Cert.RelRefIdeal.main_arg3) = m ((c.tc : Thread Cert.RelIdeal.nD Cert.RelIdeal.τ).loc Cert.RelIdeal.main_arg3)
      ∧ m' ((c.tc : Thread Cert.RelRefIdeal.nD Cert.RelRefIdeal.τ).loc Cert.RelRefIdeal.main_arg4) = m ((c.tc : Thread Cert.RelIdeal.nD Cert.RelIdeal.τ).loc Cert.RelIdeal.main_arg4)
      ∧ m' ((c.tc : Thread Cert.RelRefIdeal.nD Cert.RelRefIdeal.τ).loc Cert.RelRefIdeal.main_arg5) = m ((c.tc : Thread Cert.RelIdeal.nD Cert.RelIdeal.τ).loc Cert.RelIdeal.main_arg5)) →
    ∃ (v0 : (c : Dev Cert.RelIdeal.nD) → Buf (Elt Ideal) ((c.tc : Thread Cert.RelIdeal.nD Cert.RelIdeal.τ).loc Cert.RelIdeal.main_v10_0)) (v1 : (c : Dev Cert.RelIdeal.nD) → Buf (Elt Ideal) ((c.tc : Thread Cert.RelIdeal.nD Cert.RelIdeal.τ).loc Cert.RelIdeal.main_v10_1)) (v2 : (c : Dev Cert.RelIdeal.nD) → Buf (Elt Ideal) ((c.tc : Thread Cert.RelIdeal.nD Cert.RelIdeal.τ).loc Cert.RelIdeal.main_v10_2)) (v3 : (c : Dev Cert.RelIdeal.nD) → Buf (Elt Ideal) ((c.tc : Thread Cert.RelIdeal.nD Cert.RelIdeal.τ).loc Cert.RelIdeal.main_v10_3)),
      θ_run (Cert.RelIdeal.defs (F := Ideal)) (onTc (τ := Cert.RelIdeal.τ) (Cert.RelIdeal.main (F := Ideal))) ⟨m, fun _ => 0, g⟩ (fun r => ∀ c : Dev Cert.RelIdeal.nD,
          r.2.mem ((c.tc : Thread Cert.RelIdeal.nD Cert.RelIdeal.τ).loc Cert.RelIdeal.main_v10_0) = v0 c
          ∧ r.2.mem ((c.tc : Thread Cert.RelIdeal.nD Cert.RelIdeal.τ).loc Cert.RelIdeal.main_v10_1) = v1 c
          ∧ r.2.mem ((c.tc : Thread Cert.RelIdeal.nD Cert.RelIdeal.τ).loc Cert.RelIdeal.main_v10_2) = v2 c
          ∧ r.2.mem ((c.tc : Thread Cert.RelIdeal.nD Cert.RelIdeal.τ).loc Cert.RelIdeal.main_v10_3) = v3 c
          ∧ r.2.mem ((c.tc : Thread Cert.RelIdeal.nD Cert.RelIdeal.τ).loc Cert.RelIdeal.main_arg0) = m ((c.tc : Thread Cert.RelIdeal.nD Cert.RelIdeal.τ).loc Cert.RelIdeal.main_arg0)
          ∧ r.2.mem ((c.tc : Thread Cert.RelIdeal.nD Cert.RelIdeal.τ).loc Cert.RelIdeal.main_arg1) = m ((c.tc : Thread Cert.RelIdeal.nD Cert.RelIdeal.τ).loc Cert.RelIdeal.main_arg1)
          ∧ r.2.mem ((c.tc : Thread Cert.RelIdeal.nD Cert.RelIdeal.τ).loc Cert.RelIdeal.main_arg2) = m ((c.tc : Thread Cert.RelIdeal.nD Cert.RelIdeal.τ).loc Cert.RelIdeal.main_arg2)
          ∧ r.2.mem ((c.tc : Thread Cert.RelIdeal.nD Cert.RelIdeal.τ).loc Cert.RelIdeal.main_arg3) = m ((c.tc : Thread Cert.RelIdeal.nD Cert.RelIdeal.τ).loc Cert.RelIdeal.main_arg3)
          ∧ r.2.mem ((c.tc : Thread Cert.RelIdeal.nD Cert.RelIdeal.τ).loc Cert.RelIdeal.main_arg4) = m ((c.tc : Thread Cert.RelIdeal.nD Cert.RelIdeal.τ).loc Cert.RelIdeal.main_arg4)
          ∧ r.2.mem ((c.tc : Thread Cert.RelIdeal.nD Cert.RelIdeal.τ).loc Cert.RelIdeal.main_arg5) = m ((c.tc : Thread Cert.RelIdeal.nD Cert.RelIdeal.τ).loc Cert.RelIdeal.main_arg5))
      ∧ θ_run (Cert.RelRefIdeal.defs (F := Ideal)) (onTc (τ := Cert.RelRefIdeal.τ) (Cert.RelRefIdeal.main (F := Ideal))) ⟨m', fun _ => 0, g'⟩ (fun r => ∀ c : Dev Cert.RelRefIdeal.nD,
          r.2.mem ((c.tc : Thread Cert.RelRefIdeal.nD Cert.RelRefIdeal.τ).loc Cert.RelRefIdeal.main_v6_0) = v0 c
          ∧ r.2.mem ((c.tc : Thread Cert.RelRefIdeal.nD Cert.RelRefIdeal.τ).loc Cert.RelRefIdeal.main_v6_1) = v1 c
          ∧ r.2.mem ((c.tc : Thread Cert.RelRefIdeal.nD Cert.RelRefIdeal.τ).loc Cert.RelRefIdeal.main_v6_2) = v2 c
          ∧ r.2.mem ((c.tc : Thread Cert.RelRefIdeal.nD Cert.RelRefIdeal.τ).loc Cert.RelRefIdeal.main_v6_3) = v3 c
          ∧ r.2.mem ((c.tc : Thread Cert.RelRefIdeal.nD Cert.RelRefIdeal.τ).loc Cert.RelRefIdeal.main_arg0) = m' ((c.tc : Thread Cert.RelRefIdeal.nD Cert.RelRefIdeal.τ).loc Cert.RelRefIdeal.main_arg0)
          ∧ r.2.mem ((c.tc : Thread Cert.RelRefIdeal.nD Cert.RelRefIdeal.τ).loc Cert.RelRefIdeal.main_arg1) = m' ((c.tc : Thread Cert.RelRefIdeal.nD Cert.RelRefIdeal.τ).loc Cert.RelRefIdeal.main_arg1)
          ∧ r.2.mem ((c.tc : Thread Cert.RelRefIdeal.nD Cert.RelRefIdeal.τ).loc Cert.RelRefIdeal.main_arg2) = m' ((c.tc : Thread Cert.RelRefIdeal.nD Cert.RelRefIdeal.τ).loc Cert.RelRefIdeal.main_arg2)
          ∧ r.2.mem ((c.tc : Thread Cert.RelRefIdeal.nD Cert.RelRefIdeal.τ).loc Cert.RelRefIdeal.main_arg3) = m' ((c.tc : Thread Cert.RelRefIdeal.nD Cert.RelRefIdeal.τ).loc Cert.RelRefIdeal.main_arg3)
          ∧ r.2.mem ((c.tc : Thread Cert.RelRefIdeal.nD Cert.RelRefIdeal.τ).loc Cert.RelRefIdeal.main_arg4) = m' ((c.tc : Thread Cert.RelRefIdeal.nD Cert.RelRefIdeal.τ).loc Cert.RelRefIdeal.main_arg4)
          ∧ r.2.mem ((c.tc : Thread Cert.RelRefIdeal.nD Cert.RelRefIdeal.τ).loc Cert.RelRefIdeal.main_arg5) = m' ((c.tc : Thread Cert.RelRefIdeal.nD Cert.RelRefIdeal.τ).loc Cert.RelRefIdeal.main_arg5))

def Claim : Prop :=
  ∃ (hTail : Cert.Tail.Facts) (hTailIdeal : Cert.TailIdeal.Facts) (hTailRefIdeal : Cert.TailRefIdeal.Facts) (hRel : Cert.Rel.Facts) (hRelIdeal : Cert.RelIdeal.Facts) (hRelRefIdeal : Cert.RelRefIdeal.Facts),
    quiescent_Tail (hTail := hTail)
    ∧ quiescent_TailIdeal (hTailIdeal := hTailIdeal)
    ∧ quiescent_TailRefIdeal (hTailRefIdeal := hTailRefIdeal)
    ∧ quiescent_Rel (hRel := hRel)
    ∧ quiescent_RelIdeal (hRelIdeal := hRelIdeal)
    ∧ quiescent_RelRefIdeal (hRelRefIdeal := hRelRefIdeal)
    ∧ preserves_Tail_TailIdeal
    ∧ algebraic_TailIdeal_TailRefIdeal (hTailIdeal := hTailIdeal) (hTailRefIdeal := hTailRefIdeal)
    ∧ preserves_Rel_RelIdeal
    ∧ algebraic_RelIdeal_RelRefIdeal (hRelIdeal := hRelIdeal) (hRelRefIdeal := hRelRefIdeal)
-- ==== Tail.lean ====
abbrev S3x768x384 : Shape := ⟨3, ![3, 768, 384]⟩
abbrev S3x384x768 : Shape := ⟨3, ![3, 384, 768]⟩
abbrev S768 : Shape := ⟨1, ![768]⟩
abbrev S12x64x768 : Shape := ⟨3, ![12, 64, 768]⟩
abbrev S768x3072 : Shape := ⟨2, ![768, 3072]⟩
abbrev S3072 : Shape := ⟨1, ![3072]⟩
abbrev S3072x768 : Shape := ⟨2, ![3072, 768]⟩
abbrev S1x768 : Shape := ⟨2, ![1, 768]⟩
abbrev S768x768 : Shape := ⟨2, ![768, 768]⟩
abbrev S1x3072 : Shape := ⟨2, ![1, 3072]⟩
abbrev S3x1x384 : Shape := ⟨3, ![3, 1, 384]⟩
abbrev S3x384x3072 : Shape := ⟨3, ![3, 384, 3072]⟩
abbrev S1x768x384 : Shape := ⟨3, ![1, 768, 384]⟩
abbrev S1x384x768 : Shape := ⟨3, ![1, 384, 768]⟩
abbrev S1x1x384 : Shape := ⟨3, ![1, 1, 384]⟩
abbrev S1x384x3072 : Shape := ⟨3, ![1, 384, 3072]⟩
abbrev S384x3072 : Shape := ⟨2, ![384, 3072]⟩
abbrev S768x384 : Shape := ⟨2, ![768, 384]⟩
abbrev S384 : Shape := ⟨1, ![384]⟩
abbrev S1x384 : Shape := ⟨2, ![1, 384]⟩
abbrev S384x768 : Shape := ⟨2, ![384, 768]⟩
abbrev S1x128 : Shape := ⟨2, ![1, 128]⟩
abbrev S128x128 : Shape := ⟨2, ![128, 128]⟩
abbrev S384x128 : Shape := ⟨2, ![384, 128]⟩
abbrev S384x1 : Shape := ⟨2, ![384, 1]⟩
abbrev S128x1 : Shape := ⟨2, ![128, 1]⟩
abbrev S128 : Shape := ⟨1, ![128]⟩
abbrev S768x512 : Shape := ⟨2, ![768, 512]⟩
abbrev S384x512 : Shape := ⟨2, ![384, 512]⟩
abbrev S1x512 : Shape := ⟨2, ![1, 512]⟩
abbrev S1x384x512 : Shape := ⟨3, ![1, 384, 512]⟩
abbrev S512x768 : Shape := ⟨2, ![512, 768]⟩

abbrev nBuf : Space → Nat
  | .hbm => 39
  | .vmem => 38
  | .smem => 0
  | _ => 0

abbrev bufTy : (tb : Table) → Fin (tcTables nBuf tb) → BufTy
  | .hbm, ⟨0, _⟩ => ⟨S3x768x384, .f32⟩
  | .hbm, ⟨1, _⟩ => ⟨S3x384x768, .bf16⟩
  | .hbm, ⟨2, _⟩ => ⟨S768, .f32⟩
  | .hbm, ⟨3, _⟩ => ⟨S768, .f32⟩
  | .hbm, ⟨4, _⟩ => ⟨S12x64x768, .i8⟩
  | .hbm, ⟨5, _⟩ => ⟨S768, .f32⟩
  | .hbm, ⟨6, _⟩ => ⟨S768, .f32⟩
  | .hbm, ⟨7, _⟩ => ⟨S768x3072, .i8⟩
  | .hbm, ⟨8, _⟩ => ⟨S3072, .f32⟩
  | .hbm, ⟨9, _⟩ => ⟨S3072, .f32⟩
  | .hbm, ⟨10, _⟩ => ⟨S3072x768, .i8⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768, .f32⟩
  | .hbm, ⟨15, _⟩ => ⟨S768, .f32⟩
  | .hbm, ⟨16, _⟩ => ⟨S768, .f32⟩
  | .hbm, ⟨17, _⟩ => ⟨S1x768, .f32⟩
  | .hbm, ⟨18, _⟩ => ⟨S1x768, .f32⟩
  | .hbm, ⟨19, _⟩ => ⟨S768x768, .i8⟩
  | .hbm, ⟨20, _⟩ => ⟨S1x768, .f32⟩
  | .hbm, ⟨21, _⟩ => ⟨S1x768, .f32⟩
  | .hbm, ⟨22, _⟩ => ⟨S1x768, .f32⟩
  | .hbm, ⟨23, _⟩ => ⟨S1x768, .f32⟩
  | .hbm, ⟨24, _⟩ => ⟨S1x3072, .f32⟩
  | .hbm, ⟨25, _⟩ => ⟨S1x3072, .f32⟩
  | .hbm, ⟨26, _⟩ => ⟨S1x768, .f32⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S3x768x384, .i8⟩
  | .hbm, ⟨31, _⟩ => ⟨S3x1x384, .f32⟩
  | .hbm, ⟨32, _⟩ => ⟨S3x384x768, .i8⟩
  | .hbm, ⟨33, _⟩ => ⟨S3x1x384, .f32⟩
  | .hbm, ⟨34, _⟩ => ⟨S3x384x3072, .i8⟩
  | .hbm, ⟨35, _⟩ => ⟨S3x1x384, .f32⟩
  | .hbm, ⟨36, _⟩ => ⟨S3x384x768, .f32⟩
  | .hbm, ⟨37, _⟩ => ⟨S3x384x768, .i8⟩
  | .hbm, ⟨38, _⟩ => ⟨S3x1x384, .f32⟩
  | .local _ .vmem, ⟨0, _⟩ => ⟨S1x768x384, .f32⟩
  | .local _ .vmem, ⟨1, _⟩ => ⟨S1x768x384, .f32⟩
  | .local _ .vmem, ⟨2, _⟩ => ⟨S1x384x768, .bf16⟩
  | .local _ .vmem, ⟨3, _⟩ => ⟨S1x384x768, .bf16⟩
  | .local _ .vmem, ⟨4, _⟩ => ⟨S1x768, .f32⟩
  | .local _ .vmem, ⟨5, _⟩ => ⟨S1x768, .f32⟩
  | .local _ .vmem, ⟨6, _⟩ => ⟨S768x768, .i8⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S768x3072, .i8⟩
  | .local _ .vmem, ⟨12, _⟩ => ⟨S1x3072, .f32⟩
  | .local _ .vmem, ⟨13, _⟩ => ⟨S1x3072, .f32⟩
  | .local _ .vmem, ⟨14, _⟩ => ⟨S3072x768, .i8⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S1x768, .f32⟩
  | .local _ .vmem, ⟨19, _⟩ => ⟨S1x768x384, .i8⟩
  | .local _ .vmem, ⟨20, _⟩ => ⟨S1x768x384, .i8⟩
  | .local _ .vmem, ⟨21, _⟩ => ⟨S1x1x384, .f32⟩
  | .local _ .vmem, ⟨22, _⟩ => ⟨S1x1x384, .f32⟩
  | .local _ .vmem, ⟨23, _⟩ => ⟨S1x384x768, .i8⟩
  | .local _ .vmem, ⟨24, _⟩ => ⟨S1x384x768, .i8⟩
  | .local _ .vmem, ⟨25, _⟩ => ⟨S1x1x384, .f32⟩
  | .local _ .vmem, ⟨26, _⟩ => ⟨S1x1x384, .f32⟩
  | .local _ .vmem, ⟨27, _⟩ => ⟨S1x384x3072, .i8⟩
  | .local _ .vmem, ⟨28, _⟩ => ⟨S1x384x3072, .i8⟩
  | .local _ .vmem, ⟨29, _⟩ => ⟨S1x1x384, .f32⟩
  | .local _ .vmem, ⟨30, _⟩ => ⟨S1x1x384, .f32⟩
  | .local _ .vmem, ⟨31, _⟩ => ⟨S1x384x768, .f32⟩
  | .local _ .vmem, ⟨32, _⟩ => ⟨S1x384x768, .f32⟩
  | .local _ .vmem, ⟨33, _⟩ => ⟨S1x384x768, .i8⟩
  | .local _ .vmem, ⟨34, _⟩ => ⟨S1x384x768, .i8⟩
  | .local _ .vmem, ⟨35, _⟩ => ⟨S1x1x384, .f32⟩
  | .local _ .vmem, ⟨36, _⟩ => ⟨S1x1x384, .f32⟩
  | .local _ .vmem, ⟨37, _⟩ => ⟨S384x3072, .f32⟩
  | _, _ => ⟨S3x768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_v13_3 : Ref sig .tc := ⟨.hbm, 33, rfl⟩
abbrev main_v13_4 : Ref sig .tc := ⟨.hbm, 34, rfl⟩
abbrev main_v13_5 : Ref sig .tc := ⟨.hbm, 35, rfl⟩
abbrev main_v13_6 : Ref sig .tc := ⟨.hbm, 36, rfl⟩
abbrev main_v13_7 : Ref sig .tc := ⟨.hbm, 37, rfl⟩
abbrev main_v13_8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x3072 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3072x768 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x768x384 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x384x768 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x384x3072 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x384 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x384x768 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x384x768 .i8 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x384 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== TailRefIdeal.lean ====
abbrev S3x768x384 : Shape := ⟨3, ![3, 768, 384]⟩
abbrev S3x384x768 : Shape := ⟨3, ![3, 384, 768]⟩
abbrev S768 : Shape := ⟨1, ![768]⟩
abbrev S12x64x768 : Shape := ⟨3, ![12, 64, 768]⟩
abbrev S768x3072 : Shape := ⟨2, ![768, 3072]⟩
abbrev S3072 : Shape := ⟨1, ![3072]⟩
abbrev S3072x768 : Shape := ⟨2, ![3072, 768]⟩
abbrev S1152x768 : Shape := ⟨2, ![1152, 768]⟩
abbrev S1x768 : Shape := ⟨2, ![1, 768]⟩
abbrev S768x768 : Shape := ⟨2, ![768, 768]⟩
abbrev S1x3072 : Shape := ⟨2, ![1, 3072]⟩
abbrev S3x1x384 : Shape := ⟨3, ![3, 1, 384]⟩
abbrev S3x384x3072 : Shape := ⟨3, ![3, 384, 3072]⟩
abbrev S1152 : Shape := ⟨1, ![1152]⟩
abbrev S1152x1 : Shape := ⟨2, ![1152, 1]⟩
abbrev S1152x3072 : Shape := ⟨2, ![1152, 3072]⟩

abbrev nBuf : Space → Nat
  | .hbm => 42
  | .vmem => 26
  | .smem => 0
  | _ => 0

abbrev bufTy : (tb : Table) → Fin (tcTables nBuf tb) → BufTy
  | .hbm, ⟨0, _⟩ => ⟨S3x768x384, .f32⟩
  | .hbm, ⟨1, _⟩ => ⟨S3x384x768, .bf16⟩
  | .hbm, ⟨2, _⟩ => ⟨S768, .f32⟩
  | .hbm, ⟨3, _⟩ => ⟨S768, .f32⟩
  | .hbm, ⟨4, _⟩ => ⟨S12x64x768, .i8⟩
  | .hbm, ⟨5, _⟩ => ⟨S768, .f32⟩
  | .hbm, ⟨6, _⟩ => ⟨S768, .f32⟩
  | .hbm, ⟨7, _⟩ => ⟨S768x3072, .i8⟩
  | .hbm, ⟨8, _⟩ => ⟨S3072, .f32⟩
  | .hbm, ⟨9, _⟩ => ⟨S3072, .f32⟩
  | .hbm, ⟨10, _⟩ => ⟨S3072x768, .i8⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768, .f32⟩
  | .hbm, ⟨15, _⟩ => ⟨S768, .f32⟩
  | .hbm, ⟨16, _⟩ => ⟨S768, .f32⟩
  | .hbm, ⟨17, _⟩ => ⟨S3x384x768, .f32⟩
  | .hbm, ⟨18, _⟩ => ⟨S1152x768, .f32⟩
  | .hbm, ⟨19, _⟩ => ⟨S1152x768, .bf16⟩
  | .hbm, ⟨20, _⟩ => ⟨S1x768, .f32⟩
  | .hbm, ⟨21, _⟩ => ⟨S1x768, .f32⟩
  | .hbm, ⟨22, _⟩ => ⟨S768x768, .i8⟩
  | .hbm, ⟨23, _⟩ => ⟨S1x768, .f32⟩
  | .hbm, ⟨24, _⟩ => ⟨S1x768, .f32⟩
  | .hbm, ⟨25, _⟩ => ⟨S1x768, .f32⟩
  | .hbm, ⟨26, _⟩ => ⟨S1x768, .f32⟩
  | .hbm, ⟨27, _⟩ => ⟨S1x3072, .f32⟩
  | .hbm, ⟨28, _⟩ => ⟨S1x3072, .f32⟩
  | .hbm, ⟨29, _⟩ => ⟨S1x768, .f32⟩
  | .hbm, ⟨30, _⟩ => ⟨S1x768, .f32⟩
  | .hbm, ⟨31, _⟩ => ⟨S1x768, .f32⟩
  | .hbm, ⟨32, _⟩ => ⟨S1x768, .f32⟩
  | .hbm, ⟨33, _⟩ => ⟨S3x768x384, .i8⟩
  | .hbm, ⟨34, _⟩ => ⟨S3x1x384, .f32⟩
  | .hbm, ⟨35, _⟩ => ⟨S3x384x768, .i8⟩
  | .hbm, ⟨36, _⟩ => ⟨S3x1x384, .f32⟩
  | .hbm, ⟨37, _⟩ => ⟨S3x384x3072, .i8⟩
  | .hbm, ⟨38, _⟩ => ⟨S3x1x384, .f32⟩
  | .hbm, ⟨39, _⟩ => ⟨S3x384x768, .f32⟩
  | .hbm, ⟨40, _⟩ => ⟨S3x384x768, .i8⟩
  | .hbm, ⟨41, _⟩ => ⟨S3x1x384, .f32⟩
  | .local _ .vmem, ⟨0, _⟩ => ⟨S1152x768, .f32⟩
  | .local _ .vmem, ⟨1, _⟩ => ⟨S1152x768, .bf16⟩
  | .local _ .vmem, ⟨2, _⟩ => ⟨S1x768, .f32⟩
  | .local _ .vmem, ⟨3, _⟩ => ⟨S1x768, .f32⟩
  | .local _ .vmem, ⟨4, _⟩ => ⟨S768x768, .i8⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S768x3072, .i8⟩
  | .local _ .vmem, ⟨10, _⟩ => ⟨S1x3072, .f32⟩
  | .local _ .vmem, ⟨11, _⟩ => ⟨S1x3072, .f32⟩
  | .local _ .vmem, ⟨12, _⟩ => ⟨S3072x768, .i8⟩
  | .local _ .vmem, ⟨13, _⟩ => ⟨S1x768, .f32⟩
  | .local _ .vmem, ⟨14, _⟩ => ⟨S1x768, .f32⟩
  | .local _ .vmem, ⟨15, _⟩ => ⟨S1x768, .f32⟩
  | .local _ .vmem, ⟨16, _⟩ => ⟨S1x768, .f32⟩
  | .local _ .vmem, ⟨17, _⟩ => ⟨S3x768x384, .i8⟩
  | .local _ .vmem, ⟨18, _⟩ => ⟨S3x1x384, .f32⟩
  | .local _ .vmem, ⟨19, _⟩ => ⟨S3x384x768, .i8⟩
  | .local _ .vmem, ⟨20, _⟩ => ⟨S3x1x384, .f32⟩
  | .local _ .vmem, ⟨21, _⟩ => ⟨S3x384x3072, .i8⟩
  | .local _ .vmem, ⟨22, _⟩ => ⟨S3x1x384, .f32⟩
  | .local _ .vmem, ⟨23, _⟩ => ⟨S3x384x768, .f32⟩
  | .local _ .vmem, ⟨24, _⟩ => ⟨S3x384x768, .i8⟩
  | .local _ .vmem, ⟨25, _⟩ => ⟨S3x1x384, .f32⟩
  | _, _ => ⟨S3x768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v16_5 : Ref sig .tc := ⟨.hbm, 38, rfl⟩
abbrev main_v16_6 : Ref sig .tc := ⟨.hbm, 39, rfl⟩
abbrev main_v16_7 : Ref sig .tc := ⟨.hbm, 40, rfl⟩
abbrev main_v16_8 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

abbrev stage0_0 : Fin 1 → Memref sig .tc .vmem S1152x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x3072 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3072x768 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x768x384 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x384x768 .i8 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x1x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x384x3072 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S3x1x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x384x768 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S3x384x768 .i8 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S3x1x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== Rel.lean ====
abbrev S512x768 : Shape := ⟨2, ![512, 768]⟩
abbrev S512 : Shape := ⟨1, ![512]⟩
abbrev S768x2304 : Shape := ⟨2, ![768, 2304]⟩
abbrev S2304 : Shape := ⟨1, ![2304]⟩
abbrev S767 : Shape := ⟨1, ![767]⟩
abbrev S18x128 : Shape := ⟨2, ![18, 128]⟩
abbrev S_ : Shape := ⟨0, ![]⟩
abbrev S1 : Shape := ⟨1, ![1]⟩
abbrev S768 : Shape := ⟨1, ![768]⟩
abbrev S1x768 : Shape := ⟨2, ![1, 768]⟩
abbrev S1x512 : Shape := ⟨2, ![1, 512]⟩
abbrev S768x512 : Shape := ⟨2, ![768, 512]⟩
abbrev S12x512 : Shape := ⟨2, ![12, 512]⟩
abbrev S768x768 : Shape := ⟨2, ![768, 768]⟩
abbrev S12x768 : Shape := ⟨2, ![12, 768]⟩
abbrev S12x672x256 : Shape := ⟨3, ![12, 672, 256]⟩
abbrev S768x384 : Shape := ⟨2, ![768, 384]⟩
abbrev S384x768 : Shape := ⟨2, ![384, 768]⟩
abbrev S384x512 : Shape := ⟨2, ![384, 512]⟩
abbrev S1x128 : Shape := ⟨2, ![1, 128]⟩
abbrev S128x128 : Shape := ⟨2, ![128, 128]⟩
abbrev S64x1 : Shape := ⟨2, ![64, 1]⟩
abbrev S64x512 : Shape := ⟨2, ![64, 512]⟩
abbrev S768x128 : Shape := ⟨2, ![768, 128]⟩
abbrev S768x1 : Shape := ⟨2, ![768, 1]⟩
abbrev S672x128 : Shape := ⟨2, ![672, 128]⟩
abbrev S1x672x128 : Shape := ⟨3, ![1, 672, 128]⟩

abbrev nBuf : Space → Nat
  | .hbm => 26
  | .vmem => 15
  | .smem => 0
  | _ => 0

abbrev bufTy : (tb : Table) → Fin (tcTables nBuf tb) → BufTy
  | .hbm, ⟨0, _⟩ => ⟨S512x768, .i8⟩
  | .hbm, ⟨1, _⟩ => ⟨S512, .f32⟩
  | .hbm, ⟨2, _⟩ => ⟨S768x2304, .i8⟩
  | .hbm, ⟨3, _⟩ => ⟨S2304, .f32⟩
  | .hbm, ⟨4, _⟩ => ⟨S2304, .f32⟩
  | .hbm, ⟨5, _⟩ => ⟨S767, .i32⟩
  | .hbm, ⟨6, _⟩ => ⟨S18x128, .f32⟩
  | .hbm, ⟨7, _⟩ => ⟨S18x128, .f32⟩
  | .hbm, ⟨8, _⟩ => ⟨S_, .i32⟩
  | .hbm, ⟨9, _⟩ => ⟨S1, .i32⟩
  | .hbm, ⟨10, _⟩ => ⟨S768, .i32⟩
  | .hbm, ⟨11, _⟩ => ⟨S1x768, .i32⟩
  | .hbm, ⟨12, _⟩ => ⟨S767, .i32⟩
  | .hbm, ⟨13, _⟩ => ⟨S_, .i32⟩
  | .hbm, ⟨14, _⟩ => ⟨S1, .i32⟩
  | .hbm, ⟨15, _⟩ => ⟨S768, .i32⟩
  | .hbm, ⟨16, _⟩ => ⟨S1x768, .i32⟩
  | .hbm, ⟨17, _⟩ => ⟨S1x512, .f32⟩
  | .hbm, ⟨18, _⟩ => ⟨S768x512, .i8⟩
  | .hbm, ⟨19, _⟩ => ⟨S12x512, .f32⟩
  | .hbm, ⟨20, _⟩ => ⟨S768x512, .i8⟩
  | .hbm, ⟨21, _⟩ => ⟨S12x512, .f32⟩
  | .hbm, ⟨22, _⟩ => ⟨S768x768, .bf16⟩
  | .hbm, ⟨23, _⟩ => ⟨S12x768, .f32⟩
  | .hbm, ⟨24, _⟩ => ⟨S12x672x256, .bf16⟩
  | .hbm, ⟨25, _⟩ => ⟨S12x768, .f32⟩
  | .local _ .vmem, ⟨0, _⟩ => ⟨S512x768, .i8⟩
  | .local _ .vmem, ⟨1, _⟩ => ⟨S1x512, .f32⟩
  | .local _ .vmem, ⟨2, _⟩ => ⟨S768x2304, .i8⟩
  | .local _ .vmem, ⟨3, _⟩ => ⟨S18x128, .f32⟩
  | .local _ .vmem, ⟨4, _⟩ => ⟨S18x128, .f32⟩
  | .local _ .vmem, ⟨5, _⟩ => ⟨S1x768, .i32⟩
  | .local _ .vmem, ⟨6, _⟩ => ⟨S1x768, .i32⟩
  | .local _ .vmem, ⟨7, _⟩ => ⟨S768x512, .i8⟩
  | .local _ .vmem, ⟨8, _⟩ => ⟨S12x512, .f32⟩
  | .local _ .vmem, ⟨9, _⟩ => ⟨S768x512, .i8⟩
  | .local _ .vmem, ⟨10, _⟩ => ⟨S12x512, .f32⟩
  | .local _ .vmem, ⟨11, _⟩ => ⟨S768x768, .bf16⟩
  | .local _ .vmem, ⟨12, _⟩ => ⟨S12x768, .f32⟩
  | .local _ .vmem, ⟨13, _⟩ => ⟨S12x672x256, .bf16⟩
  | .local _ .vmem, ⟨14, _⟩ => ⟨S12x768, .f32⟩
  | _, _ => ⟨S512x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_v10_7 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S512x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x2304 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x512 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x512 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S768x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x672x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== RelRefIdeal.lean ====
abbrev S512x768 : Shape := ⟨2, ![512, 768]⟩
abbrev S512 : Shape := ⟨1, ![512]⟩
abbrev S768x2304 : Shape := ⟨2, ![768, 2304]⟩
abbrev S2304 : Shape := ⟨1, ![2304]⟩
abbrev S767 : Shape := ⟨1, ![767]⟩
abbrev S1x512 : Shape := ⟨2, ![1, 512]⟩
abbrev S768x1536 : Shape := ⟨2, ![768, 1536]⟩
abbrev S1536 : Shape := ⟨1, ![1536]⟩
abbrev S1x1536 : Shape := ⟨2, ![1, 1536]⟩
abbrev S768x512 : Shape := ⟨2, ![768, 512]⟩
abbrev S12x512 : Shape := ⟨2, ![12, 512]⟩
abbrev S512x1536 : Shape := ⟨2, ![512, 1536]⟩
abbrev S512x1 : Shape := ⟨2, ![512, 1]⟩
abbrev S512x2x12x64 : Shape := ⟨4, ![512, 2, 12, 64]⟩
abbrev S512x1x12x64 : Shape := ⟨4, ![512, 1, 12, 64]⟩
abbrev S512x12x64 : Shape := ⟨3, ![512, 12, 64]⟩
abbrev S512x12 : Shape := ⟨2, ![512, 12]⟩
abbrev S512x12x1 : Shape := ⟨3, ![512, 12, 1]⟩
abbrev S12x64x512 : Shape := ⟨3, ![12, 64, 512]⟩

abbrev nBuf : Space → Nat
  | .hbm => 16
  | .vmem => 9
  | .smem => 0
  | _ => 0

abbrev bufTy : (tb : Table) → Fin (tcTables nBuf tb) → BufTy
  | .hbm, ⟨0, _⟩ => ⟨S512x768, .i8⟩
  | .hbm, ⟨1, _⟩ => ⟨S512, .f32⟩
  | .hbm, ⟨2, _⟩ => ⟨S768x2304, .i8⟩
  | .hbm, ⟨3, _⟩ => ⟨S2304, .f32⟩
  | .hbm, ⟨4, _⟩ => ⟨S2304, .f32⟩
  | .hbm, ⟨5, _⟩ => ⟨S767, .i32⟩
  | .hbm, ⟨6, _⟩ => ⟨S1x512, .f32⟩
  | .hbm, ⟨7, _⟩ => ⟨S768x1536, .i8⟩
  | .hbm, ⟨8, _⟩ => ⟨S1536, .f32⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S768x512, .i8⟩
  | .hbm, ⟨13, _⟩ => ⟨S12x512, .f32⟩
  | .hbm, ⟨14, _⟩ => ⟨S768x512, .i8⟩
  | .hbm, ⟨15, _⟩ => ⟨S12x512, .f32⟩
  | .local _ .vmem, ⟨0, _⟩ => ⟨S512x768, .i8⟩
  | .local _ .vmem, ⟨1, _⟩ => ⟨S1x512, .f32⟩
  | .local _ .vmem, ⟨2, _⟩ => ⟨S768x1536, .i8⟩
  | .local _ .vmem, ⟨3, _⟩ => ⟨S1x1536, .f32⟩
  | .local _ .vmem, ⟨4, _⟩ => ⟨S1x1536, .f32⟩
  | .local _ .vmem, ⟨5, _⟩ => ⟨S768x512, .i8⟩
  | .local _ .vmem, ⟨6, _⟩ => ⟨S12x512, .f32⟩
  | .local _ .vmem, ⟨7, _⟩ => ⟨S768x512, .i8⟩
  | .local _ .vmem, ⟨8, _⟩ => ⟨S12x512, .f32⟩
  | _, _ => ⟨S512x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S512x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x512 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x512 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.BitsRun.lean ====
/- The run of the body of the tail kernel as written at one grid point: from the input blocks, any output staging memory and any scratch,
   the body runs to its end and leaves each output's memory with the pieces its stores wrote. -/
module

public import proofs.«01_k».proof.Proof.Gen.Tail.Frame.Runs

@[expose] public section

-- membership in a rectangle of production extents (`View.cover_of_tiled`): the elaborator's structural look
-- recurses once per coordinate of the long axes
set_option maxRecDepth 16384

noncomputable section

namespace Cert.Tail.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) :
    Σ' (L17 : List (View.Piece (Elt F) S1x768x384 .i8)), Σ' (L18 : List (View.Piece (Elt F) S1x1x384 .f32)), Σ' (L19 : List (View.Piece (Elt F) S1x384x768 .i8)), Σ' (L20 : List (View.Piece (Elt F) S1x1x384 .f32)), Σ' (L21 : List (View.Piece (Elt F) S1x384x3072 .i8)), Σ' (L22 : List (View.Piece (Elt F) S1x1x384 .f32)), Σ' (L23 : List (View.Piece (Elt F) S1x384x768 .f32)), Σ' (L24 : List (View.Piece (Elt F) S1x384x768 .i8)), Σ' (L25 : List (View.Piece (Elt F) S1x1x384 .f32)), { LT0 : List (View.Piece (Elt F) S384x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0)) -∗ K ⟨⟩))
          ⊢ wp frame (wpE (defs₀ (F := F)) Variants.none c none) E (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, fun E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.Tail.Gen

end
-- ==== Proof.BitsFrame.lean ====
/- The frame of the tail kernel as written: what each output's staging memory holds after a grid point, the pipelined
   run over the three grid points, and the frame claim. -/
module

public import proofs.«01_k».proof.Proof.BitsRun
public import Idealize.ShloMosaic.Lib.Claim

@[expose] public section

-- membership in a rectangle of production extents (`View.cover_of_tiled`): the elaborator's structural look
-- recurses once per coordinate of the long axes
set_option maxRecDepth 16384

noncomputable section

namespace Cert.Tail.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 17 tile its block (1 store of `S1x768x384`, checked by the kernel's evaluation: Lib/Ring.lean `Piece.tiledL`, linear in the pieces, through a loop's `@[irreducible]` trip theorem too), so they cover it. -/
theorem cover0_A_17 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x768x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1 S1x768x384.size (by sl_kernel_rfl) y

/-- What the run leaves in output 17's staging buffer: its pieces read back over junk. -/
def out0_A_17 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x768x384 .i8 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1)

/-- The run's pieces for output 18 tile its block (1 store of `S1x1x384`, checked by the kernel's evaluation: Lib/Ring.lean `Piece.tiledL`, linear in the pieces, through a loop's `@[irreducible]` trip theorem too), so they cover it. -/
theorem cover0_A_18 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1 S1x1x384.size (by sl_kernel_rfl) y

/-- What the run leaves in output 18's staging buffer: its pieces read back over junk. -/
def out0_A_18 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x1x384 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1)

/-- The run's pieces for output 19 tile its block (1 store of `S1x384x768`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x384x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1 S1x384x768.size (by sl_kernel_rfl) y

/-- What the run leaves in output 19's staging buffer: its pieces read back over junk. -/
def out0_A_19 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x384x768 .i8 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1)

/-- The run's pieces for output 20 tile its block (1 store of `S1x1x384`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1 S1x1x384.size (by sl_kernel_rfl) y

/-- What the run leaves in output 20's staging buffer: its pieces read back over junk. -/
def out0_A_20 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x1x384 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1)

/-- The run's pieces for output 21 tile its block (6 stores of `S1x384x512`, checked by the kernel's evaluation: Lib/Ring.lean `Piece.tiledL`, linear in the pieces, through a loop's `@[irreducible]` trip theorem too), so they cover it. -/
theorem cover0_A_21 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x384x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1 S1x384x512.size (by sl_kernel_rfl) y

/-- What the run leaves in output 21's staging buffer: its pieces read back over junk. -/
def out0_A_21 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x384x3072 .i8 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1)

/-- The run's pieces for output 22 tile its block (1 store of `S1x1x384`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1 S1x1x384.size (by sl_kernel_rfl) y

/-- What the run leaves in output 22's staging buffer: its pieces read back over junk. -/
def out0_A_22 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x1x384 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1)

/-- The run's pieces for output 23 tile its block (1 store of `S1x384x768`, checked by the kernel's evaluation: Lib/Ring.lean `Piece.tiledL`, linear in the pieces, through a loop's `@[irreducible]` trip theorem too), so they cover it. -/
theorem cover0_A_23 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x384x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.1 S1x384x768.size (by sl_kernel_rfl) y

/-- What the run leaves in output 23's staging buffer: its pieces read back over junk. -/
def out0_A_23 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x384x768 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.1)

/-- The run's pieces for output 24 tile its block (1 store of `S1x384x768`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x384x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.1 S1x384x768.size (by sl_kernel_rfl) y

/-- What the run leaves in output 24's staging buffer: its pieces read back over junk. -/
def out0_A_24 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x384x768 .i8 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.1)

/-- The run's pieces for output 25 tile its block (1 store of `S1x1x384`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.2.1 S1x1x384.size (by sl_kernel_rfl) y

/-- What the run leaves in output 25's staging buffer: its pieces read back over junk. -/
def out0_A_25 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x1x384 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x768x384 .i8 × Vec F S1x1x384 .f32 × Vec F S1x384x768 .i8 × Vec F S1x1x384 .f32 × Vec F S1x384x3072 .i8 × Vec F S1x1x384 .f32 × Vec F S1x384x768 .f32 × Vec F S1x384x768 .i8 × Vec F S1x1x384 .f32 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2.1
    | ⟨21, _⟩ => (outsAt0 m c t).2.2.2.2.1
    | ⟨22, _⟩ => (outsAt0 m c t).2.2.2.2.2.1
    | ⟨23, _⟩ => (outsAt0 m c t).2.2.2.2.2.2.1
    | ⟨24, _⟩ => (outsAt0 m c t).2.2.2.2.2.2.2.1
    | ⟨25, _⟩ => (outsAt0 m c t).2.2.2.2.2.2.2.2
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2.1 := by dsimp only [dats]
theorem after0_21 (c : Dev nD) (t : Fin cfg0.N) : (dats m 0 c).after 21 t = (outsAt0 m c t).2.2.2.2.1 := by dsimp only [dats]
theorem after0_22 (c : Dev nD) (t : Fin cfg0.N) : (dats m 0 c).after 22 t = (outsAt0 m c t).2.2.2.2.2.1 := by dsimp only [dats]
theorem after0_23 (c : Dev nD) (t : Fin cfg0.N) : (dats m 0 c).after 23 t = (outsAt0 m c t).2.2.2.2.2.2.1 := by dsimp only [dats]
theorem after0_24 (c : Dev nD) (t : Fin cfg0.N) : (dats m 0 c).after 24 t = (outsAt0 m c t).2.2.2.2.2.2.2.1 := by dsimp only [dats]
theorem after0_25 (c : Dev nD) (t : Fin cfg0.N) : (dats m 0 c).after 25 t = (outsAt0 m c t).2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outsAt0
  unfold out0_A_17 out0_A_18 out0_A_19 out0_A_20 out0_A_21 out0_A_22 out0_A_23 out0_A_24 out0_A_25; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_Tail`'s statement (Defs.lean) at any `F` — Proof.lean cites it at `Bits`:
    `theorem Cert.Proof.claim : Cert.Claim := ⟨Cert.Tail.Gen.facts, fun m ρ _ => Cert.Tail.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Tail.Gen

end
-- ==== Proof.TailRun.lean ====
/- The run of the tail kernel's body at one grid point: from the input blocks, any output staging memory and any scratch,
   the body runs to its end and leaves each output's memory with the pieces its stores wrote. -/
module

public import proofs.«01_k».proof.Proof.Gen.TailIdeal.Frame.Runs

@[expose] public section

-- membership in a rectangle of production extents (`View.cover_of_tiled`): the elaborator's structural look
-- recurses once per coordinate of the long axes
set_option maxRecDepth 16384

noncomputable section

namespace Cert.TailIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) :
    Σ' (L17 : List (View.Piece (Elt F) S1x768x384 .i8)), Σ' (L18 : List (View.Piece (Elt F) S1x1x384 .f32)), Σ' (L19 : List (View.Piece (Elt F) S1x384x768 .i8)), Σ' (L20 : List (View.Piece (Elt F) S1x1x384 .f32)), Σ' (L21 : List (View.Piece (Elt F) S1x384x3072 .i8)), Σ' (L22 : List (View.Piece (Elt F) S1x1x384 .f32)), Σ' (L23 : List (View.Piece (Elt F) S1x384x768 .f32)), Σ' (L24 : List (View.Piece (Elt F) S1x384x768 .i8)), Σ' (L25 : List (View.Piece (Elt F) S1x1x384 .f32)), { LT0 : List (View.Piece (Elt F) S384x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0)) -∗ K ⟨⟩))
          ⊢ wp frame (wpE (defs₀ (F := F)) Variants.none c none) E (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, fun E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.TailIdeal.Gen

end
-- ==== Proof.TailFrame.lean ====
/- The frame of the tail kernel over the reals: what each output's staging memory holds after a grid point, the pipelined
   run over the three grid points, and the frame claim. -/
module

public import proofs.«01_k».proof.Proof.TailRun
public import Idealize.ShloMosaic.Lib.Claim

@[expose] public section

-- membership in a rectangle of production extents (`View.cover_of_tiled`): the elaborator's structural look
-- recurses once per coordinate of the long axes
set_option maxRecDepth 16384

noncomputable section

namespace Cert.TailIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 17 tile its block (1 store of `S1x768x384`, checked by the kernel's evaluation: Lib/Ring.lean `Piece.tiledL`, linear in the pieces, through a loop's `@[irreducible]` trip theorem too), so they cover it. -/
theorem cover0_A_17 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x768x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1 S1x768x384.size (by sl_kernel_rfl) y

/-- What the run leaves in output 17's staging buffer: its pieces read back over junk. -/
def out0_A_17 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x768x384 .i8 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).1)

/-- The run's pieces for output 18 tile its block (1 store of `S1x1x384`, checked by the kernel's evaluation: Lib/Ring.lean `Piece.tiledL`, linear in the pieces, through a loop's `@[irreducible]` trip theorem too), so they cover it. -/
theorem cover0_A_18 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1 S1x1x384.size (by sl_kernel_rfl) y

/-- What the run leaves in output 18's staging buffer: its pieces read back over junk. -/
def out0_A_18 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x1x384 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.1)

/-- The run's pieces for output 19 tile its block (1 store of `S1x384x768`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x384x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1 S1x384x768.size (by sl_kernel_rfl) y

/-- What the run leaves in output 19's staging buffer: its pieces read back over junk. -/
def out0_A_19 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x384x768 .i8 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.1)

/-- The run's pieces for output 20 tile its block (1 store of `S1x1x384`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1 S1x1x384.size (by sl_kernel_rfl) y

/-- What the run leaves in output 20's staging buffer: its pieces read back over junk. -/
def out0_A_20 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x1x384 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.1)

/-- The run's pieces for output 21 tile its block (6 stores of `S1x384x512`, checked by the kernel's evaluation: Lib/Ring.lean `Piece.tiledL`, linear in the pieces, through a loop's `@[irreducible]` trip theorem too), so they cover it. -/
theorem cover0_A_21 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x384x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1 S1x384x512.size (by sl_kernel_rfl) y

/-- What the run leaves in output 21's staging buffer: its pieces read back over junk. -/
def out0_A_21 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x384x3072 .i8 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.1)

/-- The run's pieces for output 22 tile its block (1 store of `S1x1x384`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1 S1x1x384.size (by sl_kernel_rfl) y

/-- What the run leaves in output 22's staging buffer: its pieces read back over junk. -/
def out0_A_22 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x1x384 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.1)

/-- The run's pieces for output 23 tile its block (1 store of `S1x384x768`, checked by the kernel's evaluation: Lib/Ring.lean `Piece.tiledL`, linear in the pieces, through a loop's `@[irreducible]` trip theorem too), so they cover it. -/
theorem cover0_A_23 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x384x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.1 S1x384x768.size (by sl_kernel_rfl) y

/-- What the run leaves in output 23's staging buffer: its pieces read back over junk. -/
def out0_A_23 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x384x768 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.1)

/-- The run's pieces for output 24 tile its block (1 store of `S1x384x768`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x384x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.1 S1x384x768.size (by sl_kernel_rfl) y

/-- What the run leaves in output 24's staging buffer: its pieces read back over junk. -/
def out0_A_24 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x384x768 .i8 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.1)

/-- The run's pieces for output 25 tile its block (1 store of `S1x1x384`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) (y : S1x1x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.2.1 S1x1x384.size (by sl_kernel_rfl) y

/-- What the run leaves in output 25's staging buffer: its pieces read back over junk. -/
def out0_A_25 (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec F S1x768x384 .f32) (x1 : Vec F S1x384x768 .bf16) (x2 : Vec F S1x768 .f32) (x3 : Vec F S1x768 .f32) (x4 : Vec F S768x768 .i8) (x5 : Vec F S1x768 .f32) (x6 : Vec F S1x768 .f32) (x7 : Vec F S1x768 .f32) (x8 : Vec F S1x768 .f32) (x9 : Vec F S768x3072 .i8) (x10 : Vec F S1x3072 .f32) (x11 : Vec F S1x3072 .f32) (x12 : Vec F S3072x768 .i8) (x13 : Vec F S1x768 .f32) (x14 : Vec F S1x768 .f32) (x15 : Vec F S1x768 .f32) (x16 : Vec F S1x768 .f32) : Vec F S1x1x384 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16).2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x768x384 .i8 × Vec F S1x1x384 .f32 × Vec F S1x384x768 .i8 × Vec F S1x1x384 .f32 × Vec F S1x384x3072 .i8 × Vec F S1x1x384 .f32 × Vec F S1x384x768 .f32 × Vec F S1x384x768 .i8 × Vec F S1x1x384 .f32 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t).1
    | ⟨18, _⟩ => (outsAt0 m c t).2.1
    | ⟨19, _⟩ => (outsAt0 m c t).2.2.1
    | ⟨20, _⟩ => (outsAt0 m c t).2.2.2.1
    | ⟨21, _⟩ => (outsAt0 m c t).2.2.2.2.1
    | ⟨22, _⟩ => (outsAt0 m c t).2.2.2.2.2.1
    | ⟨23, _⟩ => (outsAt0 m c t).2.2.2.2.2.2.1
    | ⟨24, _⟩ => (outsAt0 m c t).2.2.2.2.2.2.2.1
    | ⟨25, _⟩ => (outsAt0 m c t).2.2.2.2.2.2.2.2
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t).1 := by dsimp only [dats]
theorem after0_18 (c : Dev nD) (t : Fin cfg0.N) : (dats m 0 c).after 18 t = (outsAt0 m c t).2.1 := by dsimp only [dats]
theorem after0_19 (c : Dev nD) (t : Fin cfg0.N) : (dats m 0 c).after 19 t = (outsAt0 m c t).2.2.1 := by dsimp only [dats]
theorem after0_20 (c : Dev nD) (t : Fin cfg0.N) : (dats m 0 c).after 20 t = (outsAt0 m c t).2.2.2.1 := by dsimp only [dats]
theorem after0_21 (c : Dev nD) (t : Fin cfg0.N) : (dats m 0 c).after 21 t = (outsAt0 m c t).2.2.2.2.1 := by dsimp only [dats]
theorem after0_22 (c : Dev nD) (t : Fin cfg0.N) : (dats m 0 c).after 22 t = (outsAt0 m c t).2.2.2.2.2.1 := by dsimp only [dats]
theorem after0_23 (c : Dev nD) (t : Fin cfg0.N) : (dats m 0 c).after 23 t = (outsAt0 m c t).2.2.2.2.2.2.1 := by dsimp only [dats]
theorem after0_24 (c : Dev nD) (t : Fin cfg0.N) : (dats m 0 c).after 24 t = (outsAt0 m c t).2.2.2.2.2.2.2.1 := by dsimp only [dats]
theorem after0_25 (c : Dev nD) (t : Fin cfg0.N) : (dats m 0 c).after 25 t = (outsAt0 m c t).2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outsAt0
  unfold out0_A_17 out0_A_18 out0_A_19 out0_A_20 out0_A_21 out0_A_22 out0_A_23 out0_A_24 out0_A_25; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_TailIdeal`'s statement (Defs.lean) at any `F` — Proof.lean cites it at `Bits`:
    `theorem Cert.Proof.claim : Cert.Claim := ⟨Cert.TailIdeal.Gen.facts, fun m ρ _ => Cert.TailIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.TailIdeal.Gen

end
-- ==== Proof.Rows.lean ====
/- The arithmetic of one row, over the extended reals: layer normalisation, the symmetric eight-bit
   quantiser (scale, rounding, clipping), a quantised linear layer, and the two rearrangements of it
   the tiled program makes: multiplying by the reciprocal of the standard deviation instead of
   dividing by it, and taking a maximum or a sum chunk by chunk. -/
module

public import Idealize.ShloMosaic.Lib.Pointwise
public import Idealize.ShloMosaic.Lib.IdealHost
public import Idealize.ShloMosaic.Lib.WordCmp

@[expose] public section

noncomputable section

namespace Cert.Rows

open Idealize.ShloMosaic Idealize.ShloMosaic.WordCmp

/-- The mean of a row of 768 entries. -/
def mean (v : Fin 768 → EReal) : EReal := Ideal.div (∑ k, v k) (Ideal.ofBits .f32 0x44400000#32)

/-- The mean square distance of a row from its mean. -/
def var (v : Fin 768 → EReal) : EReal :=
  Ideal.div (∑ k, (v k - mean v) * (v k - mean v)) (Ideal.ofBits .f32 0x44400000#32)

/-- The standard deviation with the variance's small constant. -/
def sd (v : Fin 768 → EReal) : EReal := Ideal.sqrt (var v + Ideal.ofBits .f32 0x33D6BF95#32)

/-- Layer normalisation of a row, scaled by `g` and shifted by `b`. -/
def ln (v g b : Fin 768 → EReal) (j : Fin 768) : EReal := Ideal.div (v j - mean v) (sd v) * g j + b j

/-- The absolute value. -/
def ab (x : EReal) : EReal := max x (-x)

theorem absf_eq (x : Ideal .f32) : FloatOps.absf x = ab x := rfl

/-- The largest absolute value of a row. -/
def amax {n : ℕ} (v : Fin n → EReal) : EReal :=
  Finset.univ.fold max (Ideal.ofBits .f32 0xFF800000#32) fun k => ab (v k)

/-- The scale of a row whose largest absolute value is `a`: `a / 127`, and one for a row of zeros. -/
def scaleOf (a : EReal) : EReal := if a = 0 then 1 else Ideal.div a (Ideal.ofBits .f32 0x42FE0000#32)

/-- A row's quantisation scale. -/
def scale {n : ℕ} (v : Fin n → EReal) : EReal := scaleOf (amax v)

/-- An entry divided by its scale, rounded half to even. -/
def rnd (x s : EReal) : EReal := Ideal.liftRound Ideal.roundHalfEven (Ideal.div x s)

/-- The rounded quotient clipped to `[-127, 127]`, as a number. -/
def clip (x : EReal) : EReal := min (((127#32).toInt : ℝ) : EReal) (max (((4294967169#32).toInt : ℝ) : EReal) x)

/-- An entry's code as a number. -/
def q (x s : EReal) : EReal := clip (rnd x s)

/-- An entry's code as a signed byte. -/
def code (x s : EReal) : BitVec 8 := FloatOps.fptosi (F := Ideal) (φ := .f32) 8 (q x s)

/-- A signed byte as a number. -/
def num (b : BitVec 8) : EReal := ((b.toInt : ℝ) : EReal)

theorem clip_coe (n : ℤ) : ∃ k : ℤ, -127 ≤ k ∧ k ≤ 127 ∧ clip ((n : ℝ) : EReal) = ((k : ℝ) : EReal) := by
  refine ⟨min 127 (max (-127) n), by omega, by omega, ?_⟩
  have h1 : (127#32).toInt = 127 := by decide
  have h2 : (4294967169#32).toInt = -127 := by decide
  rw [clip, h1, h2]
  have e : (((min 127 (max (-127) n) : ℤ) : ℝ) : EReal) = min ((127 : ℝ) : EReal) (max ((-127 : ℝ) : EReal) ((n : ℝ) : EReal)) := by
    push_cast
    rw [EReal.coe_strictMono.monotone.map_min, EReal.coe_strictMono.monotone.map_max]
    norm_num
  rw [e]
  norm_num

/-- A rounded and clipped number is an integer between -127 and 127. -/
theorem q_int (x s : EReal) : ∃ k : ℤ, -127 ≤ k ∧ k ≤ 127 ∧ q x s = ((k : ℝ) : EReal) := by
  have h1 : (127#32).toInt = 127 := by decide
  have h2 : (4294967169#32).toInt = -127 := by decide
  unfold q rnd
  induction Ideal.div x s with
  | bot =>
    refine ⟨-127, by omega, by omega, ?_⟩
    rw [Ideal.liftRound_bot, clip, h1, h2, max_eq_left bot_le, min_eq_right]
    exact EReal.coe_le_coe_iff.2 (by norm_num)
  | top =>
    refine ⟨127, by omega, by omega, ?_⟩
    rw [Ideal.liftRound_top, clip, h1, h2, max_eq_right le_top, min_eq_left le_top]
  | coe r => rw [Ideal.liftRound_coe]; exact clip_coe _

/-- Going through the signed byte loses nothing: the code's number is the clipped rounded quotient. -/
theorem num_code (x s : EReal) : num (code x s) = q x s := by
  obtain ⟨k, h1, h2, hk⟩ := q_int x s
  have e : code x s = BitVec.ofInt 8 k := by
    show Ideal.fptosi 8 (q x s) = _
    rw [hk, Ideal.fptosi, Ideal.toIntClamped_coe]
    congr 1
    have hf : (if (0 : ℝ) ≤ (k : ℝ) then ⌊(k : ℝ)⌋ else ⌈(k : ℝ)⌉) = k := by split <;> simp
    rw [hf]
    norm_num
    omega
  rw [num, e, hk, BitVec.toInt_ofInt]
  congr 2
  rw [Int.bmod_def]
  split <;> omega

theorem ofBits_768 : Ideal.ofBits .f32 0x44400000#32 = ((768 : ℝ) : EReal) := by
  simp [Ideal.ofBits, Ideal.ieee, -EReal.coe_mul]; norm_num

theorem ofBits_ninf : Ideal.ofBits .f32 0xFF800000#32 = ⊥ := by
  simp [Ideal.ofBits, Ideal.ieee, -EReal.coe_mul]

theorem ofBits_eps_pos : 0 < Ideal.ofBits .f32 0x33D6BF95#32 := by
  simp [Ideal.ofBits, Ideal.ieee, -EReal.coe_mul]

theorem mul_self_nonneg' (x : EReal) : 0 ≤ x * x := by
  induction x with
  | bot => simp
  | top => simp
  | coe r => rw [← EReal.coe_mul]; exact EReal.coe_nonneg.2 (mul_self_nonneg r)

theorem var_nonneg (v : Fin 768 → EReal) : 0 ≤ var v := by
  unfold var
  rw [ofBits_768, Ideal.div, if_neg (by norm_num)]
  refine mul_nonneg (Finset.sum_nonneg fun k _ => mul_self_nonneg' _) ?_
  rw [← EReal.coe_inv]
  exact EReal.coe_nonneg.2 (by norm_num)

theorem sqrt_pos {x : EReal} (h : 0 < x) : 0 < Ideal.sqrt x := by
  induction x with
  | bot => simp at h
  | top => exact h
  | coe r =>
    have h' : 0 < r := EReal.coe_pos.1 h
    show 0 < (if r < 0 then ⊥ else (Real.sqrt r : EReal))
    rw [if_neg (not_lt.2 h'.le)]
    exact EReal.coe_pos.2 (Real.sqrt_pos.2 h')

/-- The standard deviation is never zero. -/
theorem sd_ne_zero (v : Fin 768 → EReal) : sd v ≠ 0 :=
  (sqrt_pos (lt_of_lt_of_le ofBits_eps_pos (by simpa using add_le_add_left (var_nonneg v) _))).ne'

/-- Multiplying by the reciprocal of the standard deviation is dividing by it. -/
theorem mul_recip (c s : EReal) (h : s ≠ 0) : c * Ideal.div 1 s = Ideal.div c s := by
  rw [Ideal.div, Ideal.div, if_neg h, if_neg h, one_mul]

/-- The tiled program's layer normalisation of a row. -/
theorem ln_recip (v g b : Fin 768 → EReal) (j : Fin 768) :
    (v j - mean v) * Ideal.div 1 (sd v) * g j + b j = ln v g b j := by
  rw [mul_recip _ _ (sd_ne_zero v)]; rfl

theorem ab_nonneg (x : EReal) : 0 ≤ ab x := by
  unfold ab
  rcases le_total 0 x with h | h
  · exact le_max_of_le_left h
  · exact le_max_of_le_right (EReal.neg_nonneg.2 h)

theorem le_amax {n : ℕ} (v : Fin n → EReal) (k : Fin n) : ab (v k) ≤ amax v :=
  Finset.le_fold_max (ab (v k)) |>.2 (.inr ⟨k, Finset.mem_univ _, le_rfl⟩)

theorem amax_le {n : ℕ} (v : Fin n → EReal) (c : EReal) : amax v ≤ c ↔ ∀ k, ab (v k) ≤ c := by
  unfold amax
  rw [Finset.fold_max_le, ofBits_ninf]
  simp

/-- A linear layer on quantised operands: the product of the codes, times the row's scale and the
    output column's scale, plus the bias. -/
def lin {n m : ℕ} (c : Fin n → EReal) (s : EReal) (w : Fin n → Fin m → BitVec 8) (sw b : Fin m → EReal) (j : Fin m) : EReal :=
  (∑ k, c k * num (w k j)) * s * sw j + b j

/-- The activation between the two feed-forward layers. -/
def gelu (f : EReal) : EReal :=
  Ideal.ofBits .f32 0x3F000000#32 * f * (1 + Ideal.erf (Ideal.div f (Ideal.ofBits .f32 0x3FB504F3#32)))

/-- Entry `512 * c + k` of a row of 3072. -/
def at512 (c : Fin 6) (k : Fin 512) : Fin 3072 := ⟨512 * c + k, by omega⟩

/-- The row's chunks of 512. -/
def chunk (v : Fin 3072 → EReal) (c : Fin 6) (k : Fin 512) : EReal := v (at512 c k)

theorem exists_at512 (k : Fin 3072) : ∃ c l, k = at512 c l :=
  ⟨⟨k / 512, by omega⟩, ⟨k % 512, by omega⟩, by ext; simp only [at512]; omega⟩

/-- The maximum taken from zero chunk by chunk is the maximum over the row. -/
theorem amax_chunks (v : Fin 3072 → EReal) :
    max (max (max (max (max (max 0 (amax (chunk v 0))) (amax (chunk v 1))) (amax (chunk v 2))) (amax (chunk v 3)))
      (amax (chunk v 4))) (amax (chunk v 5)) = amax v := by
  have hc : ∀ c, amax (chunk v c) ≤ amax v := fun c => (amax_le _ _).2 fun k => le_amax v (at512 c k)
  apply le_antisymm
  · refine max_le (max_le (max_le (max_le (max_le (max_le ?_ (hc 0)) (hc 1)) (hc 2)) (hc 3)) (hc 4)) (hc 5)
    exact (ab_nonneg (v 0)).trans (le_amax v 0)
  · refine (amax_le _ _).2 fun k => ?_
    obtain ⟨c, l, rfl⟩ := exists_at512 k
    refine (le_amax (chunk v c) l).trans ?_
    fin_cases c <;> simp

/-- A sum over 3072 entries is the sum of the six sums over 512, added to zero one after the other. -/
theorem sum_chunks (v : Fin 3072 → EReal) :
    0 + (∑ k, v (at512 0 k)) + (∑ k, v (at512 1 k)) + (∑ k, v (at512 2 k)) + (∑ k, v (at512 3 k)) + (∑ k, v (at512 4 k))
      + (∑ k, v (at512 5 k)) = ∑ k, v k := by
  have e : ∑ k, v k = ∑ c : Fin 6, ∑ k : Fin 512, v (at512 c k) := by
    rw [← Fintype.sum_prod_type', ← (finProdFinEquiv (m := 6) (n := 512)).sum_comp]
    refine Finset.sum_congr rfl fun p _ => ?_
    congr 1
    ext
    simp only [at512, finProdFinEquiv_apply_val]
    omega
  rw [e, Fin.sum_univ_six, zero_add]

/-- A sum with one entry kept by a comparison of indices is that entry. -/
theorem sum_pick {n : ℕ} (f : Fin n → EReal) (j : Fin n) : (∑ k, if k = j then f k else 0) = f j := by
  rw [Finset.sum_ite_eq' Finset.univ j f, if_pos (Finset.mem_univ j)]

/-- The same, with the indices compared as 32-bit words. -/
theorem sum_pick_word (f : Fin 128 → EReal) (j : ℕ) (hj : j < 128) :
    (∑ k : Fin 128, Scalar.select (IntOp.cmpi .eq (BitVec.ofNat 32 k) (BitVec.ofNat 32 j)) (f k) 0) = f ⟨j, hj⟩ := by
  rw [← sum_pick f ⟨j, hj⟩]
  refine Finset.sum_congr rfl fun k _ => ?_
  rw [cmpi_eq_ofNat (by omega) (by omega)]
  by_cases h : k = ⟨j, hj⟩
  · rw [if_pos h, decide_eq_true (by rw [h])]; rfl
  · rw [if_neg h, decide_eq_false (fun e => h (Fin.ext e))]; rfl

end Cert.Rows

end
-- ==== Proof.KernelArgs.lean ====
/- Each block the tiled program loads, read of the argument arrays. -/
module

public import proofs.«01_k».proof.Proof.TailFrame
public import proofs.«01_k».proof.Proof.Rows
public import Idealize.ShloMosaic.Lib.Pipeline.ValueKit.Point

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem idx0 : ∀ t : Fin cfg0.N, win0_0.index t = ![(grid0.coords t 0).val, 0, 0] :=
  (by decide +kernel : ∀ t : Fin grid0.N, _)

theorem idx1 : ∀ t : Fin cfg0.N, win0_1.index t = ![(grid0.coords t 0).val, 0, 0] :=
  (by decide +kernel : ∀ t : Fin grid0.N, _)

theorem idx2 : ∀ t : Fin cfg0.N, win0_2.index t = ![0, 0] :=
  (by decide +kernel : ∀ t : Fin grid0.N, _)

theorem idx3 : ∀ t : Fin cfg0.N, win0_3.index t = ![0, 0] :=
  (by decide +kernel : ∀ t : Fin grid0.N, _)

theorem idx4 : ∀ t : Fin cfg0.N, win0_4.index t = ![0, 0] :=
  (by decide +kernel : ∀ t : Fin grid0.N, _)

theorem idx5 : ∀ t : Fin cfg0.N, win0_5.index t = ![0, 0] :=
  (by decide +kernel : ∀ t : Fin grid0.N, _)

theorem idx6 : ∀ t : Fin cfg0.N, win0_6.index t = ![0, 0] :=
  (by decide +kernel : ∀ t : Fin grid0.N, _)

theorem idx7 : ∀ t : Fin cfg0.N, win0_7.index t = ![0, 0] :=
  (by decide +kernel : ∀ t : Fin grid0.N, _)

theorem idx8 : ∀ t : Fin cfg0.N, win0_8.index t = ![0, 0] :=
  (by decide +kernel : ∀ t : Fin grid0.N, _)

theorem idx9 : ∀ t : Fin cfg0.N, win0_9.index t = ![0, 0] :=
  (by decide +kernel : ∀ t : Fin grid0.N, _)

theorem idx10 : ∀ t : Fin cfg0.N, win0_10.index t = ![0, 0] :=
  (by decide +kernel : ∀ t : Fin grid0.N, _)

theorem idx11 : ∀ t : Fin cfg0.N, win0_11.index t = ![0, 0] :=
  (by decide +kernel : ∀ t : Fin grid0.N, _)

theorem idx12 : ∀ t : Fin cfg0.N, win0_12.index t = ![0, 0] :=
  (by decide +kernel : ∀ t : Fin grid0.N, _)

theorem idx13 : ∀ t : Fin cfg0.N, win0_13.index t = ![0, 0] :=
  (by decide +kernel : ∀ t : Fin grid0.N, _)

theorem idx14 : ∀ t : Fin cfg0.N, win0_14.index t = ![0, 0] :=
  (by decide +kernel : ∀ t : Fin grid0.N, _)

theorem idx15 : ∀ t : Fin cfg0.N, win0_15.index t = ![0, 0] :=
  (by decide +kernel : ∀ t : Fin grid0.N, _)

theorem idx16 : ∀ t : Fin cfg0.N, win0_16.index t = ![0, 0] :=
  (by decide +kernel : ∀ t : Fin grid0.N, _)

theorem blk0 (c : Dev nD) (t : Fin cfg0.N) (k : Fin 768) (r : Fin 384) : iblk m c 0 t (ix3 0 k r) = m ((c : Thread nD τ).loc main_arg0) (ix3 (grid0.coords t 0) k r) := by
  blk_ext! [iblk, V, idx0 t]

theorem blk1 (c : Dev nD) (t : Fin cfg0.N) (r : Fin 384) (k : Fin 768) : iblk m c 1 t (ix3 0 r k) = m ((c : Thread nD τ).loc main_arg1) (ix3 (grid0.coords t 0) r k) := by
  blk_ext! [iblk, V, idx1 t]

theorem blk2 (c : Dev nD) (t : Fin cfg0.N) (k : Fin 768) : iblk m c 2 t (ix2 0 k) = m ((c : Thread nD τ).loc main_arg2) (ix1 k) := by
  blk_ext! [iblk, V, idx2 t]

theorem blk3 (c : Dev nD) (t : Fin cfg0.N) (k : Fin 768) : iblk m c 3 t (ix2 0 k) = m ((c : Thread nD τ).loc main_arg3) (ix1 k) := by
  blk_ext! [iblk, V, idx3 t]

theorem blk4 (c : Dev nD) (t : Fin cfg0.N) (k : Fin 768) (j : Fin 768) : iblk m c 4 t (ix2 k j) = m ((c : Thread nD τ).loc main_arg4) (ix3 (⟨k.val / 64, by omega⟩ : Fin 12) (⟨k.val % 64, by omega⟩ : Fin 64) j) := by
  blk_ext! [iblk, V, idx4 t]

theorem blk5 (c : Dev nD) (t : Fin cfg0.N) (k : Fin 768) : iblk m c 5 t (ix2 0 k) = m ((c : Thread nD τ).loc main_arg5) (ix1 k) := by
  blk_ext! [iblk, V, idx5 t]

theorem blk6 (c : Dev nD) (t : Fin cfg0.N) (k : Fin 768) : iblk m c 6 t (ix2 0 k) = m ((c : Thread nD τ).loc main_arg6) (ix1 k) := by
  blk_ext! [iblk, V, idx6 t]

theorem blk7 (c : Dev nD) (t : Fin cfg0.N) (k : Fin 768) : iblk m c 7 t (ix2 0 k) = m ((c : Thread nD τ).loc main_arg13) (ix1 k) := by
  blk_ext! [iblk, V, idx7 t]

theorem blk8 (c : Dev nD) (t : Fin cfg0.N) (k : Fin 768) : iblk m c 8 t (ix2 0 k) = m ((c : Thread nD τ).loc main_arg14) (ix1 k) := by
  blk_ext! [iblk, V, idx8 t]

theorem blk9 (c : Dev nD) (t : Fin cfg0.N) (k : Fin 768) (j : Fin 3072) : iblk m c 9 t (ix2 k j) = m (((c : Thread nD τ)).loc main_arg7) (ix2 k j) := by
  blk_ext! [iblk, V, idx9 t]

theorem blk10 (c : Dev nD) (t : Fin cfg0.N) (k : Fin 3072) : iblk m c 10 t (ix2 0 k) = m ((c : Thread nD τ).loc main_arg8) (ix1 k) := by
  blk_ext! [iblk, V, idx10 t]

theorem blk11 (c : Dev nD) (t : Fin cfg0.N) (k : Fin 3072) : iblk m c 11 t (ix2 0 k) = m ((c : Thread nD τ).loc main_arg9) (ix1 k) := by
  blk_ext! [iblk, V, idx11 t]

theorem blk12 (c : Dev nD) (t : Fin cfg0.N) (k : Fin 3072) (j : Fin 768) : iblk m c 12 t (ix2 k j) = m (((c : Thread nD τ)).loc main_arg10) (ix2 k j) := by
  blk_ext! [iblk, V, idx12 t]

theorem blk13 (c : Dev nD) (t : Fin cfg0.N) (k : Fin 768) : iblk m c 13 t (ix2 0 k) = m ((c : Thread nD τ).loc main_arg11) (ix1 k) := by
  blk_ext! [iblk, V, idx13 t]

theorem blk14 (c : Dev nD) (t : Fin cfg0.N) (k : Fin 768) : iblk m c 14 t (ix2 0 k) = m ((c : Thread nD τ).loc main_arg12) (ix1 k) := by
  blk_ext! [iblk, V, idx14 t]

theorem blk15 (c : Dev nD) (t : Fin cfg0.N) (k : Fin 768) : iblk m c 15 t (ix2 0 k) = m ((c : Thread nD τ).loc main_arg15) (ix1 k) := by
  blk_ext! [iblk, V, idx15 t]

theorem blk16 (c : Dev nD) (t : Fin cfg0.N) (k : Fin 768) : iblk m c 16 t (ix2 0 k) = m ((c : Thread nD τ).loc main_arg16) (ix1 k) := by
  blk_ext! [iblk, V, idx16 t]

end Cert.TailIdeal.Value

end
-- ==== Proof.KernelLoads.lean ====
/- The tiles of 512 columns or rows the tiled program loads of its feed-forward weights. -/
module

public import proofs.«01_k».proof.Proof.TailFrame
public import proofs.«01_k».proof.Proof.Rows
public import Idealize.ShloMosaic.Lib.Pipeline.Value

@[expose] public section

set_option maxRecDepth 16384

noncomputable section

namespace Cert.TailIdeal.Gen

open Idealize.ShloMosaic Idealize.ShloMosaic.TcCoe Idealize.SL.Sem Cert.Rows

/-- Columns `0` to `511` of the first feed-forward weights. -/
def a9_0 (x9 : Vec Ideal S768x3072 .i8) : Vec Ideal S768x512 .i8 := View.ld x9 (Rect.unit ![0, 0] ![768, 512] inb_S768x3072_S768x512_0_0)

theorem a9_0_at (x9 : Vec Ideal S768x3072 .i8) (k : Fin 768) (l : Fin 512) : a9_0 x9 (ix2 k l) = x9 (ix2 k (at512 0 l)) := by
  unfold a9_0
  show x9 _ = x9 _
  congr 1
  funext a
  fin_cases a
  · exact Fin.ext (show 0 + 1 * k.val = k.val by omega)
  · exact Fin.ext (show 0 + 1 * l.val = 512 * 0 + l.val by omega)

/-- Entries `0` to `511` of a row. -/
def a10_0 (x : Vec Ideal S1x3072 .f32) : Vec Ideal S1x512 .f32 := View.ld x (Rect.unit ![0, 0] ![1, 512] inb_S1x3072_S1x512_0_0)

theorem a10_0_at (x : Vec Ideal S1x3072 .f32) (l : Fin 512) : a10_0 x (ix2 0 l) = x (ix2 0 (at512 0 l)) := by
  unfold a10_0
  show x _ = x _
  congr 1
  funext a
  fin_cases a
  · exact Fin.ext (show 0 + 1 * 0 = 0 by omega)
  · exact Fin.ext (show 0 + 1 * l.val = 512 * 0 + l.val by omega)

/-- Rows `0` to `511` of the second feed-forward weights. -/
def a12_0 (x : Vec Ideal S3072x768 .i8) : Vec Ideal S512x768 .i8 := View.ld x (Rect.unit ![0, 0] ![512, 768] inb_S3072x768_S512x768_0_0)

theorem a12_0_at (x : Vec Ideal S3072x768 .i8) (l : Fin 512) (j : Fin 768) : a12_0 x (ix2 l j) = x (ix2 (at512 0 l) j) := by
  unfold a12_0
  show x _ = x _
  congr 1
  funext a
  fin_cases a
  · exact Fin.ext (show 0 + 1 * l.val = 512 * 0 + l.val by omega)
  · exact Fin.ext (show 0 + 1 * j.val = j.val by omega)

/-- Columns `512` to `1023` of the first feed-forward weights. -/
def a9_1 (x9 : Vec Ideal S768x3072 .i8) : Vec Ideal S768x512 .i8 := View.ld x9 (Rect.unit ![0, 512] ![768, 512] inb_S768x3072_S768x512_0_512)

theorem a9_1_at (x9 : Vec Ideal S768x3072 .i8) (k : Fin 768) (l : Fin 512) : a9_1 x9 (ix2 k l) = x9 (ix2 k (at512 1 l)) := by
  unfold a9_1
  show x9 _ = x9 _
  congr 1
  funext a
  fin_cases a
  · exact Fin.ext (show 0 + 1 * k.val = k.val by omega)
  · exact Fin.ext (show 512 + 1 * l.val = 512 * 1 + l.val by omega)

/-- Entries `512` to `1023` of a row. -/
def a10_1 (x : Vec Ideal S1x3072 .f32) : Vec Ideal S1x512 .f32 := View.ld x (Rect.unit ![0, 512] ![1, 512] inb_S1x3072_S1x512_0_512)

theorem a10_1_at (x : Vec Ideal S1x3072 .f32) (l : Fin 512) : a10_1 x (ix2 0 l) = x (ix2 0 (at512 1 l)) := by
  unfold a10_1
  show x _ = x _
  congr 1
  funext a
  fin_cases a
  · exact Fin.ext (show 0 + 1 * 0 = 0 by omega)
  · exact Fin.ext (show 512 + 1 * l.val = 512 * 1 + l.val by omega)

/-- Rows `512` to `1023` of the second feed-forward weights. -/
def a12_1 (x : Vec Ideal S3072x768 .i8) : Vec Ideal S512x768 .i8 := View.ld x (Rect.unit ![512, 0] ![512, 768] inb_S3072x768_S512x768_512_0)

theorem a12_1_at (x : Vec Ideal S3072x768 .i8) (l : Fin 512) (j : Fin 768) : a12_1 x (ix2 l j) = x (ix2 (at512 1 l) j) := by
  unfold a12_1
  show x _ = x _
  congr 1
  funext a
  fin_cases a
  · exact Fin.ext (show 512 + 1 * l.val = 512 * 1 + l.val by omega)
  · exact Fin.ext (show 0 + 1 * j.val = j.val by omega)

/-- Columns `1024` to `1535` of the first feed-forward weights. -/
def a9_2 (x9 : Vec Ideal S768x3072 .i8) : Vec Ideal S768x512 .i8 := View.ld x9 (Rect.unit ![0, 1024] ![768, 512] inb_S768x3072_S768x512_0_1024)

theorem a9_2_at (x9 : Vec Ideal S768x3072 .i8) (k : Fin 768) (l : Fin 512) : a9_2 x9 (ix2 k l) = x9 (ix2 k (at512 2 l)) := by
  unfold a9_2
  show x9 _ = x9 _
  congr 1
  funext a
  fin_cases a
  · exact Fin.ext (show 0 + 1 * k.val = k.val by omega)
  · exact Fin.ext (show 1024 + 1 * l.val = 512 * 2 + l.val by omega)

/-- Entries `1024` to `1535` of a row. -/
def a10_2 (x : Vec Ideal S1x3072 .f32) : Vec Ideal S1x512 .f32 := View.ld x (Rect.unit ![0, 1024] ![1, 512] inb_S1x3072_S1x512_0_1024)

theorem a10_2_at (x : Vec Ideal S1x3072 .f32) (l : Fin 512) : a10_2 x (ix2 0 l) = x (ix2 0 (at512 2 l)) := by
  unfold a10_2
  show x _ = x _
  congr 1
  funext a
  fin_cases a
  · exact Fin.ext (show 0 + 1 * 0 = 0 by omega)
  · exact Fin.ext (show 1024 + 1 * l.val = 512 * 2 + l.val by omega)

/-- Rows `1024` to `1535` of the second feed-forward weights. -/
def a12_2 (x : Vec Ideal S3072x768 .i8) : Vec Ideal S512x768 .i8 := View.ld x (Rect.unit ![1024, 0] ![512, 768] inb_S3072x768_S512x768_1024_0)

theorem a12_2_at (x : Vec Ideal S3072x768 .i8) (l : Fin 512) (j : Fin 768) : a12_2 x (ix2 l j) = x (ix2 (at512 2 l) j) := by
  unfold a12_2
  show x _ = x _
  congr 1
  funext a
  fin_cases a
  · exact Fin.ext (show 1024 + 1 * l.val = 512 * 2 + l.val by omega)
  · exact Fin.ext (show 0 + 1 * j.val = j.val by omega)

/-- Columns `1536` to `2047` of the first feed-forward weights. -/
def a9_3 (x9 : Vec Ideal S768x3072 .i8) : Vec Ideal S768x512 .i8 := View.ld x9 (Rect.unit ![0, 1536] ![768, 512] inb_S768x3072_S768x512_0_1536)

theorem a9_3_at (x9 : Vec Ideal S768x3072 .i8) (k : Fin 768) (l : Fin 512) : a9_3 x9 (ix2 k l) = x9 (ix2 k (at512 3 l)) := by
  unfold a9_3
  show x9 _ = x9 _
  congr 1
  funext a
  fin_cases a
  · exact Fin.ext (show 0 + 1 * k.val = k.val by omega)
  · exact Fin.ext (show 1536 + 1 * l.val = 512 * 3 + l.val by omega)

/-- Entries `1536` to `2047` of a row. -/
def a10_3 (x : Vec Ideal S1x3072 .f32) : Vec Ideal S1x512 .f32 := View.ld x (Rect.unit ![0, 1536] ![1, 512] inb_S1x3072_S1x512_0_1536)

theorem a10_3_at (x : Vec Ideal S1x3072 .f32) (l : Fin 512) : a10_3 x (ix2 0 l) = x (ix2 0 (at512 3 l)) := by
  unfold a10_3
  show x _ = x _
  congr 1
  funext a
  fin_cases a
  · exact Fin.ext (show 0 + 1 * 0 = 0 by omega)
  · exact Fin.ext (show 1536 + 1 * l.val = 512 * 3 + l.val by omega)

/-- Rows `1536` to `2047` of the second feed-forward weights. -/
def a12_3 (x : Vec Ideal S3072x768 .i8) : Vec Ideal S512x768 .i8 := View.ld x (Rect.unit ![1536, 0] ![512, 768] inb_S3072x768_S512x768_1536_0)

theorem a12_3_at (x : Vec Ideal S3072x768 .i8) (l : Fin 512) (j : Fin 768) : a12_3 x (ix2 l j) = x (ix2 (at512 3 l) j) := by
  unfold a12_3
  show x _ = x _
  congr 1
  funext a
  fin_cases a
  · exact Fin.ext (show 1536 + 1 * l.val = 512 * 3 + l.val by omega)
  · exact Fin.ext (show 0 + 1 * j.val = j.val by omega)

/-- Columns `2048` to `2559` of the first feed-forward weights. -/
def a9_4 (x9 : Vec Ideal S768x3072 .i8) : Vec Ideal S768x512 .i8 := View.ld x9 (Rect.unit ![0, 2048] ![768, 512] inb_S768x3072_S768x512_0_2048)

theorem a9_4_at (x9 : Vec Ideal S768x3072 .i8) (k : Fin 768) (l : Fin 512) : a9_4 x9 (ix2 k l) = x9 (ix2 k (at512 4 l)) := by
  unfold a9_4
  show x9 _ = x9 _
  congr 1
  funext a
  fin_cases a
  · exact Fin.ext (show 0 + 1 * k.val = k.val by omega)
  · exact Fin.ext (show 2048 + 1 * l.val = 512 * 4 + l.val by omega)

/-- Entries `2048` to `2559` of a row. -/
def a10_4 (x : Vec Ideal S1x3072 .f32) : Vec Ideal S1x512 .f32 := View.ld x (Rect.unit ![0, 2048] ![1, 512] inb_S1x3072_S1x512_0_2048)

theorem a10_4_at (x : Vec Ideal S1x3072 .f32) (l : Fin 512) : a10_4 x (ix2 0 l) = x (ix2 0 (at512 4 l)) := by
  unfold a10_4
  show x _ = x _
  congr 1
  funext a
  fin_cases a
  · exact Fin.ext (show 0 + 1 * 0 = 0 by omega)
  · exact Fin.ext (show 2048 + 1 * l.val = 512 * 4 + l.val by omega)

/-- Rows `2048` to `2559` of the second feed-forward weights. -/
def a12_4 (x : Vec Ideal S3072x768 .i8) : Vec Ideal S512x768 .i8 := View.ld x (Rect.unit ![2048, 0] ![512, 768] inb_S3072x768_S512x768_2048_0)

theorem a12_4_at (x : Vec Ideal S3072x768 .i8) (l : Fin 512) (j : Fin 768) : a12_4 x (ix2 l j) = x (ix2 (at512 4 l) j) := by
  unfold a12_4
  show x _ = x _
  congr 1
  funext a
  fin_cases a
  · exact Fin.ext (show 2048 + 1 * l.val = 512 * 4 + l.val by omega)
  · exact Fin.ext (show 0 + 1 * j.val = j.val by omega)

/-- Columns `2560` to `3071` of the first feed-forward weights. -/
def a9_5 (x9 : Vec Ideal S768x3072 .i8) : Vec Ideal S768x512 .i8 := View.ld x9 (Rect.unit ![0, 2560] ![768, 512] inb_S768x3072_S768x512_0_2560)

theorem a9_5_at (x9 : Vec Ideal S768x3072 .i8) (k : Fin 768) (l : Fin 512) : a9_5 x9 (ix2 k l) = x9 (ix2 k (at512 5 l)) := by
  unfold a9_5
  show x9 _ = x9 _
  congr 1
  funext a
  fin_cases a
  · exact Fin.ext (show 0 + 1 * k.val = k.val by omega)
  · exact Fin.ext (show 2560 + 1 * l.val = 512 * 5 + l.val by omega)

/-- Entries `2560` to `3071` of a row. -/
def a10_5 (x : Vec Ideal S1x3072 .f32) : Vec Ideal S1x512 .f32 := View.ld x (Rect.unit ![0, 2560] ![1, 512] inb_S1x3072_S1x512_0_2560)

theorem a10_5_at (x : Vec Ideal S1x3072 .f32) (l : Fin 512) : a10_5 x (ix2 0 l) = x (ix2 0 (at512 5 l)) := by
  unfold a10_5
  show x _ = x _
  congr 1
  funext a
  fin_cases a
  · exact Fin.ext (show 0 + 1 * 0 = 0 by omega)
  · exact Fin.ext (show 2560 + 1 * l.val = 512 * 5 + l.val by omega)

/-- Rows `2560` to `3071` of the second feed-forward weights. -/
def a12_5 (x : Vec Ideal S3072x768 .i8) : Vec Ideal S512x768 .i8 := View.ld x (Rect.unit ![2560, 0] ![512, 768] inb_S3072x768_S512x768_2560_0)

theorem a12_5_at (x : Vec Ideal S3072x768 .i8) (l : Fin 512) (j : Fin 768) : a12_5 x (ix2 l j) = x (ix2 (at512 5 l) j) := by
  unfold a12_5
  show x _ = x _
  congr 1
  funext a
  fin_cases a
  · exact Fin.ext (show 2560 + 1 * l.val = 512 * 5 + l.val by omega)
  · exact Fin.ext (show 0 + 1 * j.val = j.val by omega)

end Cert.TailIdeal.Gen

end
-- ==== Proof.KernelNorm.lean ====
/- The tiled program's layer normalisations and quantisations of a block, entry by entry. -/
module

public import proofs.«01_k».proof.Proof.Gen.TailIdeal.Skeleton
public import proofs.«01_k».proof.Proof.Rows

@[expose] public section

set_option maxRecDepth 16384

noncomputable section

namespace Cert.TailIdeal.Gen

open Idealize.ShloMosaic Idealize.ShloMosaic.TcCoe Idealize.SL.Sem Cert.Rows

theorem pay12_at (v57 : Vec Ideal S1x384x768 .bf16) (r : Fin 384) (j : Fin 768) :
    k0_pay12 v57 (ix2 r j) = (v57 (ix3 0 r j) - mean fun k => v57 (ix3 0 r k)) * Ideal.div 1 (sd fun k => v57 (ix3 0 r k)) := by
  pointwise [k0_pay12]
  rfl

theorem pay13_at (v56 : FVec Ideal S384x768 .f32) (v61 v63 : FVec Ideal S1x768 .f32) (v81 : FVec Ideal S384x768 .f32)
    (v87 v89 : Vec Ideal S1x768 .f32) (r : Fin 384) (j : Fin 768) :
    k0_pay13 v56 v61 v63 v81 v87 v89 (ix2 r j) =
      ln (fun k => v56 (ix2 r k) + (v81 (ix2 r k) * v61 (ix2 0 k) + v63 (ix2 0 k))) (fun k => v87 (ix2 0 k)) (fun k => v89 (ix2 0 k)) j := by
  pointwise [k0_pay13]
  exact ln_recip (fun k => v56 (ix2 r k) + (v81 (ix2 r k) * v61 (ix2 0 k) + v63 (ix2 0 k))) (fun k => v87 (ix2 0 k)) (fun k => v89 (ix2 0 k)) j

theorem pay14_at (v56 : FVec Ideal S384x768 .f32) (v61 v63 : FVec Ideal S1x768 .f32) (v81 : FVec Ideal S384x768 .f32)
    (v87 v89 : Vec Ideal S1x768 .f32) (r : Fin 384) :
    k0_pay14 v56 v61 v63 v81 v87 v89 (ix2 r 0) = scale fun k => k0_pay13 v56 v61 v63 v81 v87 v89 (ix2 r k) := by
  pointwise [k0_pay14]
  rfl

theorem pay15_at (v56 : FVec Ideal S384x768 .f32) (v61 v63 : FVec Ideal S1x768 .f32) (v81 : FVec Ideal S384x768 .f32)
    (v87 v89 : Vec Ideal S1x768 .f32) (r : Fin 384) (j : Fin 768) :
    k0_pay15 v56 v61 v63 v81 v87 v89 (ix2 r j) =
      rnd (k0_pay13 v56 v61 v63 v81 v87 v89 (ix2 r j)) (scale fun k => k0_pay13 v56 v61 v63 v81 v87 v89 (ix2 r k)) := by
  pointwise [k0_pay15]
  rw [pay14_at]
  rfl

theorem pay17_at (v124 : FVec Ideal S384x768 .f32) (r : Fin 384) (j : Fin 768) :
    k0_pay17 v124 127#32 k0_pay16 (ix2 r j) = clip (v124 (ix2 r j)) := by
  pointwise [k0_pay17, k0_pay16]
  rfl

theorem pay18_at (v124 : FVec Ideal S384x768 .f32) (r : Fin 384) (j : Fin 768) :
    k0_pay18 v124 127#32 k0_pay16 (ix3 0 r j) = FloatOps.fptosi (F := Ideal) (φ := .f32) 8 (clip (v124 (ix2 r j))) := by
  pointwise [k0_pay18]
  rw [pay17_at]
  rfl

theorem pay19_at (v121 : FVec Ideal S384x1 .f32) (r : Fin 384) : k0_pay19 v121 (ix3 0 0 r) = v121 (ix2 r 0) := by
  pointwise [k0_pay19]
  split
  · next h => exact sum_pick_word (fun x => v121 (ix2 ⟨x, by omega⟩ 0)) r h
  · split
    · next h => rw [sum_pick_word (fun x => v121 (ix2 ⟨128 + x, by omega⟩ 0)) (r - 128) h]; congr 2; ext; simp only; omega
    · rw [sum_pick_word (fun x => v121 (ix2 ⟨256 + x, by omega⟩ 0)) (r - 128 - 128) (by omega)]; congr 2; ext; simp only; omega

end Cert.TailIdeal.Gen

end
-- ==== Proof.KernelFfn.lean ====
/- The first feed-forward layer of a block, chunk by chunk of 512 columns, entry by entry, with the running largest absolute value. -/
module

public import proofs.«01_k».proof.Proof.Gen.TailIdeal.Skeleton
public import proofs.«01_k».proof.Proof.Rows

@[expose] public section

set_option maxRecDepth 16384

noncomputable section

namespace Cert.TailIdeal.Gen

open Idealize.ShloMosaic Idealize.ShloMosaic.TcCoe Idealize.SL.Sem Cert.Rows

/-- One entry of the first feed-forward layer on a chunk of 512 columns. -/
def linAt (hc : FVec Ideal S384x768 .bf16) (hs : FVec Ideal S384x1 .f32) (w : Vec Ideal S768x512 .i8) (s b : Vec Ideal S1x512 .f32)
    (r : Fin 384) (l : Fin 512) : EReal :=
  lin (fun k => hc (ix2 r k)) (hs (ix2 r 0)) (fun k l => w (ix2 k l)) (fun l => s (ix2 0 l)) (fun l => b (ix2 0 l)) l

theorem pay20_at (r : Fin 384) : k0_pay20 (F := Ideal) (ix2 r 0) = 0 := by
  pointwise [k0_pay20]

theorem pay21_at (v124 : FVec Ideal S384x768 .f32) (v165 : Vec Ideal S768x512 .i8) (r : Fin 384) (l : Fin 512) :
    k0_pay21 v124 127#32 k0_pay16 v165 (ix2 r l) =
      ∑ k, k0_pay17 v124 127#32 k0_pay16 (ix2 r k) * num (v165 (ix2 k l)) := by
  pointwise [k0_pay21]
  rfl

theorem pay22_at (v121 : FVec Ideal S384x1 .f32) (v167 : FVec Ideal S384x512 .f32) (v170 v174 : Vec Ideal S1x512 .f32)
    (r : Fin 384) (l : Fin 512) :
    k0_pay22 v121 v167 v170 v174 (ix2 r l) = gelu (v167 (ix2 r l) * v121 (ix2 r 0) * v170 (ix2 0 l) + v174 (ix2 0 l)) := by
  pointwise [k0_pay22]
  rfl

theorem pay23_at (v121 : FVec Ideal S384x1 .f32) (v167 : FVec Ideal S384x512 .f32) (v170 v174 : Vec Ideal S1x512 .f32) (r : Fin 384) (l : Fin 512) :
    k0_pay23 v121 v167 v170 v174 (ix2 r l) = k0_pay22 v121 v167 v170 v174 (ix2 r l) := by
  pointwise [k0_pay23]

theorem pay24_at (v121 v164 : FVec Ideal S384x1 .f32) (v167 : FVec Ideal S384x512 .f32) (v170 v174 : Vec Ideal S1x512 .f32) (r : Fin 384) :
    k0_pay24 v121 v164 v167 v170 v174 (ix2 r 0) = max (v164 (ix2 r 0)) (amax fun l => k0_pay22 v121 v167 v170 v174 (ix2 r l)) := by
  pointwise [k0_pay24]
  rfl

theorem pay25_at (v121 : FVec Ideal S384x1 .f32) (v131 : FVec Ideal S384x768 .bf16) (v193 : Vec Ideal S768x512 .i8) (v198 v202 : Vec Ideal S1x512 .f32) (r : Fin 384) (l : Fin 512) :
    k0_pay25 v121 v131 v193 v198 v202 (ix2 r l) = linAt v131 v121 v193 v198 v202 r l := by
  pointwise [k0_pay25]
  rfl

theorem pay27_at (v121 : FVec Ideal S384x1 .f32) (v131 : FVec Ideal S384x768 .bf16) (v193 : Vec Ideal S768x512 .i8) (v198 v202 : Vec Ideal S1x512 .f32) (r : Fin 384) (l : Fin 512) :
    k0_pay27 (k0_pay25 v121 v131 v193 v198 v202) (k0_pay26 v121 v131 v193 v198 v202) (Scalar.ofBits .f32 0x3FB504F3#32) (ix2 r l) =
      gelu (linAt v131 v121 v193 v198 v202 r l) := by
  pointwise [k0_pay27, k0_pay26]
  rw [pay25_at]
  rfl

theorem pay28_at (v205 v207 : FVec Ideal S384x512 .f32) (c : Ideal .f32) (r : Fin 384) (l : Fin 512) :
    k0_pay28 v205 v207 c (ix2 r l) = k0_pay27 v205 v207 c (ix2 r l) := by
  pointwise [k0_pay28]

theorem pay29_at (v121 : FVec Ideal S384x1 .f32) (v131 : FVec Ideal S384x768 .bf16) (v221 : Vec Ideal S768x512 .i8) (v226 v230 : Vec Ideal S1x512 .f32) (r : Fin 384) (l : Fin 512) :
    k0_pay29 v121 v131 v221 v226 v230 (ix2 r l) = gelu (linAt v131 v121 v221 v226 v230 r l) := by
  pointwise [k0_pay29]
  rfl

theorem pay30_at (v121 : FVec Ideal S384x1 .f32)(v131 : FVec Ideal S384x768 .bf16)(v221 : Vec Ideal S768x512 .i8) (v226 v230 : Vec Ideal S1x512 .f32) (r : Fin 384) (l : Fin 512) :
    k0_pay30 v121 v131 v221 v226 v230 (ix2 r l) = k0_pay29 v121 v131 v221 v226 v230 (ix2 r l) := by
  pointwise [k0_pay30]

theorem pay31_at (v121 : FVec Ideal S384x1 .f32) (v131 : FVec Ideal S384x768 .bf16) (v192 : FVec Ideal S384x1 .f32) (v205 v207 : FVec Ideal S384x512 .f32) (c : Ideal .f32) (v221 : Vec Ideal S768x512 .i8) (v226 v230 : Vec Ideal S1x512 .f32) (r : Fin 384) :
    k0_pay31 v121 v131 v192 v205 v207 c v221 v226 v230 (ix2 r 0) =
      max (max (v192 (ix2 r 0)) (amax fun l => k0_pay27 v205 v207 c (ix2 r l))) (amax fun l => k0_pay29 v121 v131 v221 v226 v230 (ix2 r l)) := by
  pointwise [k0_pay31]
  rfl

theorem pay32_at (v121 : FVec Ideal S384x1 .f32) (v131 : FVec Ideal S384x768 .bf16) (v249 : Vec Ideal S768x512 .i8) (v254 v258 : Vec Ideal S1x512 .f32) (r : Fin 384) (l : Fin 512) :
    k0_pay32 v121 v131 v249 v254 v258 (ix2 r l) = gelu (linAt v131 v121 v249 v254 v258 r l) := by
  pointwise [k0_pay32]
  rfl

theorem pay33_at (v121 : FVec Ideal S384x1 .f32)(v131 : FVec Ideal S384x768 .bf16)(v249 : Vec Ideal S768x512 .i8) (v254 v258 : Vec Ideal S1x512 .f32) (r : Fin 384) (l : Fin 512) :
    k0_pay33 v121 v131 v249 v254 v258 (ix2 r l) = k0_pay32 v121 v131 v249 v254 v258 (ix2 r l) := by
  pointwise [k0_pay33]

theorem pay34_at (v121 : FVec Ideal S384x1 .f32) (v131 : FVec Ideal S384x768 .bf16) (v248 : FVec Ideal S384x1 .f32) (v249 : Vec Ideal S768x512 .i8) (v254 v258 : Vec Ideal S1x512 .f32) (r : Fin 384) :
    k0_pay34 v121 v131 v248 v249 v254 v258 (ix2 r 0) =
      max (v248 (ix2 r 0)) (amax fun l => k0_pay32 v121 v131 v249 v254 v258 (ix2 r l)) := by
  pointwise [k0_pay34]
  rfl

theorem pay37_at (v121 : FVec Ideal S384x1 .f32) (v131 : FVec Ideal S384x768 .bf16) (v277 : Vec Ideal S768x512 .i8) (v282 v286 : Vec Ideal S1x512 .f32) (r : Fin 384) (l : Fin 512) :
    k0_pay37 (k0_pay35 v121 v131 v277 v282) (k0_pay36 v286) (ix2 r l) = gelu (linAt v131 v121 v277 v282 v286 r l) := by
  pointwise [k0_pay37, k0_pay35, k0_pay36]
  rfl

theorem pay38_at (v285 : FVec Ideal S384x512 .f32) (v287 : FVec Ideal S1x512 .f32) (r : Fin 384) (l : Fin 512) :
    k0_pay38 v285 v287 (ix2 r l) = k0_pay37 v285 v287 (ix2 r l) := by
  pointwise [k0_pay38]

theorem pay39_at (v276 : FVec Ideal S384x1 .f32) (v285 : FVec Ideal S384x512 .f32) (v287 : FVec Ideal S1x512 .f32) (r : Fin 384) :
    k0_pay39 v276 v285 v287 (ix2 r 0) = max (v276 (ix2 r 0)) (amax fun l => k0_pay37 v285 v287 (ix2 r l)) := by
  pointwise [k0_pay39]
  rfl

theorem pay40_at (v121 : FVec Ideal S384x1 .f32) (v131 : FVec Ideal S384x768 .bf16) (v305 : Vec Ideal S768x512 .i8) (v310 v314 : Vec Ideal S1x512 .f32) (r : Fin 384) (l : Fin 512) :
    k0_pay40 v121 v131 v305 v310 v314 (ix2 r l) = gelu (linAt v131 v121 v305 v310 v314 r l) := by
  pointwise [k0_pay40]
  rfl

theorem pay41_at (v121 : FVec Ideal S384x1 .f32)(v131 : FVec Ideal S384x768 .bf16)(v305 : Vec Ideal S768x512 .i8) (v310 v314 : Vec Ideal S1x512 .f32) (r : Fin 384) (l : Fin 512) :
    k0_pay41 v121 v131 v305 v310 v314 (ix2 r l) = k0_pay40 v121 v131 v305 v310 v314 (ix2 r l) := by
  pointwise [k0_pay41]

theorem pay42_at (v304 : FVec Ideal S384x1 .f32) (v325 : FVec Ideal S384x512 .f32) (r : Fin 384) :
    k0_pay42 v304 v325 (ix2 r 0) = scaleOf (max (v304 (ix2 r 0)) (amax fun l => v325 (ix2 r l))) := by
  pointwise [k0_pay42]
  rfl

theorem pay43_at (v304 : FVec Ideal S384x1 .f32) (v325 : FVec Ideal S384x512 .f32) (r : Fin 384) :
    k0_pay43 v304 v325 (ix3 0 0 r) = k0_pay42 v304 v325 (ix2 r 0) := by
  pointwise [k0_pay43]
  split
  · next h => exact sum_pick_word (fun x => k0_pay42 v304 v325 (ix2 ⟨x, by omega⟩ 0)) r h
  · split
    · next h => rw [sum_pick_word (fun x => k0_pay42 v304 v325 (ix2 ⟨128 + x, by omega⟩ 0)) (r - 128) h]; congr 2; ext; simp only; omega
    · rw [sum_pick_word (fun x => k0_pay42 v304 v325 (ix2 ⟨256 + x, by omega⟩ 0)) (r - 128 - 128) (by omega)]; congr 2; ext; simp only; omega

end Cert.TailIdeal.Gen

end
-- ==== Proof.KernelOut.lean ====
/- The second feed-forward layer of a block and its last normalisation and quantisation, entry by entry. -/
module

public import proofs.«01_k».proof.Proof.Gen.TailIdeal.Skeleton
public import proofs.«01_k».proof.Proof.Rows

@[expose] public section

set_option maxRecDepth 16384

noncomputable section

namespace Cert.TailIdeal.Gen

open Idealize.ShloMosaic Idealize.ShloMosaic.TcCoe Idealize.SL.Sem Cert.Rows

theorem pay44_at (r : Fin 384) (j : Fin 768) : k0_pay44 (F := Ideal) (ix2 r j) = 0 := by
  pointwise [k0_pay44]

theorem pay46_at (v304 : FVec Ideal S384x1 .f32) (v325 v368 : FVec Ideal S384x512 .f32) (r : Fin 384) (l : Fin 512) :
    k0_pay46 (k0_pay45 v304 v325 v368) (ix2 r l) = q (v368 (ix2 r l)) (k0_pay42 v304 v325 (ix2 r 0)) := by
  pointwise [k0_pay46, k0_pay45]
  rfl

theorem pay47_at (v304 : FVec Ideal S384x1 .f32) (v325 v368 : FVec Ideal S384x512 .f32) (r : Fin 384) (l : Fin 512) :
    k0_pay47 (k0_pay45 v304 v325 v368) (ix3 0 r l) = code (v368 (ix2 r l)) (k0_pay42 v304 v325 (ix2 r 0)) := by
  pointwise [k0_pay47]
  rw [pay46_at]
  rfl

theorem pay48_at (v338 : FVec Ideal S384x1 .f32) (v : Vec Ideal S384x512 .f32) (r : Fin 384) (l : Fin 512) :
    k0_pay48 v338 v (ix2 r l) = q (v (ix2 r l)) (v338 (ix2 r 0)) := by
  pointwise [k0_pay48]
  rfl

theorem pay49_at (v338 : FVec Ideal S384x1 .f32) (v : Vec Ideal S384x512 .f32) (r : Fin 384) (l : Fin 512) :
    k0_pay49 v338 v (ix3 0 r l) = code (v (ix2 r l)) (v338 (ix2 r 0)) := by
  pointwise [k0_pay49]
  rw [pay48_at]
  rfl

theorem pay50_at (v338 : FVec Ideal S384x1 .f32) (a : FVec Ideal S384x768 .f32) (u : FVec Ideal S384x512 .f32) (w : Vec Ideal S512x768 .i8)
    (v : Vec Ideal S384x512 .f32) (w' : Vec Ideal S512x768 .i8) (r : Fin 384) (j : Fin 768) :
    k0_pay50 v338 a u w v w' (ix2 r j) =
      (a (ix2 r j) + (∑ l, k0_pay46 u (ix2 r l) * num (w (ix2 l j))) + (∑ l, k0_pay48 v338 v (ix2 r l) * num (w' (ix2 l j)))) := by
  pointwise [k0_pay50]
  rfl

theorem pay52_at (v338 : FVec Ideal S384x1 .f32) (v : Vec Ideal S384x512 .f32) (r : Fin 384) (l : Fin 512) :
    k0_pay52 (k0_pay51 v338 v) (ix2 r l) = q (v (ix2 r l)) (v338 (ix2 r 0)) := by
  pointwise [k0_pay52, k0_pay51]
  rfl

theorem pay53_at (v338 : FVec Ideal S384x1 .f32) (v : Vec Ideal S384x512 .f32) (r : Fin 384) (l : Fin 512) :
    k0_pay53 (k0_pay51 v338 v) (ix3 0 r l) = code (v (ix2 r l)) (v338 (ix2 r 0)) := by
  pointwise [k0_pay53]
  rw [pay52_at]
  rfl

theorem pay54_at (v338 : FVec Ideal S384x1 .f32) (v : Vec Ideal S384x512 .f32) (r : Fin 384) (l : Fin 512) :
    k0_pay54 v338 v (ix2 r l) = q (v (ix2 r l)) (v338 (ix2 r 0)) := by
  pointwise [k0_pay54]
  rfl

theorem pay55_at (v338 : FVec Ideal S384x1 .f32) (v : Vec Ideal S384x512 .f32) (r : Fin 384) (l : Fin 512) :
    k0_pay55 v338 v (ix3 0 r l) = code (v (ix2 r l)) (v338 (ix2 r 0)) := by
  pointwise [k0_pay55]
  rw [pay54_at]
  rfl

theorem pay56_at (v338 : FVec Ideal S384x1 .f32) (a : FVec Ideal S384x768 .f32) (u : FVec Ideal S384x512 .f32) (w : Vec Ideal S512x768 .i8)
    (v : Vec Ideal S384x512 .f32) (w' : Vec Ideal S512x768 .i8) (r : Fin 384) (j : Fin 768) :
    k0_pay56 v338 a u w v w' (ix2 r j) =
      (a (ix2 r j) + (∑ l, k0_pay52 u (ix2 r l) * num (w (ix2 l j))) + (∑ l, k0_pay54 v338 v (ix2 r l) * num (w' (ix2 l j)))) := by
  pointwise [k0_pay56]
  rfl

theorem pay58_at (v338 : FVec Ideal S384x1 .f32) (v : Vec Ideal S384x512 .f32) (r : Fin 384) (l : Fin 512) :
    k0_pay58 (k0_pay57 v338 v) (ix2 r l) = q (v (ix2 r l)) (v338 (ix2 r 0)) := by
  pointwise [k0_pay58, k0_pay57]
  rfl

theorem pay59_at (v338 : FVec Ideal S384x1 .f32) (v : Vec Ideal S384x512 .f32) (r : Fin 384) (l : Fin 512) :
    k0_pay59 (k0_pay57 v338 v) (ix3 0 r l) = code (v (ix2 r l)) (v338 (ix2 r 0)) := by
  pointwise [k0_pay59]
  rw [pay58_at]
  rfl

theorem pay60_at (v338 : FVec Ideal S384x1 .f32) (v : Vec Ideal S384x512 .f32) (r : Fin 384) (l : Fin 512) :
    k0_pay60 v338 v (ix2 r l) = q (v (ix2 r l)) (v338 (ix2 r 0)) := by
  pointwise [k0_pay60]
  rfl

theorem pay61_at (v338 : FVec Ideal S384x1 .f32) (v : Vec Ideal S384x512 .f32) (r : Fin 384) (l : Fin 512) :
    k0_pay61 v338 v (ix3 0 r l) = code (v (ix2 r l)) (v338 (ix2 r 0)) := by
  pointwise [k0_pay61]
  rw [pay60_at]
  rfl

theorem pay62_at (v338 : FVec Ideal S384x1 .f32) (a : FVec Ideal S384x768 .f32) (u : FVec Ideal S384x512 .f32) (w : Vec Ideal S512x768 .i8)
    (v : Vec Ideal S384x512 .f32) (w' : Vec Ideal S512x768 .i8) (r : Fin 384) (j : Fin 768) :
    k0_pay62 v338 a u w v w' (ix2 r j) =
      (a (ix2 r j) + (∑ l, k0_pay58 u (ix2 r l) * num (w (ix2 l j))) + (∑ l, k0_pay60 v338 v (ix2 r l) * num (w' (ix2 l j)))) * v338 (ix2 r 0) := by
  pointwise [k0_pay62]
  rfl

theorem pay63_at (v112 v483 : FVec Ideal S384x768 .f32) (v484 v488 v493 v495 : Vec Ideal S1x768 .f32) (r : Fin 384) (j : Fin 768) :
    k0_pay63 v112 v483 v484 v488 v493 v495 (ix2 r j) = ln (fun k => v483 (ix2 r k) * v484 (ix2 0 k) + v488 (ix2 0 k) + v112 (ix2 r k))
      (fun k => v493 (ix2 0 k)) (fun k => v495 (ix2 0 k)) j := by
  pointwise [k0_pay63]
  exact ln_recip (fun k => v483 (ix2 r k) * v484 (ix2 0 k) + v488 (ix2 0 k) + v112 (ix2 r k)) (fun k => v493 (ix2 0 k)) (fun k => v495 (ix2 0 k)) j

theorem pay64_at (v112 v483 : FVec Ideal S384x768 .f32) (v484 v488 v493 v495 : Vec Ideal S1x768 .f32) (r : Fin 384) (j : Fin 768) : k0_pay64 v112 v483 v484 v488 v493 v495 (ix3 0 r j) = k0_pay63 v112 v483 v484 v488 v493 v495 (ix2 r j) := by
  pointwise [k0_pay64]

theorem pay67_at (v112 v483 : FVec Ideal S384x768 .f32) (v484 v488 v493 v495 : Vec Ideal S1x768 .f32) (r : Fin 384) :
    k0_pay67 (k0_pay65 v112 v483 v484 v488 v493 v495) (k0_pay66 v112 v483 v484 v488 v493 v495) (ix2 r 0) = scale fun k => k0_pay63 v112 v483 v484 v488 v493 v495 (ix2 r k) := by
  pointwise [k0_pay67, k0_pay66, k0_pay65]
  rfl

theorem pay68_at (v112 v483 : FVec Ideal S384x768 .f32) (v484 v488 v493 v495 : Vec Ideal S1x768 .f32) (r : Fin 384) (j : Fin 768) :
    k0_pay68 (k0_pay63 v112 v483 v484 v488 v493 v495) (k0_pay65 v112 v483 v484 v488 v493 v495) (k0_pay66 v112 v483 v484 v488 v493 v495) (ix3 0 r j) =
      code (k0_pay63 v112 v483 v484 v488 v493 v495 (ix2 r j)) (scale fun k => k0_pay63 v112 v483 v484 v488 v493 v495 (ix2 r k)) := by
  pointwise [k0_pay68]
  rw [pay67_at]
  rfl

theorem pay69_at (v524 : FVec Ideal S384x1 .f32) (v526 : IVec S384x1 1) (r : Fin 384) :
    k0_pay69 v524 v526 (ix2 0 r) = k0_pay67 v524 v526 (ix2 r 0) := by
  pointwise [k0_pay69]
  split
  · next h => exact sum_pick_word (fun x => k0_pay67 v524 v526 (ix2 ⟨x, by omega⟩ 0)) r h
  · split
    · next h => rw [sum_pick_word (fun x => k0_pay67 v524 v526 (ix2 ⟨128 + x, by omega⟩ 0)) (r - 128) h]; congr 2; ext; simp only; omega
    · rw [sum_pick_word (fun x => k0_pay67 v524 v526 (ix2 ⟨256 + x, by omega⟩ 0)) (r - 128 - 128) (by omega)]; congr 2; ext; simp only; omega

theorem pay1_at (v569 : FVec Ideal S1x384 .f32) (r : Fin 384) : k0_pay1 v569 (ix3 0 0 r) = v569 (ix2 0 r) := by
  pointwise [k0_pay1]

end Cert.TailIdeal.Gen

end
-- ==== Proof.KernelAct.lean ====
/- The tiled program's activation, tile by tile, and its scales. -/
module

public import proofs.«01_k».proof.Proof.KernelLoads
public import proofs.«01_k».proof.Proof.KernelNorm
public import proofs.«01_k».proof.Proof.KernelFfn
public import proofs.«01_k».proof.Proof.KernelOut

@[expose] public section

set_option maxRecDepth 16384

noncomputable section

namespace Cert.TailIdeal.Gen

open Idealize.ShloMosaic Idealize.ShloMosaic.TcCoe Idealize.SL.Sem Cert.Rows

/-- The clipped codes of the first normalised rows. -/
def h17 (h15 : FVec Ideal S384x768 .f32) : FVec Ideal S384x768 .bf16 := k0_pay17 h15 127#32 k0_pay16

/-- A row of the activation. -/
def gRow (h14 : FVec Ideal S384x1 .f32) (h15 : FVec Ideal S384x768 .f32) (x9 : Vec Ideal S768x3072 .i8) (x10 x11 : Vec Ideal S1x3072 .f32) (r : Fin 384) (l : Fin 3072) : EReal :=
  gelu (lin (fun k => h17 h15 (ix2 r k)) (h14 (ix2 r 0)) (fun k l => x9 (ix2 k l)) (fun l => x10 (ix2 0 l)) (fun l => x11 (ix2 0 l)) l)

theorem inner0_at (h14 : FVec Ideal S384x1 .f32) (h15 : FVec Ideal S384x768 .f32) (x9 : Vec Ideal S768x3072 .i8) (x10 x11 : Vec Ideal S1x3072 .f32) (r : Fin 384) (l : Fin 512) :
    (k0_pay22 h14 (k0_pay21 h15 127#32 k0_pay16 (a9_0 x9)) (a10_0 x10) (a10_0 x11)) (ix2 r l) = gRow h14 h15 x9 x10 x11 r (at512 0 l) := by
  rw [pay22_at, pay21_at]
  simp only [a9_0_at, a10_0_at]
  rfl

/-- The activation's columns `0` to `511`. -/
def g0 (h14 : FVec Ideal S384x1 .f32) (h15 : FVec Ideal S384x768 .f32) (x9 : Vec Ideal S768x3072 .i8) (x10 x11 : Vec Ideal S1x3072 .f32) : FVec Ideal S384x512 .f32 := k0_pay23 h14 (k0_pay21 h15 127#32 k0_pay16 (a9_0 x9)) (a10_0 x10) (a10_0 x11)

theorem g0_at (h14 : FVec Ideal S384x1 .f32) (h15 : FVec Ideal S384x768 .f32) (x9 : Vec Ideal S768x3072 .i8) (x10 x11 : Vec Ideal S1x3072 .f32) (r : Fin 384) (l : Fin 512) : g0 h14 h15 x9 x10 x11 (ix2 r l) = gRow h14 h15 x9 x10 x11 r (at512 0 l) := by
  unfold g0
  exact (pay23_at _ _ _ _ r l).trans (inner0_at h14 h15 x9 x10 x11 r l)

theorem inner1_at (h14 : FVec Ideal S384x1 .f32) (h15 : FVec Ideal S384x768 .f32) (x9 : Vec Ideal S768x3072 .i8) (x10 x11 : Vec Ideal S1x3072 .f32) (r : Fin 384) (l : Fin 512) :
    (k0_pay27 (k0_pay25 h14 (h17 h15) (a9_1 x9) (a10_1 x10) (a10_1 x11)) (k0_pay26 h14 (h17 h15) (a9_1 x9) (a10_1 x10) (a10_1 x11)) (FloatOps.ofBits .f32 1068827891#32)) (ix2 r l) = gRow h14 h15 x9 x10 x11 r (at512 1 l) := by
  refine (pay27_at _ _ _ _ _ r l).trans ?_
  unfold linAt
  simp only [a9_1_at, a10_1_at]
  rfl

/-- The activation's columns `512` to `1023`. -/
def g1 (h14 : FVec Ideal S384x1 .f32) (h15 : FVec Ideal S384x768 .f32) (x9 : Vec Ideal S768x3072 .i8) (x10 x11 : Vec Ideal S1x3072 .f32) : FVec Ideal S384x512 .f32 := k0_pay28 (k0_pay25 h14 (h17 h15) (a9_1 x9) (a10_1 x10) (a10_1 x11)) (k0_pay26 h14 (h17 h15) (a9_1 x9) (a10_1 x10) (a10_1 x11)) (FloatOps.ofBits .f32 1068827891#32)

theorem g1_at (h14 : FVec Ideal S384x1 .f32) (h15 : FVec Ideal S384x768 .f32) (x9 : Vec Ideal S768x3072 .i8) (x10 x11 : Vec Ideal S1x3072 .f32) (r : Fin 384) (l : Fin 512) : g1 h14 h15 x9 x10 x11 (ix2 r l) = gRow h14 h15 x9 x10 x11 r (at512 1 l) := by
  unfold g1
  exact (pay28_at _ _ _ r l).trans (inner1_at h14 h15 x9 x10 x11 r l)

theorem inner2_at (h14 : FVec Ideal S384x1 .f32) (h15 : FVec Ideal S384x768 .f32) (x9 : Vec Ideal S768x3072 .i8) (x10 x11 : Vec Ideal S1x3072 .f32) (r : Fin 384) (l : Fin 512) :
    (k0_pay29 h14 (h17 h15) (a9_2 x9) (a10_2 x10) (a10_2 x11)) (ix2 r l) = gRow h14 h15 x9 x10 x11 r (at512 2 l) := by
  refine (pay29_at _ _ _ _ _ r l).trans ?_
  unfold linAt
  simp only [a9_2_at, a10_2_at]
  rfl

/-- The activation's columns `1024` to `1535`. -/
def g2 (h14 : FVec Ideal S384x1 .f32) (h15 : FVec Ideal S384x768 .f32) (x9 : Vec Ideal S768x3072 .i8) (x10 x11 : Vec Ideal S1x3072 .f32) : FVec Ideal S384x512 .f32 := k0_pay30 h14 (h17 h15) (a9_2 x9) (a10_2 x10) (a10_2 x11)

theorem g2_at (h14 : FVec Ideal S384x1 .f32) (h15 : FVec Ideal S384x768 .f32) (x9 : Vec Ideal S768x3072 .i8) (x10 x11 : Vec Ideal S1x3072 .f32) (r : Fin 384) (l : Fin 512) : g2 h14 h15 x9 x10 x11 (ix2 r l) = gRow h14 h15 x9 x10 x11 r (at512 2 l) := by
  unfold g2
  exact (pay30_at _ _ _ _ _ r l).trans (inner2_at h14 h15 x9 x10 x11 r l)

theorem inner3_at (h14 : FVec Ideal S384x1 .f32) (h15 : FVec Ideal S384x768 .f32) (x9 : Vec Ideal S768x3072 .i8) (x10 x11 : Vec Ideal S1x3072 .f32) (r : Fin 384) (l : Fin 512) :
    (k0_pay32 h14 (h17 h15) (a9_3 x9) (a10_3 x10) (a10_3 x11)) (ix2 r l) = gRow h14 h15 x9 x10 x11 r (at512 3 l) := by
  refine (pay32_at _ _ _ _ _ r l).trans ?_
  unfold linAt
  simp only [a9_3_at, a10_3_at]
  rfl

/-- The activation's columns `1536` to `2047`. -/
def g3 (h14 : FVec Ideal S384x1 .f32) (h15 : FVec Ideal S384x768 .f32) (x9 : Vec Ideal S768x3072 .i8) (x10 x11 : Vec Ideal S1x3072 .f32) : FVec Ideal S384x512 .f32 := k0_pay33 h14 (h17 h15) (a9_3 x9) (a10_3 x10) (a10_3 x11)

theorem g3_at (h14 : FVec Ideal S384x1 .f32) (h15 : FVec Ideal S384x768 .f32) (x9 : Vec Ideal S768x3072 .i8) (x10 x11 : Vec Ideal S1x3072 .f32) (r : Fin 384) (l : Fin 512) : g3 h14 h15 x9 x10 x11 (ix2 r l) = gRow h14 h15 x9 x10 x11 r (at512 3 l) := by
  unfold g3
  exact (pay33_at _ _ _ _ _ r l).trans (inner3_at h14 h15 x9 x10 x11 r l)

theorem inner4_at (h14 : FVec Ideal S384x1 .f32) (h15 : FVec Ideal S384x768 .f32) (x9 : Vec Ideal S768x3072 .i8) (x10 x11 : Vec Ideal S1x3072 .f32) (r : Fin 384) (l : Fin 512) :
    (k0_pay37 (k0_pay35 h14 (h17 h15) (a9_4 x9) (a10_4 x10)) (k0_pay36 (a10_4 x11))) (ix2 r l) = gRow h14 h15 x9 x10 x11 r (at512 4 l) := by
  refine (pay37_at _ _ _ _ _ r l).trans ?_
  unfold linAt
  simp only [a9_4_at, a10_4_at]
  rfl

/-- The activation's columns `2048` to `2559`. -/
def g4 (h14 : FVec Ideal S384x1 .f32) (h15 : FVec Ideal S384x768 .f32) (x9 : Vec Ideal S768x3072 .i8) (x10 x11 : Vec Ideal S1x3072 .f32) : FVec Ideal S384x512 .f32 := k0_pay38 (k0_pay35 h14 (h17 h15) (a9_4 x9) (a10_4 x10)) (k0_pay36 (a10_4 x11))

theorem g4_at (h14 : FVec Ideal S384x1 .f32) (h15 : FVec Ideal S384x768 .f32) (x9 : Vec Ideal S768x3072 .i8) (x10 x11 : Vec Ideal S1x3072 .f32) (r : Fin 384) (l : Fin 512) : g4 h14 h15 x9 x10 x11 (ix2 r l) = gRow h14 h15 x9 x10 x11 r (at512 4 l) := by
  unfold g4
  exact (pay38_at _ _ r l).trans (inner4_at h14 h15 x9 x10 x11 r l)

theorem inner5_at (h14 : FVec Ideal S384x1 .f32) (h15 : FVec Ideal S384x768 .f32) (x9 : Vec Ideal S768x3072 .i8) (x10 x11 : Vec Ideal S1x3072 .f32) (r : Fin 384) (l : Fin 512) :
    (k0_pay40 h14 (h17 h15) (a9_5 x9) (a10_5 x10) (a10_5 x11)) (ix2 r l) = gRow h14 h15 x9 x10 x11 r (at512 5 l) := by
  refine (pay40_at _ _ _ _ _ r l).trans ?_
  unfold linAt
  simp only [a9_5_at, a10_5_at]
  rfl

/-- The activation's last 512 columns. -/
def g5 (h14 : FVec Ideal S384x1 .f32) (h15 : FVec Ideal S384x768 .f32) (x9 : Vec Ideal S768x3072 .i8) (x10 x11 : Vec Ideal S1x3072 .f32) : FVec Ideal S384x512 .f32 := k0_pay41 h14 (h17 h15) (a9_5 x9) (a10_5 x10) (a10_5 x11)

theorem g5_at (h14 : FVec Ideal S384x1 .f32) (h15 : FVec Ideal S384x768 .f32) (x9 : Vec Ideal S768x3072 .i8) (x10 x11 : Vec Ideal S1x3072 .f32) (r : Fin 384) (l : Fin 512) : g5 h14 h15 x9 x10 x11 (ix2 r l) = gRow h14 h15 x9 x10 x11 r (at512 5 l) := by
  unfold g5
  exact (pay41_at _ _ _ _ _ r l).trans (inner5_at h14 h15 x9 x10 x11 r l)

/-- The largest absolute value over the first five tiles. -/
def m39 (h14 : FVec Ideal S384x1 .f32) (h15 : FVec Ideal S384x768 .f32) (x9 : Vec Ideal S768x3072 .i8) (x10 x11 : Vec Ideal S1x3072 .f32) : FVec Ideal S384x1 .f32 := k0_pay39 (k0_pay34 h14 (h17 h15) (k0_pay31 h14 (h17 h15) (k0_pay24 h14 k0_pay20 (k0_pay21 h15 127#32 k0_pay16 (a9_0 x9)) (a10_0 x10) (a10_0 x11)) (k0_pay25 h14 (h17 h15) (a9_1 x9) (a10_1 x10) (a10_1 x11)) (k0_pay26 h14 (h17 h15) (a9_1 x9) (a10_1 x10) (a10_1 x11)) (FloatOps.ofBits .f32 1068827891#32) (a9_2 x9) (a10_2 x10) (a10_2 x11)) (a9_3 x9) (a10_3 x10) (a10_3 x11)) (k0_pay35 h14 (h17 h15) (a9_4 x9) (a10_4 x10)) (k0_pay36 (a10_4 x11))

/-- The activation's last 512 columns, as the scale reads them. -/
def p40 (h14 : FVec Ideal S384x1 .f32) (h15 : FVec Ideal S384x768 .f32) (x9 : Vec Ideal S768x3072 .i8) (x10 x11 : Vec Ideal S1x3072 .f32) : FVec Ideal S384x512 .f32 := k0_pay40 h14 (h17 h15) (a9_5 x9) (a10_5 x10) (a10_5 x11)

/-- The activation's scales. -/
def s42 (h14 : FVec Ideal S384x1 .f32) (h15 : FVec Ideal S384x768 .f32) (x9 : Vec Ideal S768x3072 .i8) (x10 x11 : Vec Ideal S1x3072 .f32) : FVec Ideal S384x1 .f32 := k0_pay42 (m39 h14 h15 x9 x10 x11) (p40 h14 h15 x9 x10 x11)

theorem s42_at (h14 : FVec Ideal S384x1 .f32) (h15 : FVec Ideal S384x768 .f32) (x9 : Vec Ideal S768x3072 .i8) (x10 x11 : Vec Ideal S1x3072 .f32) (r : Fin 384) : s42 h14 h15 x9 x10 x11 (ix2 r 0) = scale (gRow h14 h15 x9 x10 x11 r) := by
  unfold s42 m39 p40
  rw [pay42_at, pay39_at, pay34_at, pay31_at, pay24_at, pay20_at]
  simp only [inner0_at, inner1_at, inner2_at, inner3_at, inner4_at, inner5_at]
  unfold scale
  rw [← amax_chunks (gRow h14 h15 x9 x10 x11 r)]
  rfl

end Cert.TailIdeal.Gen

end
-- ==== Proof.KernelScratch.lean ====
/- What the second pass reads back of the stored activation, and the product and codes it makes of it. -/
module

public import proofs.«01_k».proof.Proof.KernelAct

@[expose] public section

set_option maxRecDepth 16384

noncomputable section

namespace Cert.TailIdeal.Gen

open Idealize.ShloMosaic Idealize.ShloMosaic.TcCoe Idealize.SL.Sem Cert.Rows

/-- Tile 0 of the activation. -/
abbrev rc0 : Rect S384x3072 := Rect.unit ![0, 0] ![384, 512] inb_S384x3072_S384x512_0_0

/-- Tile 0 of the activation's codes. -/
abbrev ro0 : Rect S1x384x3072 := Rect.unit ![0, 0, 0] ![1, 384, 512] inb_S1x384x3072_S1x384x512_0_0_0

/-- Tile 1 of the activation. -/
abbrev rc1 : Rect S384x3072 := Rect.unit ![0, 512] ![384, 512] inb_S384x3072_S384x512_0_512

/-- Tile 1 of the activation's codes. -/
abbrev ro1 : Rect S1x384x3072 := Rect.unit ![0, 0, 512] ![1, 384, 512] inb_S1x384x3072_S1x384x512_0_0_512

/-- Tile 2 of the activation. -/
abbrev rc2 : Rect S384x3072 := Rect.unit ![0, 1024] ![384, 512] inb_S384x3072_S384x512_0_1024

/-- Tile 2 of the activation's codes. -/
abbrev ro2 : Rect S1x384x3072 := Rect.unit ![0, 0, 1024] ![1, 384, 512] inb_S1x384x3072_S1x384x512_0_0_1024

/-- Tile 3 of the activation. -/
abbrev rc3 : Rect S384x3072 := Rect.unit ![0, 1536] ![384, 512] inb_S384x3072_S384x512_0_1536

/-- Tile 3 of the activation's codes. -/
abbrev ro3 : Rect S1x384x3072 := Rect.unit ![0, 0, 1536] ![1, 384, 512] inb_S1x384x3072_S1x384x512_0_0_1536

/-- Tile 4 of the activation. -/
abbrev rc4 : Rect S384x3072 := Rect.unit ![0, 2048] ![384, 512] inb_S384x3072_S384x512_0_2048

/-- Tile 4 of the activation's codes. -/
abbrev ro4 : Rect S1x384x3072 := Rect.unit ![0, 0, 2048] ![1, 384, 512] inb_S1x384x3072_S1x384x512_0_0_2048

/-- Tile 5 of the activation. -/
abbrev rc5 : Rect S384x3072 := Rect.unit ![0, 2560] ![384, 512] inb_S384x3072_S384x512_0_2560

/-- Tile 5 of the activation's codes. -/
abbrev ro5 : Rect S1x384x3072 := Rect.unit ![0, 0, 2560] ![1, 384, 512] inb_S1x384x3072_S1x384x512_0_0_2560

/-- The tiles the activation is stored in, last first. -/
def pieces (h14 : FVec Ideal S384x1 .f32) (h15 : FVec Ideal S384x768 .f32) (x9 : Vec Ideal S768x3072 .i8) (x10 x11 : Vec Ideal S1x3072 .f32) : List (View.Piece (Elt Ideal) S384x3072 .f32) :=
  [⟨rc5, g5 h14 h15 x9 x10 x11⟩, ⟨rc4, g4 h14 h15 x9 x10 x11⟩, ⟨rc3, g3 h14 h15 x9 x10 x11⟩, ⟨rc2, g2 h14 h15 x9 x10 x11⟩, ⟨rc1, g1 h14 h15 x9 x10 x11⟩, ⟨rc0, g0 h14 h15 x9 x10 x11⟩]

/-- The whole activation. -/
def gAll (h14 : FVec Ideal S384x1 .f32) (h15 : FVec Ideal S384x768 .f32) (x9 : Vec Ideal S768x3072 .i8) (x10 x11 : Vec Ideal S1x3072 .f32) (y : S384x3072.Idx) : EReal := gRow h14 h15 x9 x10 x11 (y 0) (y 1)

theorem gAll_emb0 (h14 : FVec Ideal S384x1 .f32) (h15 : FVec Ideal S384x768 .f32) (x9 : Vec Ideal S768x3072 .i8) (x10 x11 : Vec Ideal S1x3072 .f32) (x : rc0.shape.Idx) :
    g0 h14 h15 x9 x10 x11 x = gAll h14 h15 x9 x10 x11 (rc0.emb x) := by
  have hx : x = ix2 (x 0) (x 1) := by funext a; fin_cases a <;> rfl
  rw [hx]
  refine (g0_at h14 h15 x9 x10 x11 (x 0) (x 1)).trans ?_
  show gRow h14 h15 x9 x10 x11 _ _ = gRow h14 h15 x9 x10 x11 _ _
  congr 1
  · exact Fin.ext (show (x 0).val = 0 + 1 * (x 0).val by omega)
  · exact Fin.ext (show 512 * 0 + (x 1).val = 0 + 1 * (x 1).val by omega)

theorem gAll_emb1 (h14 : FVec Ideal S384x1 .f32) (h15 : FVec Ideal S384x768 .f32) (x9 : Vec Ideal S768x3072 .i8) (x10 x11 : Vec Ideal S1x3072 .f32) (x : rc1.shape.Idx) :
    g1 h14 h15 x9 x10 x11 x = gAll h14 h15 x9 x10 x11 (rc1.emb x) := by
  have hx : x = ix2 (x 0) (x 1) := by funext a; fin_cases a <;> rfl
  rw [hx]
  refine (g1_at h14 h15 x9 x10 x11 (x 0) (x 1)).trans ?_
  show gRow h14 h15 x9 x10 x11 _ _ = gRow h14 h15 x9 x10 x11 _ _
  congr 1
  · exact Fin.ext (show (x 0).val = 0 + 1 * (x 0).val by omega)
  · exact Fin.ext (show 512 * 1 + (x 1).val = 512 + 1 * (x 1).val by omega)

theorem gAll_emb2 (h14 : FVec Ideal S384x1 .f32) (h15 : FVec Ideal S384x768 .f32) (x9 : Vec Ideal S768x3072 .i8) (x10 x11 : Vec Ideal S1x3072 .f32) (x : rc2.shape.Idx) :
    g2 h14 h15 x9 x10 x11 x = gAll h14 h15 x9 x10 x11 (rc2.emb x) := by
  have hx : x = ix2 (x 0) (x 1) := by funext a; fin_cases a <;> rfl
  rw [hx]
  refine (g2_at h14 h15 x9 x10 x11 (x 0) (x 1)).trans ?_
  show gRow h14 h15 x9 x10 x11 _ _ = gRow h14 h15 x9 x10 x11 _ _
  congr 1
  · exact Fin.ext (show (x 0).val = 0 + 1 * (x 0).val by omega)
  · exact Fin.ext (show 512 * 2 + (x 1).val = 1024 + 1 * (x 1).val by omega)

theorem gAll_emb3 (h14 : FVec Ideal S384x1 .f32) (h15 : FVec Ideal S384x768 .f32) (x9 : Vec Ideal S768x3072 .i8) (x10 x11 : Vec Ideal S1x3072 .f32) (x : rc3.shape.Idx) :
    g3 h14 h15 x9 x10 x11 x = gAll h14 h15 x9 x10 x11 (rc3.emb x) := by
  have hx : x = ix2 (x 0) (x 1) := by funext a; fin_cases a <;> rfl
  rw [hx]
  refine (g3_at h14 h15 x9 x10 x11 (x 0) (x 1)).trans ?_
  show gRow h14 h15 x9 x10 x11 _ _ = gRow h14 h15 x9 x10 x11 _ _
  congr 1
  · exact Fin.ext (show (x 0).val = 0 + 1 * (x 0).val by omega)
  · exact Fin.ext (show 512 * 3 + (x 1).val = 1536 + 1 * (x 1).val by omega)

theorem gAll_emb4 (h14 : FVec Ideal S384x1 .f32) (h15 : FVec Ideal S384x768 .f32) (x9 : Vec Ideal S768x3072 .i8) (x10 x11 : Vec Ideal S1x3072 .f32) (x : rc4.shape.Idx) :
    g4 h14 h15 x9 x10 x11 x = gAll h14 h15 x9 x10 x11 (rc4.emb x) := by
  have hx : x = ix2 (x 0) (x 1) := by funext a; fin_cases a <;> rfl
  rw [hx]
  refine (g4_at h14 h15 x9 x10 x11 (x 0) (x 1)).trans ?_
  show gRow h14 h15 x9 x10 x11 _ _ = gRow h14 h15 x9 x10 x11 _ _
  congr 1
  · exact Fin.ext (show (x 0).val = 0 + 1 * (x 0).val by omega)
  · exact Fin.ext (show 512 * 4 + (x 1).val = 2048 + 1 * (x 1).val by omega)

theorem gAll_emb5 (h14 : FVec Ideal S384x1 .f32) (h15 : FVec Ideal S384x768 .f32) (x9 : Vec Ideal S768x3072 .i8) (x10 x11 : Vec Ideal S1x3072 .f32) (x : rc5.shape.Idx) :
    g5 h14 h15 x9 x10 x11 x = gAll h14 h15 x9 x10 x11 (rc5.emb x) := by
  have hx : x = ix2 (x 0) (x 1) := by funext a; fin_cases a <;> rfl
  rw [hx]
  refine (g5_at h14 h15 x9 x10 x11 (x 0) (x 1)).trans ?_
  show gRow h14 h15 x9 x10 x11 _ _ = gRow h14 h15 x9 x10 x11 _ _
  congr 1
  · exact Fin.ext (show (x 0).val = 0 + 1 * (x 0).val by omega)
  · exact Fin.ext (show 512 * 5 + (x 1).val = 2560 + 1 * (x 1).val by omega)

theorem canon_pieces (h14 : FVec Ideal S384x1 .f32) (h15 : FVec Ideal S384x768 .f32) (x9 : Vec Ideal S768x3072 .i8) (x10 x11 : Vec Ideal S1x3072 .f32) (y : S384x3072.Idx) : View.canon (pieces h14 h15 x9 x10 x11) y = gAll h14 h15 x9 x10 x11 y := by
  refine View.canon_apply_of_pieces (Val := Elt Ideal) (e := .f32) (gAll h14 h15 x9 x10 x11) (pieces h14 h15 x9 x10 x11) ?_ y ?_
  · intro p hp
    unfold pieces at hp
    simp only [List.mem_cons, List.not_mem_nil, or_false] at hp
    rcases hp with rfl | rfl | rfl | rfl | rfl | rfl
    · exact gAll_emb5 h14 h15 x9 x10 x11
    · exact gAll_emb4 h14 h15 x9 x10 x11
    · exact gAll_emb3 h14 h15 x9 x10 x11
    · exact gAll_emb2 h14 h15 x9 x10 x11
    · exact gAll_emb1 h14 h15 x9 x10 x11
    · exact gAll_emb0 h14 h15 x9 x10 x11
  · unfold pieces
    have h0 : (y 0).val < 384 := (y 0).isLt
    have h1 : (y 1).val < 3072 := (y 1).isLt
    simp only [List.mem_cons, List.not_mem_nil, or_false, exists_eq_or_imp, exists_eq_left, Rect.mem_set_unit]
    have e : ∀ c, c ≤ (y 1).val → (y 1).val < c + 512 → ∀ a : Fin 2, ![0, c] a ≤ (y a).val ∧ (y a).val < ![0, c] a + ![384, 512] a := by
      intro c hl hh a
      fin_cases a
      · exact ⟨Nat.zero_le _, by show (y 0).val < 0 + 384; omega⟩
      · exact ⟨hl, hh⟩
    rcases (by omega : (2560 ≤ (y 1).val ∧ (y 1).val < 2560 + 512) ∨ (2048 ≤ (y 1).val ∧ (y 1).val < 2048 + 512) ∨ (1536 ≤ (y 1).val ∧ (y 1).val < 1536 + 512)
      ∨ (1024 ≤ (y 1).val ∧ (y 1).val < 1024 + 512) ∨ (512 ≤ (y 1).val ∧ (y 1).val < 512 + 512) ∨ (0 ≤ (y 1).val ∧ (y 1).val < 0 + 512)) with h | h | h | h | h | h
    · exact .inl (e _ h.1 h.2)
    · exact .inr (.inl (e _ h.1 h.2))
    · exact .inr (.inr (.inl (e _ h.1 h.2)))
    · exact .inr (.inr (.inr (.inl (e _ h.1 h.2))))
    · exact .inr (.inr (.inr (.inr (.inl (e _ h.1 h.2)))))
    · exact .inr (.inr (.inr (.inr (.inr (e _ h.1 h.2)))))

/-- What the second pass reads of tile 0. -/
def rd0 (sc : Memref sig .tc .vmem S384x3072 .f32) (h14 : FVec Ideal S384x1 .f32) (h15 : FVec Ideal S384x768 .f32) (x9 : Vec Ideal S768x3072 .i8) (x10 x11 : Vec Ideal S1x3072 .f32) : Vec Ideal S384x512 .f32 :=
  sc.view.readCov (pieces h14 h15 x9 x10 x11) rc0.toLoadRect

theorem rd0_at (sc : Memref sig .tc .vmem S384x3072 .f32) (h14 : FVec Ideal S384x1 .f32) (h15 : FVec Ideal S384x768 .f32) (x9 : Vec Ideal S768x3072 .i8) (x10 x11 : Vec Ideal S1x3072 .f32) (r : Fin 384) (l : Fin 512) : rd0 sc h14 h15 x9 x10 x11 (ix2 r l) = gRow h14 h15 x9 x10 x11 r (at512 0 l) := by
  unfold rd0
  rw [View.readCov_eq_canon']
  refine (canon_pieces h14 h15 x9 x10 x11 _).trans ?_
  show gRow h14 h15 x9 x10 x11 _ _ = gRow h14 h15 x9 x10 x11 _ _
  congr 1
  · exact Fin.ext (show 0 + 1 * r.val = r.val by omega)
  · exact Fin.ext (show 0 + 1 * l.val = 512 * 0 + l.val by omega)

/-- What the second pass reads of tile 1. -/
def rd1 (sc : Memref sig .tc .vmem S384x3072 .f32) (h14 : FVec Ideal S384x1 .f32) (h15 : FVec Ideal S384x768 .f32) (x9 : Vec Ideal S768x3072 .i8) (x10 x11 : Vec Ideal S1x3072 .f32) : Vec Ideal S384x512 .f32 :=
  sc.view.readCov (pieces h14 h15 x9 x10 x11) rc1.toLoadRect

theorem rd1_at (sc : Memref sig .tc .vmem S384x3072 .f32) (h14 : FVec Ideal S384x1 .f32) (h15 : FVec Ideal S384x768 .f32) (x9 : Vec Ideal S768x3072 .i8) (x10 x11 : Vec Ideal S1x3072 .f32) (r : Fin 384) (l : Fin 512) : rd1 sc h14 h15 x9 x10 x11 (ix2 r l) = gRow h14 h15 x9 x10 x11 r (at512 1 l) := by
  unfold rd1
  rw [View.readCov_eq_canon']
  refine (canon_pieces h14 h15 x9 x10 x11 _).trans ?_
  show gRow h14 h15 x9 x10 x11 _ _ = gRow h14 h15 x9 x10 x11 _ _
  congr 1
  · exact Fin.ext (show 0 + 1 * r.val = r.val by omega)
  · exact Fin.ext (show 512 + 1 * l.val = 512 * 1 + l.val by omega)

/-- What the second pass reads of tile 2. -/
def rd2 (sc : Memref sig .tc .vmem S384x3072 .f32) (h14 : FVec Ideal S384x1 .f32) (h15 : FVec Ideal S384x768 .f32) (x9 : Vec Ideal S768x3072 .i8) (x10 x11 : Vec Ideal S1x3072 .f32) : Vec Ideal S384x512 .f32 :=
  sc.view.readCov (pieces h14 h15 x9 x10 x11) rc2.toLoadRect

theorem rd2_at (sc : Memref sig .tc .vmem S384x3072 .f32) (h14 : FVec Ideal S384x1 .f32) (h15 : FVec Ideal S384x768 .f32) (x9 : Vec Ideal S768x3072 .i8) (x10 x11 : Vec Ideal S1x3072 .f32) (r : Fin 384) (l : Fin 512) : rd2 sc h14 h15 x9 x10 x11 (ix2 r l) = gRow h14 h15 x9 x10 x11 r (at512 2 l) := by
  unfold rd2
  rw [View.readCov_eq_canon']
  refine (canon_pieces h14 h15 x9 x10 x11 _).trans ?_
  show gRow h14 h15 x9 x10 x11 _ _ = gRow h14 h15 x9 x10 x11 _ _
  congr 1
  · exact Fin.ext (show 0 + 1 * r.val = r.val by omega)
  · exact Fin.ext (show 1024 + 1 * l.val = 512 * 2 + l.val by omega)

/-- What the second pass reads of tile 3. -/
def rd3 (sc : Memref sig .tc .vmem S384x3072 .f32) (h14 : FVec Ideal S384x1 .f32) (h15 : FVec Ideal S384x768 .f32) (x9 : Vec Ideal S768x3072 .i8) (x10 x11 : Vec Ideal S1x3072 .f32) : Vec Ideal S384x512 .f32 :=
  sc.view.readCov (pieces h14 h15 x9 x10 x11) rc3.toLoadRect

theorem rd3_at (sc : Memref sig .tc .vmem S384x3072 .f32) (h14 : FVec Ideal S384x1 .f32) (h15 : FVec Ideal S384x768 .f32) (x9 : Vec Ideal S768x3072 .i8) (x10 x11 : Vec Ideal S1x3072 .f32) (r : Fin 384) (l : Fin 512) : rd3 sc h14 h15 x9 x10 x11 (ix2 r l) = gRow h14 h15 x9 x10 x11 r (at512 3 l) := by
  unfold rd3
  rw [View.readCov_eq_canon']
  refine (canon_pieces h14 h15 x9 x10 x11 _).trans ?_
  show gRow h14 h15 x9 x10 x11 _ _ = gRow h14 h15 x9 x10 x11 _ _
  congr 1
  · exact Fin.ext (show 0 + 1 * r.val = r.val by omega)
  · exact Fin.ext (show 1536 + 1 * l.val = 512 * 3 + l.val by omega)

/-- What the second pass reads of tile 4. -/
def rd4 (sc : Memref sig .tc .vmem S384x3072 .f32) (h14 : FVec Ideal S384x1 .f32) (h15 : FVec Ideal S384x768 .f32) (x9 : Vec Ideal S768x3072 .i8) (x10 x11 : Vec Ideal S1x3072 .f32) : Vec Ideal S384x512 .f32 :=
  sc.view.readCov (pieces h14 h15 x9 x10 x11) rc4.toLoadRect

theorem rd4_at (sc : Memref sig .tc .vmem S384x3072 .f32) (h14 : FVec Ideal S384x1 .f32) (h15 : FVec Ideal S384x768 .f32) (x9 : Vec Ideal S768x3072 .i8) (x10 x11 : Vec Ideal S1x3072 .f32) (r : Fin 384) (l : Fin 512) : rd4 sc h14 h15 x9 x10 x11 (ix2 r l) = gRow h14 h15 x9 x10 x11 r (at512 4 l) := by
  unfold rd4
  rw [View.readCov_eq_canon']
  refine (canon_pieces h14 h15 x9 x10 x11 _).trans ?_
  show gRow h14 h15 x9 x10 x11 _ _ = gRow h14 h15 x9 x10 x11 _ _
  congr 1
  · exact Fin.ext (show 0 + 1 * r.val = r.val by omega)
  · exact Fin.ext (show 2048 + 1 * l.val = 512 * 4 + l.val by omega)

/-- What the second pass reads of tile 5. -/
def rd5 (sc : Memref sig .tc .vmem S384x3072 .f32) (h14 : FVec Ideal S384x1 .f32) (h15 : FVec Ideal S384x768 .f32) (x9 : Vec Ideal S768x3072 .i8) (x10 x11 : Vec Ideal S1x3072 .f32) : Vec Ideal S384x512 .f32 :=
  sc.view.readCov (pieces h14 h15 x9 x10 x11) rc5.toLoadRect

theorem rd5_at (sc : Memref sig .tc .vmem S384x3072 .f32) (h14 : FVec Ideal S384x1 .f32) (h15 : FVec Ideal S384x768 .f32) (x9 : Vec Ideal S768x3072 .i8) (x10 x11 : Vec Ideal S1x3072 .f32) (r : Fin 384) (l : Fin 512) : rd5 sc h14 h15 x9 x10 x11 (ix2 r l) = gRow h14 h15 x9 x10 x11 r (at512 5 l) := by
  unfold rd5
  rw [View.readCov_eq_canon']
  refine (canon_pieces h14 h15 x9 x10 x11 _).trans ?_
  show gRow h14 h15 x9 x10 x11 _ _ = gRow h14 h15 x9 x10 x11 _ _
  congr 1
  · exact Fin.ext (show 0 + 1 * r.val = r.val by omega)
  · exact Fin.ext (show 2560 + 1 * l.val = 512 * 5 + l.val by omega)

/-- The second feed-forward product, tile by tile, times the activation's scales. -/
def z62 (sc : Memref sig .tc .vmem S384x3072 .f32) (h14 : FVec Ideal S384x1 .f32) (h15 : FVec Ideal S384x768 .f32) (x9 : Vec Ideal S768x3072 .i8) (x10 x11 : Vec Ideal S1x3072 .f32) (x12 : Vec Ideal S3072x768 .i8) : FVec Ideal S384x768 .f32 :=
  k0_pay62 (s42 h14 h15 x9 x10 x11) (k0_pay56 (s42 h14 h15 x9 x10 x11) (k0_pay50 (s42 h14 h15 x9 x10 x11) k0_pay44 (k0_pay45 (m39 h14 h15 x9 x10 x11) (p40 h14 h15 x9 x10 x11) (rd0 sc h14 h15 x9 x10 x11)) (a12_0 x12) (rd1 sc h14 h15 x9 x10 x11) (a12_1 x12)) (k0_pay51 (s42 h14 h15 x9 x10 x11) (rd2 sc h14 h15 x9 x10 x11)) (a12_2 x12) (rd3 sc h14 h15 x9 x10 x11) (a12_3 x12)) (k0_pay57 (s42 h14 h15 x9 x10 x11) (rd4 sc h14 h15 x9 x10 x11)) (a12_4 x12) (rd5 sc h14 h15 x9 x10 x11) (a12_5 x12)

theorem z62_at (sc : Memref sig .tc .vmem S384x3072 .f32) (h14 : FVec Ideal S384x1 .f32) (h15 : FVec Ideal S384x768 .f32) (x9 : Vec Ideal S768x3072 .i8) (x10 x11 : Vec Ideal S1x3072 .f32) (x12 : Vec Ideal S3072x768 .i8) (r : Fin 384) (j : Fin 768) :
    z62 sc h14 h15 x9 x10 x11 x12 (ix2 r j) = (∑ l, q (gRow h14 h15 x9 x10 x11 r l) (scale (gRow h14 h15 x9 x10 x11 r)) * num (x12 (ix2 l j))) * scale (gRow h14 h15 x9 x10 x11 r) := by
  unfold z62
  rw [pay62_at, pay56_at, pay50_at, pay44_at]
  simp only [pay46_at, pay48_at, pay52_at, pay54_at, pay58_at, pay60_at, rd0_at, rd1_at, rd2_at, rd3_at, rd4_at, rd5_at,
    a12_0_at, a12_1_at, a12_2_at, a12_3_at, a12_4_at, a12_5_at]
  have hs : k0_pay42 (m39 h14 h15 x9 x10 x11) (p40 h14 h15 x9 x10 x11) (ix2 r 0) = scale (gRow h14 h15 x9 x10 x11 r) := s42_at h14 h15 x9 x10 x11 r
  rw [hs, s42_at]
  rw [← sum_chunks (fun l => q (gRow h14 h15 x9 x10 x11 r l) (scale (gRow h14 h15 x9 x10 x11 r)) * num (x12 (ix2 l j)))]

/-- The tiles the activation's codes are stored in, last first. -/
def cpieces (sc : Memref sig .tc .vmem S384x3072 .f32) (h14 : FVec Ideal S384x1 .f32) (h15 : FVec Ideal S384x768 .f32) (x9 : Vec Ideal S768x3072 .i8) (x10 x11 : Vec Ideal S1x3072 .f32) : List (View.Piece (Elt Ideal) S1x384x3072 .i8) :=
  [⟨ro5, k0_pay61 (s42 h14 h15 x9 x10 x11) (rd5 sc h14 h15 x9 x10 x11)⟩, ⟨ro4, k0_pay59 (k0_pay57 (s42 h14 h15 x9 x10 x11) (rd4 sc h14 h15 x9 x10 x11))⟩, ⟨ro3, k0_pay55 (s42 h14 h15 x9 x10 x11) (rd3 sc h14 h15 x9 x10 x11)⟩, ⟨ro2, k0_pay53 (k0_pay51 (s42 h14 h15 x9 x10 x11) (rd2 sc h14 h15 x9 x10 x11))⟩, ⟨ro1, k0_pay49 (s42 h14 h15 x9 x10 x11) (rd1 sc h14 h15 x9 x10 x11)⟩, ⟨ro0, k0_pay47 (k0_pay45 (m39 h14 h15 x9 x10 x11) (p40 h14 h15 x9 x10 x11) (rd0 sc h14 h15 x9 x10 x11))⟩]

/-- All codes of the activation. -/
def cAll (h14 : FVec Ideal S384x1 .f32) (h15 : FVec Ideal S384x768 .f32) (x9 : Vec Ideal S768x3072 .i8) (x10 x11 : Vec Ideal S1x3072 .f32) (y : S1x384x3072.Idx) : BitVec 8 := code (gRow h14 h15 x9 x10 x11 (y 1) (y 2)) (scale (gRow h14 h15 x9 x10 x11 (y 1)))

theorem cAll_emb0 (sc : Memref sig .tc .vmem S384x3072 .f32) (h14 : FVec Ideal S384x1 .f32) (h15 : FVec Ideal S384x768 .f32) (x9 : Vec Ideal S768x3072 .i8) (x10 x11 : Vec Ideal S1x3072 .f32) (x : ro0.shape.Idx) :
    (k0_pay47 (k0_pay45 (m39 h14 h15 x9 x10 x11) (p40 h14 h15 x9 x10 x11) (rd0 sc h14 h15 x9 x10 x11))) x = cAll h14 h15 x9 x10 x11 (ro0.emb x) := by
  obtain ⟨r, l, rfl⟩ : ∃ (r : Fin 384) (l : Fin 512), x = ix3 0 r l := by
    have h0 : (x 0).val < 1 := (x 0).isLt
    refine ⟨x 1, x 2, ?_⟩
    funext a; fin_cases a
    · exact Fin.ext (show (x 0).val = 0 by omega)
    · rfl
    · rfl
  have e : ro0.emb (ix3 0 r l) = ix3 0 r (at512 0 l) := by
    funext a; fin_cases a
    · rfl
    · exact Fin.ext (show 0 + 1 * r.val = r.val by omega)
    · exact Fin.ext (show 0 + 1 * l.val = 512 * 0 + l.val by omega)
  rw [e]
  refine (pay47_at _ _ _ r l).trans ?_
  rw [rd0_at]
  exact congrArg (code _) (s42_at h14 h15 x9 x10 x11 r)

theorem cAll_emb1 (sc : Memref sig .tc .vmem S384x3072 .f32) (h14 : FVec Ideal S384x1 .f32) (h15 : FVec Ideal S384x768 .f32) (x9 : Vec Ideal S768x3072 .i8) (x10 x11 : Vec Ideal S1x3072 .f32) (x : ro1.shape.Idx) :
    (k0_pay49 (s42 h14 h15 x9 x10 x11) (rd1 sc h14 h15 x9 x10 x11)) x = cAll h14 h15 x9 x10 x11 (ro1.emb x) := by
  obtain ⟨r, l, rfl⟩ : ∃ (r : Fin 384) (l : Fin 512), x = ix3 0 r l := by
    have h0 : (x 0).val < 1 := (x 0).isLt
    refine ⟨x 1, x 2, ?_⟩
    funext a; fin_cases a
    · exact Fin.ext (show (x 0).val = 0 by omega)
    · rfl
    · rfl
  have e : ro1.emb (ix3 0 r l) = ix3 0 r (at512 1 l) := by
    funext a; fin_cases a
    · rfl
    · exact Fin.ext (show 0 + 1 * r.val = r.val by omega)
    · exact Fin.ext (show 512 + 1 * l.val = 512 * 1 + l.val by omega)
  rw [e]
  refine (pay49_at _ _ r l).trans ?_
  rw [rd1_at]
  exact congrArg (code _) (s42_at h14 h15 x9 x10 x11 r)

theorem cAll_emb2 (sc : Memref sig .tc .vmem S384x3072 .f32) (h14 : FVec Ideal S384x1 .f32) (h15 : FVec Ideal S384x768 .f32) (x9 : Vec Ideal S768x3072 .i8) (x10 x11 : Vec Ideal S1x3072 .f32) (x : ro2.shape.Idx) :
    (k0_pay53 (k0_pay51 (s42 h14 h15 x9 x10 x11) (rd2 sc h14 h15 x9 x10 x11))) x = cAll h14 h15 x9 x10 x11 (ro2.emb x) := by
  obtain ⟨r, l, rfl⟩ : ∃ (r : Fin 384) (l : Fin 512), x = ix3 0 r l := by
    have h0 : (x 0).val < 1 := (x 0).isLt
    refine ⟨x 1, x 2, ?_⟩
    funext a; fin_cases a
    · exact Fin.ext (show (x 0).val = 0 by omega)
    · rfl
    · rfl
  have e : ro2.emb (ix3 0 r l) = ix3 0 r (at512 2 l) := by
    funext a; fin_cases a
    · rfl
    · exact Fin.ext (show 0 + 1 * r.val = r.val by omega)
    · exact Fin.ext (show 1024 + 1 * l.val = 512 * 2 + l.val by omega)
  rw [e]
  refine (pay53_at _ _ r l).trans ?_
  rw [rd2_at]
  exact congrArg (code _) (s42_at h14 h15 x9 x10 x11 r)

theorem cAll_emb3 (sc : Memref sig .tc .vmem S384x3072 .f32) (h14 : FVec Ideal S384x1 .f32) (h15 : FVec Ideal S384x768 .f32) (x9 : Vec Ideal S768x3072 .i8) (x10 x11 : Vec Ideal S1x3072 .f32) (x : ro3.shape.Idx) :
    (k0_pay55 (s42 h14 h15 x9 x10 x11) (rd3 sc h14 h15 x9 x10 x11)) x = cAll h14 h15 x9 x10 x11 (ro3.emb x) := by
  obtain ⟨r, l, rfl⟩ : ∃ (r : Fin 384) (l : Fin 512), x = ix3 0 r l := by
    have h0 : (x 0).val < 1 := (x 0).isLt
    refine ⟨x 1, x 2, ?_⟩
    funext a; fin_cases a
    · exact Fin.ext (show (x 0).val = 0 by omega)
    · rfl
    · rfl
  have e : ro3.emb (ix3 0 r l) = ix3 0 r (at512 3 l) := by
    funext a; fin_cases a
    · rfl
    · exact Fin.ext (show 0 + 1 * r.val = r.val by omega)
    · exact Fin.ext (show 1536 + 1 * l.val = 512 * 3 + l.val by omega)
  rw [e]
  refine (pay55_at _ _ r l).trans ?_
  rw [rd3_at]
  exact congrArg (code _) (s42_at h14 h15 x9 x10 x11 r)

theorem cAll_emb4 (sc : Memref sig .tc .vmem S384x3072 .f32) (h14 : FVec Ideal S384x1 .f32) (h15 : FVec Ideal S384x768 .f32) (x9 : Vec Ideal S768x3072 .i8) (x10 x11 : Vec Ideal S1x3072 .f32) (x : ro4.shape.Idx) :
    (k0_pay59 (k0_pay57 (s42 h14 h15 x9 x10 x11) (rd4 sc h14 h15 x9 x10 x11))) x = cAll h14 h15 x9 x10 x11 (ro4.emb x) := by
  obtain ⟨r, l, rfl⟩ : ∃ (r : Fin 384) (l : Fin 512), x = ix3 0 r l := by
    have h0 : (x 0).val < 1 := (x 0).isLt
    refine ⟨x 1, x 2, ?_⟩
    funext a; fin_cases a
    · exact Fin.ext (show (x 0).val = 0 by omega)
    · rfl
    · rfl
  have e : ro4.emb (ix3 0 r l) = ix3 0 r (at512 4 l) := by
    funext a; fin_cases a
    · rfl
    · exact Fin.ext (show 0 + 1 * r.val = r.val by omega)
    · exact Fin.ext (show 2048 + 1 * l.val = 512 * 4 + l.val by omega)
  rw [e]
  refine (pay59_at _ _ r l).trans ?_
  rw [rd4_at]
  exact congrArg (code _) (s42_at h14 h15 x9 x10 x11 r)

theorem cAll_emb5 (sc : Memref sig .tc .vmem S384x3072 .f32) (h14 : FVec Ideal S384x1 .f32) (h15 : FVec Ideal S384x768 .f32) (x9 : Vec Ideal S768x3072 .i8) (x10 x11 : Vec Ideal S1x3072 .f32) (x : ro5.shape.Idx) :
    (k0_pay61 (s42 h14 h15 x9 x10 x11) (rd5 sc h14 h15 x9 x10 x11)) x = cAll h14 h15 x9 x10 x11 (ro5.emb x) := by
  obtain ⟨r, l, rfl⟩ : ∃ (r : Fin 384) (l : Fin 512), x = ix3 0 r l := by
    have h0 : (x 0).val < 1 := (x 0).isLt
    refine ⟨x 1, x 2, ?_⟩
    funext a; fin_cases a
    · exact Fin.ext (show (x 0).val = 0 by omega)
    · rfl
    · rfl
  have e : ro5.emb (ix3 0 r l) = ix3 0 r (at512 5 l) := by
    funext a; fin_cases a
    · rfl
    · exact Fin.ext (show 0 + 1 * r.val = r.val by omega)
    · exact Fin.ext (show 2560 + 1 * l.val = 512 * 5 + l.val by omega)
  rw [e]
  refine (pay61_at _ _ r l).trans ?_
  rw [rd5_at]
  exact congrArg (code _) (s42_at h14 h15 x9 x10 x11 r)

theorem canon_cpieces (sc : Memref sig .tc .vmem S384x3072 .f32) (h14 : FVec Ideal S384x1 .f32) (h15 : FVec Ideal S384x768 .f32) (x9 : Vec Ideal S768x3072 .i8) (x10 x11 : Vec Ideal S1x3072 .f32) (y : S1x384x3072.Idx) : View.canon (cpieces sc h14 h15 x9 x10 x11) y = cAll h14 h15 x9 x10 x11 y := by
  refine View.canon_apply_of_pieces (Val := Elt Ideal) (e := .i8) (cAll h14 h15 x9 x10 x11) (cpieces sc h14 h15 x9 x10 x11) ?_ y ?_
  · intro p hp
    unfold cpieces at hp
    simp only [List.mem_cons, List.not_mem_nil, or_false] at hp
    rcases hp with rfl | rfl | rfl | rfl | rfl | rfl
    · exact cAll_emb5 sc h14 h15 x9 x10 x11
    · exact cAll_emb4 sc h14 h15 x9 x10 x11
    · exact cAll_emb3 sc h14 h15 x9 x10 x11
    · exact cAll_emb2 sc h14 h15 x9 x10 x11
    · exact cAll_emb1 sc h14 h15 x9 x10 x11
    · exact cAll_emb0 sc h14 h15 x9 x10 x11
  · unfold cpieces
    have h0 : (y 0).val < 1 := (y 0).isLt
    have h1 : (y 1).val < 384 := (y 1).isLt
    have h2 : (y 2).val < 3072 := (y 2).isLt
    simp only [List.mem_cons, List.not_mem_nil, or_false, exists_eq_or_imp, exists_eq_left, Rect.mem_set_unit]
    have e : ∀ c, c ≤ (y 2).val → (y 2).val < c + 512 → ∀ a : Fin 3, ![0, 0, c] a ≤ (y a).val ∧ (y a).val < ![0, 0, c] a + ![1, 384, 512] a := by
      intro c hl hh a
      fin_cases a
      · exact ⟨Nat.zero_le _, by show (y 0).val < 0 + 1; omega⟩
      · exact ⟨Nat.zero_le _, by show (y 1).val < 0 + 384; omega⟩
      · exact ⟨hl, hh⟩
    rcases (by omega : (2560 ≤ (y 2).val ∧ (y 2).val < 2560 + 512) ∨ (2048 ≤ (y 2).val ∧ (y 2).val < 2048 + 512) ∨ (1536 ≤ (y 2).val ∧ (y 2).val < 1536 + 512)
      ∨ (1024 ≤ (y 2).val ∧ (y 2).val < 1024 + 512) ∨ (512 ≤ (y 2).val ∧ (y 2).val < 512 + 512) ∨ (0 ≤ (y 2).val ∧ (y 2).val < 0 + 512)) with h | h | h | h | h | h
    · exact .inl (e _ h.1 h.2)
    · exact .inr (.inl (e _ h.1 h.2))
    · exact .inr (.inr (.inl (e _ h.1 h.2)))
    · exact .inr (.inr (.inr (.inl (e _ h.1 h.2))))
    · exact .inr (.inr (.inr (.inr (.inl (e _ h.1 h.2)))))
    · exact .inr (.inr (.inr (.inr (.inr (e _ h.1 h.2)))))

end Cert.TailIdeal.Gen

end
-- ==== Proof.KernelHead.lean ====
/- What one block of the tiled program computes before the feed-forward layers, entry by entry. -/
module

public import proofs.«01_k».proof.Proof.Gen.TailIdeal.Skeleton
public import proofs.«01_k».proof.Proof.Rows

@[expose] public section

set_option maxRecDepth 16384

noncomputable section

namespace Cert.TailIdeal.Gen

open Idealize.ShloMosaic Idealize.ShloMosaic.TcCoe Idealize.SL.Sem Cert.Rows

/-- The column `r` of a block of context, as a row. -/
def ctxRow (v0 : Vec Ideal S1x768x384 .f32) (r : Fin 384) (k : Fin 768) : EReal := v0 (ix3 0 k r)

theorem pay3_at (v0 : Vec Ideal S1x768x384 .f32) (r : Fin 384) : k0_pay3 v0 (ix2 0 r) = scale (ctxRow v0 r) := by
  pointwise [k0_pay3, k0_pay2]
  rfl

theorem pay4_at (v0 : Vec Ideal S1x768x384 .f32) (r : Fin 384) : k0_pay4 v0 (ix3 0 0 r) = scale (ctxRow v0 r) := by
  pointwise [k0_pay4]
  exact pay3_at v0 r

theorem pay5_at (v0 : Vec Ideal S1x768x384 .f32) (k : Fin 768) (r : Fin 384) :
    k0_pay5 v0 (ix2 k r) = q (ctxRow v0 r k) (scale (ctxRow v0 r)) := by
  pointwise [k0_pay5, k0_pay2]
  rw [pay3_at]
  rfl

theorem pay6_at (v0 : Vec Ideal S1x768x384 .f32) (k : Fin 768) (r : Fin 384) :
    k0_pay6 v0 (ix3 0 k r) = code (ctxRow v0 r k) (scale (ctxRow v0 r)) := by
  pointwise [k0_pay6]
  rw [pay5_at]
  rfl

theorem pay7_at (v0 : Vec Ideal S1x768x384 .f32) (r : Fin 384) (k : Fin 768) :
    k0_pay7 v0 (ix2 r k) = q (ctxRow v0 r k) (scale (ctxRow v0 r)) := by
  pointwise [k0_pay7]
  exact pay5_at v0 k r

theorem pay8_at (v0 : Vec Ideal S1x768x384 .f32) (r : Fin 384) : k0_pay8 v0 (ix2 r 0) = scale (ctxRow v0 r) := by
  pointwise [k0_pay8]
  rw [← pay3_at]
  split
  · rfl
  · split
    · congr 2; ext; simp only; omega
    · congr 2; ext; simp only; omega

theorem pay9_at (v28 : FVec Ideal S384x768 .bf16) (v41 : FVec Ideal S384x128 .f32) (v43 : Vec Ideal S768x768 .i8)
    (v49 v53 : Vec Ideal S1x768 .f32) (r : Fin 384) (j : Fin 768) :
    k0_pay9 v28 v41 v43 v49 v53 (ix2 r j) = lin (fun k => v28 (ix2 r k)) (v41 (ix2 r 0)) (fun k j => v43 (ix2 k j))
      (fun j => v49 (ix2 0 j)) (fun j => v53 (ix2 0 j)) j := by
  pointwise [k0_pay9]
  rfl

end Cert.TailIdeal.Gen

end
-- ==== Proof.Spec.lean ====
/- The tail of the layer, row by row. -/
module

public import proofs.«01_k».proof.Proof.Rows

@[expose] public section

set_option maxRecDepth 16384

noncomputable section

namespace Cert.Rows

open Idealize.ShloMosaic Idealize.ShloMosaic.TcCoe Idealize.SL.Sem

/-- The weights, scales, biases and norm parameters the tail reads. -/
structure Params where
  g0 : Fin 768 → EReal
  b0 : Fin 768 → EReal
  wo : Fin 768 → Fin 768 → BitVec 8
  so : Fin 768 → EReal
  bo : Fin 768 → EReal
  g1 : Fin 768 → EReal
  b1 : Fin 768 → EReal
  w1 : Fin 768 → Fin 3072 → BitVec 8
  s1 : Fin 3072 → EReal
  bb1 : Fin 3072 → EReal
  w2 : Fin 3072 → Fin 768 → BitVec 8
  s2 : Fin 768 → EReal
  bb2 : Fin 768 → EReal
  g2 : Fin 768 → EReal
  b2 : Fin 768 → EReal

/-- A row after the output projection of the quantised context row `c`, the residual (the normalised input row `x`)
    and the second layer norm. -/
def norm1 (P : Params) (c x : Fin 768 → EReal) : Fin 768 → EReal :=
  ln (fun j => lin (fun k => q (c k) (scale c)) (scale c) P.wo P.so P.bo j + ln x P.g0 P.b0 j) P.g1 P.b1

/-- The activations of the feed-forward network for a row `h`, quantised before the product. -/
def act (P : Params) (h : Fin 768 → EReal) (l : Fin 3072) : EReal :=
  gelu (lin (fun k => q (h k) (scale h)) (scale h) P.w1 P.s1 P.bb1 l)

/-- The layer's output row: the second product of the quantised activations `g`, the residual `h` and the last norm. -/
def norm2 (P : Params) (h : Fin 768 → EReal) (g : Fin 3072 → EReal) : Fin 768 → EReal :=
  ln (fun j => lin (fun l => q (g l) (scale g)) (scale g) P.w2 P.s2 P.bb2 j + h j) P.g2 P.b2

end Cert.Rows

end
-- ==== Proof.KernelRows.lean ====
/- The rows the tiled program computes of one block. -/
module

public import proofs.«01_k».proof.Proof.KernelScratch
public import proofs.«01_k».proof.Proof.KernelHead
public import proofs.«01_k».proof.Proof.Spec

@[expose] public section

set_option maxRecDepth 16384

noncomputable section

namespace Cert.TailIdeal.Gen

open Idealize.ShloMosaic Idealize.ShloMosaic.TcCoe Idealize.SL.Sem Cert.Rows

/-- The parameters, from the blocks of the arrays. -/
def par (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) : Params where
  g0 := fun k => x2 (ix2 0 k)
  b0 := fun k => x3 (ix2 0 k)
  wo := fun k j => x4 (ix2 k j)
  so := fun k => x5 (ix2 0 k)
  bo := fun k => x6 (ix2 0 k)
  g1 := fun k => x7 (ix2 0 k)
  b1 := fun k => x8 (ix2 0 k)
  w1 := fun k j => x9 (ix2 k j)
  s1 := fun k => x10 (ix2 0 k)
  bb1 := fun k => x11 (ix2 0 k)
  w2 := fun k j => x12 (ix2 k j)
  s2 := fun k => x13 (ix2 0 k)
  bb2 := fun k => x14 (ix2 0 k)
  g2 := fun k => x15 (ix2 0 k)
  b2 := fun k => x16 (ix2 0 k)

/-- The normalised rows after the output projection. -/
def h13 (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) : FVec Ideal S384x768 .f32 := k0_pay13 (k0_pay9 (k0_pay7 x0) (k0_pay8 x0) x4 x5 x6) (k0_pay10 x2) (k0_pay11 x3) (k0_pay12 x1) x7 x8

/-- Their scales. -/
def h14 (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) : FVec Ideal S384x1 .f32 := k0_pay14 (k0_pay9 (k0_pay7 x0) (k0_pay8 x0) x4 x5 x6) (k0_pay10 x2) (k0_pay11 x3) (k0_pay12 x1) x7 x8

/-- Their rounded quotients. -/
def h15 (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) : FVec Ideal S384x768 .f32 := k0_pay15 (k0_pay9 (k0_pay7 x0) (k0_pay8 x0) x4 x5 x6) (k0_pay10 x2) (k0_pay11 x3) (k0_pay12 x1) x7 x8

theorem pay10_at (x : Vec Ideal S1x768 .f32) (k : Fin 768) : k0_pay10 x (ix2 0 k) = x (ix2 0 k) := by
  pointwise [k0_pay10]

theorem pay11_at (x : Vec Ideal S1x768 .f32) (k : Fin 768) : k0_pay11 x (ix2 0 k) = x (ix2 0 k) := by
  pointwise [k0_pay11]

variable (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32)

/-- Row `r` of the block of the layer's input. -/
def xRow (x1 : Vec Ideal S1x384x768 .bf16) (r : Fin 384) (k : Fin 768) : EReal := x1 (ix3 0 r k)

/-- The rows after the second norm. -/
def H (r : Fin 384) : Fin 768 → EReal := norm1 (par x2 x3 x4 x5 x6 x7 x8 x9 x10 x11 x12 x13 x14 x15 x16) (ctxRow x0 r) (xRow x1 r)

/-- The rows of the activation. -/
def G (r : Fin 384) : Fin 3072 → EReal := act (par x2 x3 x4 x5 x6 x7 x8 x9 x10 x11 x12 x13 x14 x15 x16) (H x0 x1 x2 x3 x4 x5 x6 x7 x8 x9 x10 x11 x12 x13 x14 x15 x16 r)

/-- The rows of the layer's output. -/
def O (r : Fin 384) : Fin 768 → EReal := norm2 (par x2 x3 x4 x5 x6 x7 x8 x9 x10 x11 x12 x13 x14 x15 x16) (H x0 x1 x2 x3 x4 x5 x6 x7 x8 x9 x10 x11 x12 x13 x14 x15 x16 r) (G x0 x1 x2 x3 x4 x5 x6 x7 x8 x9 x10 x11 x12 x13 x14 x15 x16 r)

theorem h13_at (r : Fin 384) (j : Fin 768) : h13 x0 x1 x2 x3 x4 x5 x6 x7 x8 (ix2 r j) = H x0 x1 x2 x3 x4 x5 x6 x7 x8 x9 x10 x11 x12 x13 x14 x15 x16 r j := by
  unfold h13
  rw [pay13_at]
  simp only [pay9_at, pay7_at, pay8_at, pay10_at, pay11_at, pay12_at]
  unfold H norm1
  congr 1
  funext k
  rw [ln_recip (fun k => x1 (ix3 0 r k)) (fun k => x2 (ix2 0 k)) (fun k => x3 (ix2 0 k)) k]
  rfl

theorem h14_at (r : Fin 384) : h14 x0 x1 x2 x3 x4 x5 x6 x7 x8 (ix2 r 0) = scale (H x0 x1 x2 x3 x4 x5 x6 x7 x8 x9 x10 x11 x12 x13 x14 x15 x16 r) := by
  unfold h14
  rw [pay14_at]
  exact congrArg scale (funext fun k => h13_at x0 x1 x2 x3 x4 x5 x6 x7 x8 x9 x10 x11 x12 x13 x14 x15 x16 r k)

theorem h15_at (r : Fin 384) (j : Fin 768) : h15 x0 x1 x2 x3 x4 x5 x6 x7 x8 (ix2 r j) = rnd (H x0 x1 x2 x3 x4 x5 x6 x7 x8 x9 x10 x11 x12 x13 x14 x15 x16 r j) (scale (H x0 x1 x2 x3 x4 x5 x6 x7 x8 x9 x10 x11 x12 x13 x14 x15 x16 r)) := by
  unfold h15
  rw [pay15_at]
  exact congrArg₂ rnd (h13_at x0 x1 x2 x3 x4 x5 x6 x7 x8 x9 x10 x11 x12 x13 x14 x15 x16 r j) (congrArg scale (funext fun k => h13_at x0 x1 x2 x3 x4 x5 x6 x7 x8 x9 x10 x11 x12 x13 x14 x15 x16 r k))

theorem h17_at (r : Fin 384) (j : Fin 768) : h17 (h15 x0 x1 x2 x3 x4 x5 x6 x7 x8) (ix2 r j) = q (H x0 x1 x2 x3 x4 x5 x6 x7 x8 x9 x10 x11 x12 x13 x14 x15 x16 r j) (scale (H x0 x1 x2 x3 x4 x5 x6 x7 x8 x9 x10 x11 x12 x13 x14 x15 x16 r)) := by
  unfold h17
  rw [pay17_at, h15_at x0 x1 x2 x3 x4 x5 x6 x7 x8 x9 x10 x11 x12 x13 x14 x15 x16]
  rfl

theorem gRow_eq (r : Fin 384) : gRow (h14 x0 x1 x2 x3 x4 x5 x6 x7 x8) (h15 x0 x1 x2 x3 x4 x5 x6 x7 x8) x9 x10 x11 r = G x0 x1 x2 x3 x4 x5 x6 x7 x8 x9 x10 x11 x12 x13 x14 x15 x16 r := by
  funext l
  unfold gRow
  rw [h14_at x0 x1 x2 x3 x4 x5 x6 x7 x8 x9 x10 x11 x12 x13 x14 x15 x16]
  simp only [h17_at x0 x1 x2 x3 x4 x5 x6 x7 x8 x9 x10 x11 x12 x13 x14 x15 x16]
  rfl

theorem o63_at (sc : Memref sig .tc .vmem S384x3072 .f32) (r : Fin 384) (j : Fin 768) :
    k0_pay63 (h13 x0 x1 x2 x3 x4 x5 x6 x7 x8) (z62 sc (h14 x0 x1 x2 x3 x4 x5 x6 x7 x8) (h15 x0 x1 x2 x3 x4 x5 x6 x7 x8) x9 x10 x11 x12) x13 x14 x15 x16 (ix2 r j) = O x0 x1 x2 x3 x4 x5 x6 x7 x8 x9 x10 x11 x12 x13 x14 x15 x16 r j := by
  rw [pay63_at]
  simp only [z62_at, gRow_eq x0 x1 x2 x3 x4 x5 x6 x7 x8 x9 x10 x11 x12 x13 x14 x15 x16, h13_at x0 x1 x2 x3 x4 x5 x6 x7 x8 x9 x10 x11 x12 x13 x14 x15 x16]
  rfl

end Cert.TailIdeal.Gen

end
-- ==== Proof.TailBlocks.lean ====
/- The tail kernel's output arrays block by block: what each grid point writes back, and that block `t` of the final array
   is what point `t` wrote. -/
module

public import proofs.«01_k».proof.Proof.TailFrame
public import Idealize.ShloMosaic.Lib.Pipeline.Value

@[expose] public section

noncomputable section

namespace Cert.TailIdeal.Value

open Cert.TailIdeal Cert.TailIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 17's array: the run's contents for that window after the body (`Gen.outsAt0`: its component 0), read through the window's block. -/
theorem flushed17 (c : Dev nD) (t : Fin cfg0.N) :
    (dats m 0 c).flushed 17 t = (cfg0.win 17).cut (grid0.coords t) ((outsAt0 m c t).1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed17, outsAt0]

/-- The index map sends distinct grid points to distinct block indices (decided over the 3 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S3x768x384.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 1), read through the window's block. -/
theorem flushed18 (c : Dev nD) (t : Fin cfg0.N) :
    (dats m 0 c).flushed 18 t = (cfg0.win 18).cut (grid0.coords t) ((outsAt0 m c t).2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed18, outsAt0]

/-- The index map sends distinct grid points to distinct block indices (decided over the 3 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S3x1x384.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 2), read through the window's block. -/
theorem flushed19 (c : Dev nD) (t : Fin cfg0.N) :
    (dats m 0 c).flushed 19 t = (cfg0.win 19).cut (grid0.coords t) ((outsAt0 m c t).2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed19, outsAt0]

/-- The index map sends distinct grid points to distinct block indices (decided over the 3 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S3x384x768.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 3), read through the window's block. -/
theorem flushed20 (c : Dev nD) (t : Fin cfg0.N) :
    (dats m 0 c).flushed 20 t = (cfg0.win 20).cut (grid0.coords t) ((outsAt0 m c t).2.2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed20, outsAt0]

/-- The index map sends distinct grid points to distinct block indices (decided over the 3 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S3x1x384.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 4), read through the window's block. -/
theorem flushed21 (c : Dev nD) (t : Fin cfg0.N) :
    (dats m 0 c).flushed 21 t = (cfg0.win 21).cut (grid0.coords t) ((outsAt0 m c t).2.2.2.2.1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed21, outsAt0]

/-- The index map sends distinct grid points to distinct block indices (decided over the 3 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S3x384x3072.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 5), read through the window's block. -/
theorem flushed22 (c : Dev nD) (t : Fin cfg0.N) :
    (dats m 0 c).flushed 22 t = (cfg0.win 22).cut (grid0.coords t) ((outsAt0 m c t).2.2.2.2.2.1) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed22, outsAt0]

/-- The index map sends distinct grid points to distinct block indices (decided over the 3 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S3x1x384.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the run's contents for that window after the body (`Gen.outsAt0`: its component 6), read through the window's block. -/
theorem flushed23 (c : Dev nD) (t : Fin cfg0.N) :
    (dats m 0 c).flushed 23 t = (cfg0.win 23).cut (grid0.coords t) ((outsAt0 m c t).2.2.2.2.2.2.1) := by
  show (cfg0.win 23).cut (grid0.coords t) ((dats m 0 c).after 23 t) = _
  rw [after0_23]

/-- … so at a point where case A runs, what its write-back would write is that case's NAMED TERM for the window (`Gen.out0_A_23`: the pieces
    its run found, read back) at the point's memrefs and input blocks, and for an output the case reads back what the point before left (`Gen.outsAt0` at `t - 1`) — the kernel's one case, `Gen.outsAt0` by definition. -/
theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed23, outsAt0]

/-- The index map sends distinct grid points to distinct block indices (decided over the 3 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S3x384x768.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the run's contents for that window after the body (`Gen.outsAt0`: its component 7), read through the window's block. -/
theorem flushed24 (c : Dev nD) (t : Fin cfg0.N) :
    (dats m 0 c).flushed 24 t = (cfg0.win 24).cut (grid0.coords t) ((outsAt0 m c t).2.2.2.2.2.2.2.1) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed24, outsAt0]

/-- The index map sends distinct grid points to distinct block indices (decided over the 3 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S3x384x768.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the run's contents for that window after the body (`Gen.outsAt0`: its component 8), read through the window's block. -/
theorem flushed25 (c : Dev nD) (t : Fin cfg0.N) :
    (dats m 0 c).flushed 25 t = (cfg0.win 25).cut (grid0.coords t) ((outsAt0 m c t).2.2.2.2.2.2.2.2) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  simp only [flushed25, outsAt0]

/-- The index map sends distinct grid points to distinct block indices (decided over the 3 points). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S3x1x384.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v13_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v13_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v13_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v13_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v13_4) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v13_5) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v13_6) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v13_7) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v13_8) = (dats m 0 c).arrAt 25 cfg0.N :=
  (h c).1 25

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 9 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 9).trans (((dats m 0 c).arrAt_in 9 rfl _).trans ((A_eq m c 9).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 12 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 12).trans (((dats m 0 c).arrAt_in 12 rfl _).trans ((A_eq m c 12).trans (V_main_arg10 m c)))

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 17 cfg0.N
      ∧ r.2.mem ((c : Thread nD τ).loc main_v13_1) = (dats m 0 c).arrAt 18 cfg0.N
      ∧ r.2.mem ((c : Thread nD τ).loc main_v13_2) = (dats m 0 c).arrAt 19 cfg0.N
      ∧ r.2.mem ((c : Thread nD τ).loc main_v13_3) = (dats m 0 c).arrAt 20 cfg0.N
      ∧ r.2.mem ((c : Thread nD τ).loc main_v13_4) = (dats m 0 c).arrAt 21 cfg0.N
      ∧ r.2.mem ((c : Thread nD τ).loc main_v13_5) = (dats m 0 c).arrAt 22 cfg0.N
      ∧ r.2.mem ((c : Thread nD τ).loc main_v13_6) = (dats m 0 c).arrAt 23 cfg0.N
      ∧ r.2.mem ((c : Thread nD τ).loc main_v13_7) = (dats m 0 c).arrAt 24 cfg0.N
      ∧ r.2.mem ((c : Thread nD τ).loc main_v13_8) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post17 m r h c,
      post18 m r h c,
      post19 m r h c,
      post20 m r h c,
      post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.TailIdeal.Value

end
-- ==== Proof.Results.lean ====
/- The nine results of the tail as functions of its seventeen argument arrays. -/
module

public import proofs.«01_k».proof.Proof.Spec

@[expose] public section

set_option maxRecDepth 16384

noncomputable section

namespace Cert.Rows

open Idealize.ShloMosaic Idealize.ShloMosaic.TcCoe Idealize.SL.Sem

/-- The parameters, from the argument arrays. The output projection is stored by head: row `k` of the matrix is row
    `k mod 64` of head `k / 64`. -/
def argPar (a2 : Vec Ideal (⟨1, ![768]⟩ : Shape) .f32) (a3 : Vec Ideal (⟨1, ![768]⟩ : Shape) .f32) (a4 : Vec Ideal (⟨3, ![12, 64, 768]⟩ : Shape) .i8) (a5 : Vec Ideal (⟨1, ![768]⟩ : Shape) .f32) (a6 : Vec Ideal (⟨1, ![768]⟩ : Shape) .f32) (a7 : Vec Ideal (⟨2, ![768, 3072]⟩ : Shape) .i8) (a8 : Vec Ideal (⟨1, ![3072]⟩ : Shape) .f32) (a9 : Vec Ideal (⟨1, ![3072]⟩ : Shape) .f32) (a10 : Vec Ideal (⟨2, ![3072, 768]⟩ : Shape) .i8) (a11 : Vec Ideal (⟨1, ![768]⟩ : Shape) .f32) (a12 : Vec Ideal (⟨1, ![768]⟩ : Shape) .f32) (a13 : Vec Ideal (⟨1, ![768]⟩ : Shape) .f32) (a14 : Vec Ideal (⟨1, ![768]⟩ : Shape) .f32) (a15 : Vec Ideal (⟨1, ![768]⟩ : Shape) .f32) (a16 : Vec Ideal (⟨1, ![768]⟩ : Shape) .f32) : Params where
  g0 := fun k => a2 (ix1 k)
  b0 := fun k => a3 (ix1 k)
  wo := fun k j => a4 (ix3 (⟨k.val / 64, by omega⟩ : Fin 12) (⟨k.val % 64, by omega⟩ : Fin 64) j)
  so := fun k => a5 (ix1 k)
  bo := fun k => a6 (ix1 k)
  g1 := fun k => a13 (ix1 k)
  b1 := fun k => a14 (ix1 k)
  w1 := fun k j => a7 (ix2 k j)
  s1 := fun k => a8 (ix1 k)
  bb1 := fun k => a9 (ix1 k)
  w2 := fun k j => a10 (ix2 k j)
  s2 := fun k => a11 (ix1 k)
  bb2 := fun k => a12 (ix1 k)
  g2 := fun k => a15 (ix1 k)
  b2 := fun k => a16 (ix1 k)

variable (a0 : Vec Ideal (⟨3, ![3, 768, 384]⟩ : Shape) .f32) (a1 : Vec Ideal (⟨3, ![3, 384, 768]⟩ : Shape) .bf16) (a2 : Vec Ideal (⟨1, ![768]⟩ : Shape) .f32) (a3 : Vec Ideal (⟨1, ![768]⟩ : Shape) .f32) (a4 : Vec Ideal (⟨3, ![12, 64, 768]⟩ : Shape) .i8) (a5 : Vec Ideal (⟨1, ![768]⟩ : Shape) .f32) (a6 : Vec Ideal (⟨1, ![768]⟩ : Shape) .f32) (a7 : Vec Ideal (⟨2, ![768, 3072]⟩ : Shape) .i8) (a8 : Vec Ideal (⟨1, ![3072]⟩ : Shape) .f32) (a9 : Vec Ideal (⟨1, ![3072]⟩ : Shape) .f32) (a10 : Vec Ideal (⟨2, ![3072, 768]⟩ : Shape) .i8) (a11 : Vec Ideal (⟨1, ![768]⟩ : Shape) .f32) (a12 : Vec Ideal (⟨1, ![768]⟩ : Shape) .f32) (a13 : Vec Ideal (⟨1, ![768]⟩ : Shape) .f32) (a14 : Vec Ideal (⟨1, ![768]⟩ : Shape) .f32) (a15 : Vec Ideal (⟨1, ![768]⟩ : Shape) .f32) (a16 : Vec Ideal (⟨1, ![768]⟩ : Shape) .f32)

/-- The context of token `s` of sequence `b`. -/
def argC (b : Fin 3) (s : Fin 384) (k : Fin 768) : EReal := a0 (ix3 b k s)

/-- The input of token `s` of sequence `b`. -/
def argX (b : Fin 3) (s : Fin 384) (k : Fin 768) : EReal := a1 (ix3 b s k)

/-- The row after the output projection and the second norm. -/
def argH (b : Fin 3) (s : Fin 384) : Fin 768 → EReal := norm1 (argPar a2 a3 a4 a5 a6 a7 a8 a9 a10 a11 a12 a13 a14 a15 a16) (argC a0 b s) (argX a1 b s)

/-- The activations of the feed-forward network. -/
def argG (b : Fin 3) (s : Fin 384) : Fin 3072 → EReal := act (argPar a2 a3 a4 a5 a6 a7 a8 a9 a10 a11 a12 a13 a14 a15 a16) (argH a0 a1 a2 a3 a4 a5 a6 a7 a8 a9 a10 a11 a12 a13 a14 a15 a16 b s)

/-- The layer's output row. -/
def argO (b : Fin 3) (s : Fin 384) : Fin 768 → EReal := norm2 (argPar a2 a3 a4 a5 a6 a7 a8 a9 a10 a11 a12 a13 a14 a15 a16) (argH a0 a1 a2 a3 a4 a5 a6 a7 a8 a9 a10 a11 a12 a13 a14 a15 a16 b s) (argG a0 a1 a2 a3 a4 a5 a6 a7 a8 a9 a10 a11 a12 a13 a14 a15 a16 b s)

/-- The codes of the context, stored with the token last. -/
def res17 : Vec Ideal (⟨3, ![3, 768, 384]⟩ : Shape) .i8 := fun y => code (argC a0 (y 0) (y 2) (y 1)) (scale (argC a0 (y 0) (y 2)))

/-- The scales of the context. -/
def res18 : Vec Ideal (⟨3, ![3, 1, 384]⟩ : Shape) .f32 := fun y => scale (argC a0 (y 0) (y 2))

/-- The codes of the rows after the second norm. -/
def res19 : Vec Ideal (⟨3, ![3, 384, 768]⟩ : Shape) .i8 := fun y => code (argH a0 a1 a2 a3 a4 a5 a6 a7 a8 a9 a10 a11 a12 a13 a14 a15 a16 (y 0) (y 1) (y 2)) (scale (argH a0 a1 a2 a3 a4 a5 a6 a7 a8 a9 a10 a11 a12 a13 a14 a15 a16 (y 0) (y 1)))

/-- The scales of the rows after the second norm. -/
def res20 : Vec Ideal (⟨3, ![3, 1, 384]⟩ : Shape) .f32 := fun y => scale (argH a0 a1 a2 a3 a4 a5 a6 a7 a8 a9 a10 a11 a12 a13 a14 a15 a16 (y 0) (y 2))

/-- The codes of the activations. -/
def res21 : Vec Ideal (⟨3, ![3, 384, 3072]⟩ : Shape) .i8 := fun y => code (argG a0 a1 a2 a3 a4 a5 a6 a7 a8 a9 a10 a11 a12 a13 a14 a15 a16 (y 0) (y 1) (y 2)) (scale (argG a0 a1 a2 a3 a4 a5 a6 a7 a8 a9 a10 a11 a12 a13 a14 a15 a16 (y 0) (y 1)))

/-- The scales of the activations. -/
def res22 : Vec Ideal (⟨3, ![3, 1, 384]⟩ : Shape) .f32 := fun y => scale (argG a0 a1 a2 a3 a4 a5 a6 a7 a8 a9 a10 a11 a12 a13 a14 a15 a16 (y 0) (y 2))

/-- The codes of the output. -/
def res24 : Vec Ideal (⟨3, ![3, 384, 768]⟩ : Shape) .i8 := fun y => code (argO a0 a1 a2 a3 a4 a5 a6 a7 a8 a9 a10 a11 a12 a13 a14 a15 a16 (y 0) (y 1) (y 2)) (scale (argO a0 a1 a2 a3 a4 a5 a6 a7 a8 a9 a10 a11 a12 a13 a14 a15 a16 (y 0) (y 1)))

/-- The scales of the output. -/
def res25 : Vec Ideal (⟨3, ![3, 1, 384]⟩ : Shape) .f32 := fun y => scale (argO a0 a1 a2 a3 a4 a5 a6 a7 a8 a9 a10 a11 a12 a13 a14 a15 a16 (y 0) (y 2))

/-- The layer's output. -/
def res23 : Vec Ideal (⟨3, ![3, 384, 768]⟩ : Shape) .f32 := fun y => argO a0 a1 a2 a3 a4 a5 a6 a7 a8 a9 a10 a11 a12 a13 a14 a15 a16 (y 0) (y 1) (y 2)

theorem res17_congr {a0 b0 : Vec Ideal (⟨3, ![3, 768, 384]⟩ : Shape) .f32} (h0 : b0 = a0) : res17 b0 = res17 a0 := by
  subst h0; rfl

theorem res18_congr {a0 b0 : Vec Ideal (⟨3, ![3, 768, 384]⟩ : Shape) .f32} (h0 : b0 = a0) : res18 b0 = res18 a0 := by
  subst h0; rfl

theorem res19_congr {a0 b0 : Vec Ideal (⟨3, ![3, 768, 384]⟩ : Shape) .f32} {a1 b1 : Vec Ideal (⟨3, ![3, 384, 768]⟩ : Shape) .bf16} {a2 b2 : Vec Ideal (⟨1, ![768]⟩ : Shape) .f32} {a3 b3 : Vec Ideal (⟨1, ![768]⟩ : Shape) .f32} {a4 b4 : Vec Ideal (⟨3, ![12, 64, 768]⟩ : Shape) .i8} {a5 b5 : Vec Ideal (⟨1, ![768]⟩ : Shape) .f32} {a6 b6 : Vec Ideal (⟨1, ![768]⟩ : Shape) .f32} {a7 b7 : Vec Ideal (⟨2, ![768, 3072]⟩ : Shape) .i8} {a8 b8 : Vec Ideal (⟨1, ![3072]⟩ : Shape) .f32} {a9 b9 : Vec Ideal (⟨1, ![3072]⟩ : Shape) .f32} {a10 b10 : Vec Ideal (⟨2, ![3072, 768]⟩ : Shape) .i8} {a11 b11 : Vec Ideal (⟨1, ![768]⟩ : Shape) .f32} {a12 b12 : Vec Ideal (⟨1, ![768]⟩ : Shape) .f32} {a13 b13 : Vec Ideal (⟨1, ![768]⟩ : Shape) .f32} {a14 b14 : Vec Ideal (⟨1, ![768]⟩ : Shape) .f32} {a15 b15 : Vec Ideal (⟨1, ![768]⟩ : Shape) .f32} {a16 b16 : Vec Ideal (⟨1, ![768]⟩ : Shape) .f32} (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) : res19 b0 b1 b2 b3 b4 b5 b6 b7 b8 b9 b10 b11 b12 b13 b14 b15 b16 = res19 a0 a1 a2 a3 a4 a5 a6 a7 a8 a9 a10 a11 a12 a13 a14 a15 a16 := by
  subst h0; subst h1; subst h2; subst h3; subst h4; subst h5; subst h6; subst h7; subst h8; subst h9; subst h10; subst h11; subst h12; subst h13; subst h14; subst h15; subst h16; rfl

theorem res20_congr {a0 b0 : Vec Ideal (⟨3, ![3, 768, 384]⟩ : Shape) .f32} {a1 b1 : Vec Ideal (⟨3, ![3, 384, 768]⟩ : Shape) .bf16} {a2 b2 : Vec Ideal (⟨1, ![768]⟩ : Shape) .f32} {a3 b3 : Vec Ideal (⟨1, ![768]⟩ : Shape) .f32} {a4 b4 : Vec Ideal (⟨3, ![12, 64, 768]⟩ : Shape) .i8} {a5 b5 : Vec Ideal (⟨1, ![768]⟩ : Shape) .f32} {a6 b6 : Vec Ideal (⟨1, ![768]⟩ : Shape) .f32} {a7 b7 : Vec Ideal (⟨2, ![768, 3072]⟩ : Shape) .i8} {a8 b8 : Vec Ideal (⟨1, ![3072]⟩ : Shape) .f32} {a9 b9 : Vec Ideal (⟨1, ![3072]⟩ : Shape) .f32} {a10 b10 : Vec Ideal (⟨2, ![3072, 768]⟩ : Shape) .i8} {a11 b11 : Vec Ideal (⟨1, ![768]⟩ : Shape) .f32} {a12 b12 : Vec Ideal (⟨1, ![768]⟩ : Shape) .f32} {a13 b13 : Vec Ideal (⟨1, ![768]⟩ : Shape) .f32} {a14 b14 : Vec Ideal (⟨1, ![768]⟩ : Shape) .f32} {a15 b15 : Vec Ideal (⟨1, ![768]⟩ : Shape) .f32} {a16 b16 : Vec Ideal (⟨1, ![768]⟩ : Shape) .f32} (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) : res20 b0 b1 b2 b3 b4 b5 b6 b7 b8 b9 b10 b11 b12 b13 b14 b15 b16 = res20 a0 a1 a2 a3 a4 a5 a6 a7 a8 a9 a10 a11 a12 a13 a14 a15 a16 := by
  subst h0; subst h1; subst h2; subst h3; subst h4; subst h5; subst h6; subst h7; subst h8; subst h9; subst h10; subst h11; subst h12; subst h13; subst h14; subst h15; subst h16; rfl

theorem res21_congr {a0 b0 : Vec Ideal (⟨3, ![3, 768, 384]⟩ : Shape) .f32} {a1 b1 : Vec Ideal (⟨3, ![3, 384, 768]⟩ : Shape) .bf16} {a2 b2 : Vec Ideal (⟨1, ![768]⟩ : Shape) .f32} {a3 b3 : Vec Ideal (⟨1, ![768]⟩ : Shape) .f32} {a4 b4 : Vec Ideal (⟨3, ![12, 64, 768]⟩ : Shape) .i8} {a5 b5 : Vec Ideal (⟨1, ![768]⟩ : Shape) .f32} {a6 b6 : Vec Ideal (⟨1, ![768]⟩ : Shape) .f32} {a7 b7 : Vec Ideal (⟨2, ![768, 3072]⟩ : Shape) .i8} {a8 b8 : Vec Ideal (⟨1, ![3072]⟩ : Shape) .f32} {a9 b9 : Vec Ideal (⟨1, ![3072]⟩ : Shape) .f32} {a10 b10 : Vec Ideal (⟨2, ![3072, 768]⟩ : Shape) .i8} {a11 b11 : Vec Ideal (⟨1, ![768]⟩ : Shape) .f32} {a12 b12 : Vec Ideal (⟨1, ![768]⟩ : Shape) .f32} {a13 b13 : Vec Ideal (⟨1, ![768]⟩ : Shape) .f32} {a14 b14 : Vec Ideal (⟨1, ![768]⟩ : Shape) .f32} {a15 b15 : Vec Ideal (⟨1, ![768]⟩ : Shape) .f32} {a16 b16 : Vec Ideal (⟨1, ![768]⟩ : Shape) .f32} (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) : res21 b0 b1 b2 b3 b4 b5 b6 b7 b8 b9 b10 b11 b12 b13 b14 b15 b16 = res21 a0 a1 a2 a3 a4 a5 a6 a7 a8 a9 a10 a11 a12 a13 a14 a15 a16 := by
  subst h0; subst h1; subst h2; subst h3; subst h4; subst h5; subst h6; subst h7; subst h8; subst h9; subst h10; subst h11; subst h12; subst h13; subst h14; subst h15; subst h16; rfl

theorem res22_congr {a0 b0 : Vec Ideal (⟨3, ![3, 768, 384]⟩ : Shape) .f32} {a1 b1 : Vec Ideal (⟨3, ![3, 384, 768]⟩ : Shape) .bf16} {a2 b2 : Vec Ideal (⟨1, ![768]⟩ : Shape) .f32} {a3 b3 : Vec Ideal (⟨1, ![768]⟩ : Shape) .f32} {a4 b4 : Vec Ideal (⟨3, ![12, 64, 768]⟩ : Shape) .i8} {a5 b5 : Vec Ideal (⟨1, ![768]⟩ : Shape) .f32} {a6 b6 : Vec Ideal (⟨1, ![768]⟩ : Shape) .f32} {a7 b7 : Vec Ideal (⟨2, ![768, 3072]⟩ : Shape) .i8} {a8 b8 : Vec Ideal (⟨1, ![3072]⟩ : Shape) .f32} {a9 b9 : Vec Ideal (⟨1, ![3072]⟩ : Shape) .f32} {a10 b10 : Vec Ideal (⟨2, ![3072, 768]⟩ : Shape) .i8} {a11 b11 : Vec Ideal (⟨1, ![768]⟩ : Shape) .f32} {a12 b12 : Vec Ideal (⟨1, ![768]⟩ : Shape) .f32} {a13 b13 : Vec Ideal (⟨1, ![768]⟩ : Shape) .f32} {a14 b14 : Vec Ideal (⟨1, ![768]⟩ : Shape) .f32} {a15 b15 : Vec Ideal (⟨1, ![768]⟩ : Shape) .f32} {a16 b16 : Vec Ideal (⟨1, ![768]⟩ : Shape) .f32} (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) : res22 b0 b1 b2 b3 b4 b5 b6 b7 b8 b9 b10 b11 b12 b13 b14 b15 b16 = res22 a0 a1 a2 a3 a4 a5 a6 a7 a8 a9 a10 a11 a12 a13 a14 a15 a16 := by
  subst h0; subst h1; subst h2; subst h3; subst h4; subst h5; subst h6; subst h7; subst h8; subst h9; subst h10; subst h11; subst h12; subst h13; subst h14; subst h15; subst h16; rfl

theorem res23_congr {a0 b0 : Vec Ideal (⟨3, ![3, 768, 384]⟩ : Shape) .f32} {a1 b1 : Vec Ideal (⟨3, ![3, 384, 768]⟩ : Shape) .bf16} {a2 b2 : Vec Ideal (⟨1, ![768]⟩ : Shape) .f32} {a3 b3 : Vec Ideal (⟨1, ![768]⟩ : Shape) .f32} {a4 b4 : Vec Ideal (⟨3, ![12, 64, 768]⟩ : Shape) .i8} {a5 b5 : Vec Ideal (⟨1, ![768]⟩ : Shape) .f32} {a6 b6 : Vec Ideal (⟨1, ![768]⟩ : Shape) .f32} {a7 b7 : Vec Ideal (⟨2, ![768, 3072]⟩ : Shape) .i8} {a8 b8 : Vec Ideal (⟨1, ![3072]⟩ : Shape) .f32} {a9 b9 : Vec Ideal (⟨1, ![3072]⟩ : Shape) .f32} {a10 b10 : Vec Ideal (⟨2, ![3072, 768]⟩ : Shape) .i8} {a11 b11 : Vec Ideal (⟨1, ![768]⟩ : Shape) .f32} {a12 b12 : Vec Ideal (⟨1, ![768]⟩ : Shape) .f32} {a13 b13 : Vec Ideal (⟨1, ![768]⟩ : Shape) .f32} {a14 b14 : Vec Ideal (⟨1, ![768]⟩ : Shape) .f32} {a15 b15 : Vec Ideal (⟨1, ![768]⟩ : Shape) .f32} {a16 b16 : Vec Ideal (⟨1, ![768]⟩ : Shape) .f32} (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) : res23 b0 b1 b2 b3 b4 b5 b6 b7 b8 b9 b10 b11 b12 b13 b14 b15 b16 = res23 a0 a1 a2 a3 a4 a5 a6 a7 a8 a9 a10 a11 a12 a13 a14 a15 a16 := by
  subst h0; subst h1; subst h2; subst h3; subst h4; subst h5; subst h6; subst h7; subst h8; subst h9; subst h10; subst h11; subst h12; subst h13; subst h14; subst h15; subst h16; rfl

theorem res24_congr {a0 b0 : Vec Ideal (⟨3, ![3, 768, 384]⟩ : Shape) .f32} {a1 b1 : Vec Ideal (⟨3, ![3, 384, 768]⟩ : Shape) .bf16} {a2 b2 : Vec Ideal (⟨1, ![768]⟩ : Shape) .f32} {a3 b3 : Vec Ideal (⟨1, ![768]⟩ : Shape) .f32} {a4 b4 : Vec Ideal (⟨3, ![12, 64, 768]⟩ : Shape) .i8} {a5 b5 : Vec Ideal (⟨1, ![768]⟩ : Shape) .f32} {a6 b6 : Vec Ideal (⟨1, ![768]⟩ : Shape) .f32} {a7 b7 : Vec Ideal (⟨2, ![768, 3072]⟩ : Shape) .i8} {a8 b8 : Vec Ideal (⟨1, ![3072]⟩ : Shape) .f32} {a9 b9 : Vec Ideal (⟨1, ![3072]⟩ : Shape) .f32} {a10 b10 : Vec Ideal (⟨2, ![3072, 768]⟩ : Shape) .i8} {a11 b11 : Vec Ideal (⟨1, ![768]⟩ : Shape) .f32} {a12 b12 : Vec Ideal (⟨1, ![768]⟩ : Shape) .f32} {a13 b13 : Vec Ideal (⟨1, ![768]⟩ : Shape) .f32} {a14 b14 : Vec Ideal (⟨1, ![768]⟩ : Shape) .f32} {a15 b15 : Vec Ideal (⟨1, ![768]⟩ : Shape) .f32} {a16 b16 : Vec Ideal (⟨1, ![768]⟩ : Shape) .f32} (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) : res24 b0 b1 b2 b3 b4 b5 b6 b7 b8 b9 b10 b11 b12 b13 b14 b15 b16 = res24 a0 a1 a2 a3 a4 a5 a6 a7 a8 a9 a10 a11 a12 a13 a14 a15 a16 := by
  subst h0; subst h1; subst h2; subst h3; subst h4; subst h5; subst h6; subst h7; subst h8; subst h9; subst h10; subst h11; subst h12; subst h13; subst h14; subst h15; subst h16; rfl

theorem res25_congr {a0 b0 : Vec Ideal (⟨3, ![3, 768, 384]⟩ : Shape) .f32} {a1 b1 : Vec Ideal (⟨3, ![3, 384, 768]⟩ : Shape) .bf16} {a2 b2 : Vec Ideal (⟨1, ![768]⟩ : Shape) .f32} {a3 b3 : Vec Ideal (⟨1, ![768]⟩ : Shape) .f32} {a4 b4 : Vec Ideal (⟨3, ![12, 64, 768]⟩ : Shape) .i8} {a5 b5 : Vec Ideal (⟨1, ![768]⟩ : Shape) .f32} {a6 b6 : Vec Ideal (⟨1, ![768]⟩ : Shape) .f32} {a7 b7 : Vec Ideal (⟨2, ![768, 3072]⟩ : Shape) .i8} {a8 b8 : Vec Ideal (⟨1, ![3072]⟩ : Shape) .f32} {a9 b9 : Vec Ideal (⟨1, ![3072]⟩ : Shape) .f32} {a10 b10 : Vec Ideal (⟨2, ![3072, 768]⟩ : Shape) .i8} {a11 b11 : Vec Ideal (⟨1, ![768]⟩ : Shape) .f32} {a12 b12 : Vec Ideal (⟨1, ![768]⟩ : Shape) .f32} {a13 b13 : Vec Ideal (⟨1, ![768]⟩ : Shape) .f32} {a14 b14 : Vec Ideal (⟨1, ![768]⟩ : Shape) .f32} {a15 b15 : Vec Ideal (⟨1, ![768]⟩ : Shape) .f32} {a16 b16 : Vec Ideal (⟨1, ![768]⟩ : Shape) .f32} (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) : res25 b0 b1 b2 b3 b4 b5 b6 b7 b8 b9 b10 b11 b12 b13 b14 b15 b16 = res25 a0 a1 a2 a3 a4 a5 a6 a7 a8 a9 a10 a11 a12 a13 a14 a15 a16 := by
  subst h0; subst h1; subst h2; subst h3; subst h4; subst h5; subst h6; subst h7; subst h8; subst h9; subst h10; subst h11; subst h12; subst h13; subst h14; subst h15; subst h16; rfl

end Cert.Rows

end
-- ==== Proof.KernelRead.lean ====
/- The rows of one grid point of the tiled program, of the argument arrays. -/
module

public import proofs.«01_k».proof.Proof.KernelArgs
public import proofs.«01_k».proof.Proof.KernelRows
public import proofs.«01_k».proof.Proof.TailBlocks
public import proofs.«01_k».proof.Proof.Results

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem par_eq (c : Dev nD) (t : Fin cfg0.N) : par (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = argPar (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  simp only [par, argPar, blk2, blk3, blk4, blk5, blk6, blk7, blk8, blk9, blk10, blk11, blk12, blk13, blk14, blk15, blk16]

theorem ctx_eq (c : Dev nD) (t : Fin cfg0.N) (r : Fin 384) : ctxRow (iblk m c 0 t) r = argC (m ((c : Thread nD τ).loc main_arg0)) (grid0.coords t 0) r := by
  funext k
  exact blk0 m c t k r

theorem x_eq (c : Dev nD) (t : Fin cfg0.N) (r : Fin 384) : xRow (iblk m c 1 t) r = argX (m ((c : Thread nD τ).loc main_arg1)) (grid0.coords t 0) r := by
  funext k
  exact blk1 m c t r k

theorem h_eq (c : Dev nD) (t : Fin cfg0.N) (r : Fin 384) : H (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r = argH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (grid0.coords t 0) r := by
  unfold H argH
  simp only [par_eq, ctx_eq, x_eq]

theorem g_eq (c : Dev nD) (t : Fin cfg0.N) (r : Fin 384) : G (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r = argG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (grid0.coords t 0) r := by
  unfold G argG
  simp only [par_eq, h_eq]

theorem o_eq (c : Dev nD) (t : Fin cfg0.N) (r : Fin 384) : O (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r = argO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (grid0.coords t 0) r := by
  unfold O argO
  simp only [par_eq, h_eq, g_eq]

theorem idx17 : ∀ t : Fin cfg0.N, win0_17.index t = ![(grid0.coords t 0).val, 0, 0] :=
  (by decide +kernel : ∀ t : Fin grid0.N, _)

theorem idx18 : ∀ t : Fin cfg0.N, win0_18.index t = ![(grid0.coords t 0).val, 0, 0] :=
  (by decide +kernel : ∀ t : Fin grid0.N, _)

theorem idx19 : ∀ t : Fin cfg0.N, win0_19.index t = ![(grid0.coords t 0).val, 0, 0] :=
  (by decide +kernel : ∀ t : Fin grid0.N, _)

theorem idx20 : ∀ t : Fin cfg0.N, win0_20.index t = ![(grid0.coords t 0).val, 0, 0] :=
  (by decide +kernel : ∀ t : Fin grid0.N, _)

theorem idx21 : ∀ t : Fin cfg0.N, win0_21.index t = ![(grid0.coords t 0).val, 0, 0] :=
  (by decide +kernel : ∀ t : Fin grid0.N, _)

theorem idx22 : ∀ t : Fin cfg0.N, win0_22.index t = ![(grid0.coords t 0).val, 0, 0] :=
  (by decide +kernel : ∀ t : Fin grid0.N, _)

theorem idx23 : ∀ t : Fin cfg0.N, win0_23.index t = ![(grid0.coords t 0).val, 0, 0] :=
  (by decide +kernel : ∀ t : Fin grid0.N, _)

theorem idx24 : ∀ t : Fin cfg0.N, win0_24.index t = ![(grid0.coords t 0).val, 0, 0] :=
  (by decide +kernel : ∀ t : Fin grid0.N, _)

theorem idx25 : ∀ t : Fin cfg0.N, win0_25.index t = ![(grid0.coords t 0).val, 0, 0] :=
  (by decide +kernel : ∀ t : Fin grid0.N, _)

end Cert.TailIdeal.Value

end
-- ==== Proof.KernelOut17.lean ====
/- Output 17 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld17_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld17_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld17_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld17_w3 {e : EltTy} (x : Vec Ideal S768x768 e) : View.ld x (Rect.unit ![0, 0] ![768, 768] inb_S768x768_S768x768_0_0) = x :=
  View.ld_unit_zero (S := S768x768) (by funext a; fin_cases a <;> rfl) _ x

theorem out17_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (k : Fin 768) (r : Fin 384) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 k r) = code (ctxRow x0 r k) (scale (ctxRow x0 r)) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld17_w0, ld17_w1, ld17_w2, ld17_w3]
  have e := congrFun (View.canon_unit_zero (Val := Elt Ideal) (S := S1x768x384) (e := .i8) (by funext a; fin_cases a <;> rfl) inb_S1x768x384_S1x768x384_0_0_0 (k0_pay6 x0)) (ix3 0 k r)
  refine Eq.trans ?_ (e.trans ?_)
  · rfl
  exact pay6_at x0 k r

end Cert.TailIdeal.Gen

end
-- ==== Proof.KernelFin17.lean ====
/- Output 17 of the tiled program, at every index. -/
module

public import proofs.«01_k».proof.Proof.KernelRead
public import proofs.«01_k».proof.Proof.KernelOut17

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin17 (c : Dev nD) : (dats m 0 c).arrAt 17 cfg0.N = res17 (m ((c : Thread nD τ).loc main_arg0)) := by
  refine (dats m 0 c).arrAt_eq_of_covers 17 _ (by decide +kernel) fun t hf y => ?_
  obtain ⟨b, u, v, rfl⟩ : ∃ (b : Fin 1) (u : Fin 768) (v : Fin 384), y = ix3 b u v := ⟨y 0, y 1, y 2, by funext a; fin_cases a <;> rfl⟩
  obtain rfl : b = 0 := Subsingleton.elim _ _
  have e : (win0_17.blk t).view.emb (ix3 0 u v) = ix3 (grid0.coords t 0) u v := by
    blk_ext [idx17 t]
  refine Eq.trans ?_ (congrArg (res17 (m ((c : Thread nD τ).loc main_arg0))) e).symm
  show (dats m 0 c).after 17 t (ix3 0 u v) = _
  rw [after0_17]
  unfold outsAt0
  dsimp only
  refine Eq.trans (out17_at ..) ?_
  rw [ctx_eq]
  rfl

end Cert.TailIdeal.Value

end
-- ==== Proof.KernelOut18.lean ====
/- Output 18 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld18_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld18_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld18_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld18_w3 {e : EltTy} (x : Vec Ideal S768x768 e) : View.ld x (Rect.unit ![0, 0] ![768, 768] inb_S768x768_S768x768_0_0) = x :=
  View.ld_unit_zero (S := S768x768) (by funext a; fin_cases a <;> rfl) _ x

theorem out18_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (r : Fin 384) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 0 r) = scale (ctxRow x0 r) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld18_w0, ld18_w1, ld18_w2, ld18_w3]
  have e := congrFun (View.canon_unit_zero (Val := Elt Ideal) (S := S1x1x384) (e := .f32) (by funext a; fin_cases a <;> rfl) inb_S1x1x384_S1x1x384_0_0_0 (k0_pay4 x0)) (ix3 0 0 r)
  refine Eq.trans ?_ (e.trans ?_)
  · rfl
  exact pay4_at x0 r

end Cert.TailIdeal.Gen

end
-- ==== Proof.KernelFin18.lean ====
/- Output 18 of the tiled program, at every index. -/
module

public import proofs.«01_k».proof.Proof.KernelRead
public import proofs.«01_k».proof.Proof.KernelOut18

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin18 (c : Dev nD) : (dats m 0 c).arrAt 18 cfg0.N = res18 (m ((c : Thread nD τ).loc main_arg0)) := by
  refine (dats m 0 c).arrAt_eq_of_covers 18 _ (by decide +kernel) fun t hf y => ?_
  obtain ⟨b, u, v, rfl⟩ : ∃ (b : Fin 1) (u : Fin 1) (v : Fin 384), y = ix3 b u v := ⟨y 0, y 1, y 2, by funext a; fin_cases a <;> rfl⟩
  obtain rfl : b = 0 := Subsingleton.elim _ _
  obtain rfl : u = 0 := Subsingleton.elim _ _
  have e : (win0_18.blk t).view.emb (ix3 0 0 v) = ix3 (grid0.coords t 0) 0 v := by
    blk_ext [idx18 t]
  refine Eq.trans ?_ (congrArg (res18 (m ((c : Thread nD τ).loc main_arg0))) e).symm
  show (dats m 0 c).after 18 t (ix3 0 0 v) = _
  rw [after0_18]
  unfold outsAt0
  dsimp only
  refine Eq.trans (out18_at ..) ?_
  rw [ctx_eq]
  rfl

end Cert.TailIdeal.Value

end
-- ==== Proof.KernelOut19.lean ====
/- Output 19 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld19_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld19_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld19_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld19_w3 {e : EltTy} (x : Vec Ideal S768x768 e) : View.ld x (Rect.unit ![0, 0] ![768, 768] inb_S768x768_S768x768_0_0) = x :=
  View.ld_unit_zero (S := S768x768) (by funext a; fin_cases a <;> rfl) _ x

theorem out19_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (r : Fin 384) (k : Fin 768) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 r k) = code (H x0 x1 x2 x3 x4 x5 x6 x7 x8 x9 x10 x11 x12 x13 x14 x15 x16 r k) (scale (H x0 x1 x2 x3 x4 x5 x6 x7 x8 x9 x10 x11 x12 x13 x14 x15 x16 r)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld19_w0, ld19_w1, ld19_w2, ld19_w3]
  have e := congrFun (View.canon_unit_zero (Val := Elt Ideal) (S := S1x384x768) (e := .i8) (by funext a; fin_cases a <;> rfl) inb_S1x384x768_S1x384x768_0_0_0 (k0_pay18 (h15 x0 x1 x2 x3 x4 x5 x6 x7 x8) 127#32 k0_pay16)) (ix3 0 r k)
  refine Eq.trans ?_ (e.trans ?_)
  · rfl
  refine (pay18_at (h15 x0 x1 x2 x3 x4 x5 x6 x7 x8) r k).trans ?_
  rw [h15_at x0 x1 x2 x3 x4 x5 x6 x7 x8 x9 x10 x11 x12 x13 x14 x15 x16]
  rfl

end Cert.TailIdeal.Gen

end
-- ==== Proof.KernelFin19.lean ====
/- Output 19 of the tiled program, at every index. -/
module

public import proofs.«01_k».proof.Proof.KernelRead
public import proofs.«01_k».proof.Proof.KernelOut19

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin19 (c : Dev nD) : (dats m 0 c).arrAt 19 cfg0.N = res19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 19 _ (by decide +kernel) fun t hf y => ?_
  obtain ⟨b, u, v, rfl⟩ : ∃ (b : Fin 1) (u : Fin 384) (v : Fin 768), y = ix3 b u v := ⟨y 0, y 1, y 2, by funext a; fin_cases a <;> rfl⟩
  obtain rfl : b = 0 := Subsingleton.elim _ _
  have e : (win0_19.blk t).view.emb (ix3 0 u v) = ix3 (grid0.coords t 0) u v := by
    blk_ext [idx19 t]
  refine Eq.trans ?_ (congrArg (res19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 19 t (ix3 0 u v) = _
  rw [after0_19]
  unfold outsAt0
  dsimp only
  refine Eq.trans (out19_at ..) ?_
  rw [h_eq]
  rfl

end Cert.TailIdeal.Value

end
-- ==== Proof.KernelOut20.lean ====
/- Output 20 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld20_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld20_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld20_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld20_w3 {e : EltTy} (x : Vec Ideal S768x768 e) : View.ld x (Rect.unit ![0, 0] ![768, 768] inb_S768x768_S768x768_0_0) = x :=
  View.ld_unit_zero (S := S768x768) (by funext a; fin_cases a <;> rfl) _ x

theorem out20_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (r : Fin 384) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 0 r) = scale (H x0 x1 x2 x3 x4 x5 x6 x7 x8 x9 x10 x11 x12 x13 x14 x15 x16 r) := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld20_w0, ld20_w1, ld20_w2, ld20_w3]
  have e := congrFun (View.canon_unit_zero (Val := Elt Ideal) (S := S1x1x384) (e := .f32) (by funext a; fin_cases a <;> rfl) inb_S1x1x384_S1x1x384_0_0_0 (k0_pay19 (h14 x0 x1 x2 x3 x4 x5 x6 x7 x8))) (ix3 0 0 r)
  refine Eq.trans ?_ (e.trans ?_)
  · rfl
  exact (pay19_at (h14 x0 x1 x2 x3 x4 x5 x6 x7 x8) r).trans (h14_at x0 x1 x2 x3 x4 x5 x6 x7 x8 x9 x10 x11 x12 x13 x14 x15 x16 r)

end Cert.TailIdeal.Gen

end
-- ==== Proof.KernelFin20.lean ====
/- Output 20 of the tiled program, at every index. -/
module

public import proofs.«01_k».proof.Proof.KernelRead
public import proofs.«01_k».proof.Proof.KernelOut20

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin20 (c : Dev nD) : (dats m 0 c).arrAt 20 cfg0.N = res20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 20 _ (by decide +kernel) fun t hf y => ?_
  obtain ⟨b, u, v, rfl⟩ : ∃ (b : Fin 1) (u : Fin 1) (v : Fin 384), y = ix3 b u v := ⟨y 0, y 1, y 2, by funext a; fin_cases a <;> rfl⟩
  obtain rfl : b = 0 := Subsingleton.elim _ _
  obtain rfl : u = 0 := Subsingleton.elim _ _
  have e : (win0_20.blk t).view.emb (ix3 0 0 v) = ix3 (grid0.coords t 0) 0 v := by
    blk_ext [idx20 t]
  refine Eq.trans ?_ (congrArg (res20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 20 t (ix3 0 0 v) = _
  rw [after0_20]
  unfold outsAt0
  dsimp only
  refine Eq.trans (out20_at ..) ?_
  rw [h_eq]
  rfl

end Cert.TailIdeal.Value

end
-- ==== Proof.KernelOut21.lean ====
/- Output 21 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld21_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld21_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld21_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld21_w3 {e : EltTy} (x : Vec Ideal S768x768 e) : View.ld x (Rect.unit ![0, 0] ![768, 768] inb_S768x768_S768x768_0_0) = x :=
  View.ld_unit_zero (S := S768x768) (by funext a; fin_cases a <;> rfl) _ x

theorem out21_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (r : Fin 384) (k : Fin 3072) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 r k) = code (G x0 x1 x2 x3 x4 x5 x6 x7 x8 x9 x10 x11 x12 x13 x14 x15 x16 r k) (scale (G x0 x1 x2 x3 x4 x5 x6 x7 x8 x9 x10 x11 x12 x13 x14 x15 x16 r)) := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld21_w0, ld21_w1, ld21_w2, ld21_w3]
  show View.canon (cpieces arg27 (h14 x0 x1 x2 x3 x4 x5 x6 x7 x8) (h15 x0 x1 x2 x3 x4 x5 x6 x7 x8) x9 x10 x11) _ = _
  refine (canon_cpieces arg27 (h14 x0 x1 x2 x3 x4 x5 x6 x7 x8) (h15 x0 x1 x2 x3 x4 x5 x6 x7 x8) x9 x10 x11 _).trans ?_
  show code (gRow (h14 x0 x1 x2 x3 x4 x5 x6 x7 x8) (h15 x0 x1 x2 x3 x4 x5 x6 x7 x8) x9 x10 x11 r k) (scale (gRow (h14 x0 x1 x2 x3 x4 x5 x6 x7 x8) (h15 x0 x1 x2 x3 x4 x5 x6 x7 x8) x9 x10 x11 r)) = _
  rw [gRow_eq x0 x1 x2 x3 x4 x5 x6 x7 x8 x9 x10 x11 x12 x13 x14 x15 x16]

end Cert.TailIdeal.Gen

end
-- ==== Proof.KernelFin21.lean ====
/- Output 21 of the tiled program, at every index. -/
module

public import proofs.«01_k».proof.Proof.KernelRead
public import proofs.«01_k».proof.Proof.KernelOut21

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin21 (c : Dev nD) : (dats m 0 c).arrAt 21 cfg0.N = res21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 21 _ (by decide +kernel) fun t hf y => ?_
  obtain ⟨b, u, v, rfl⟩ : ∃ (b : Fin 1) (u : Fin 384) (v : Fin 3072), y = ix3 b u v := ⟨y 0, y 1, y 2, by funext a; fin_cases a <;> rfl⟩
  obtain rfl : b = 0 := Subsingleton.elim _ _
  have e : (win0_21.blk t).view.emb (ix3 0 u v) = ix3 (grid0.coords t 0) u v := by
    blk_ext [idx21 t]
  refine Eq.trans ?_ (congrArg (res21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 21 t (ix3 0 u v) = _
  rw [after0_21]
  unfold outsAt0
  dsimp only
  refine Eq.trans (out21_at ..) ?_
  rw [g_eq]
  rfl

end Cert.TailIdeal.Value

end
-- ==== Proof.KernelOut22.lean ====
/- Output 22 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld22_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld22_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld22_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld22_w3 {e : EltTy} (x : Vec Ideal S768x768 e) : View.ld x (Rect.unit ![0, 0] ![768, 768] inb_S768x768_S768x768_0_0) = x :=
  View.ld_unit_zero (S := S768x768) (by funext a; fin_cases a <;> rfl) _ x

theorem out22_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (r : Fin 384) :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 0 r) = scale (G x0 x1 x2 x3 x4 x5 x6 x7 x8 x9 x10 x11 x12 x13 x14 x15 x16 r) := by
  unfold out0_A_22
  rw [View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld22_w0, ld22_w1, ld22_w2, ld22_w3]
  have e := congrFun (View.canon_unit_zero (Val := Elt Ideal) (S := S1x1x384) (e := .f32) (by funext a; fin_cases a <;> rfl) inb_S1x1x384_S1x1x384_0_0_0 (k0_pay43 (m39 (h14 x0 x1 x2 x3 x4 x5 x6 x7 x8) (h15 x0 x1 x2 x3 x4 x5 x6 x7 x8) x9 x10 x11) (p40 (h14 x0 x1 x2 x3 x4 x5 x6 x7 x8) (h15 x0 x1 x2 x3 x4 x5 x6 x7 x8) x9 x10 x11))) (ix3 0 0 r)
  refine Eq.trans ?_ (e.trans ?_)
  · rfl
  refine (pay43_at (m39 (h14 x0 x1 x2 x3 x4 x5 x6 x7 x8) (h15 x0 x1 x2 x3 x4 x5 x6 x7 x8) x9 x10 x11) (p40 (h14 x0 x1 x2 x3 x4 x5 x6 x7 x8) (h15 x0 x1 x2 x3 x4 x5 x6 x7 x8) x9 x10 x11) r).trans ?_
  refine (s42_at (h14 x0 x1 x2 x3 x4 x5 x6 x7 x8) (h15 x0 x1 x2 x3 x4 x5 x6 x7 x8) x9 x10 x11 r).trans ?_
  rw [gRow_eq x0 x1 x2 x3 x4 x5 x6 x7 x8 x9 x10 x11 x12 x13 x14 x15 x16]

end Cert.TailIdeal.Gen

end
-- ==== Proof.KernelFin22.lean ====
/- Output 22 of the tiled program, at every index. -/
module

public import proofs.«01_k».proof.Proof.KernelRead
public import proofs.«01_k».proof.Proof.KernelOut22

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin22 (c : Dev nD) : (dats m 0 c).arrAt 22 cfg0.N = res22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 22 _ (by decide +kernel) fun t hf y => ?_
  obtain ⟨b, u, v, rfl⟩ : ∃ (b : Fin 1) (u : Fin 1) (v : Fin 384), y = ix3 b u v := ⟨y 0, y 1, y 2, by funext a; fin_cases a <;> rfl⟩
  obtain rfl : b = 0 := Subsingleton.elim _ _
  obtain rfl : u = 0 := Subsingleton.elim _ _
  have e : (win0_22.blk t).view.emb (ix3 0 0 v) = ix3 (grid0.coords t 0) 0 v := by
    blk_ext [idx22 t]
  refine Eq.trans ?_ (congrArg (res22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 22 t (ix3 0 0 v) = _
  rw [after0_22]
  unfold outsAt0
  dsimp only
  refine Eq.trans (out22_at ..) ?_
  rw [g_eq]
  rfl

end Cert.TailIdeal.Value

end
-- ==== Proof.KernelOut23.lean ====
/- Output 23 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld23_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld23_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld23_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld23_w3 {e : EltTy} (x : Vec Ideal S768x768 e) : View.ld x (Rect.unit ![0, 0] ![768, 768] inb_S768x768_S768x768_0_0) = x :=
  View.ld_unit_zero (S := S768x768) (by funext a; fin_cases a <;> rfl) _ x

theorem out23_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (r : Fin 384) (k : Fin 768) :
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 r k) = O x0 x1 x2 x3 x4 x5 x6 x7 x8 x9 x10 x11 x12 x13 x14 x15 x16 r k := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld23_w0, ld23_w1, ld23_w2, ld23_w3]
  have e := congrFun (View.canon_unit_zero (Val := Elt Ideal) (S := S1x384x768) (e := .f32) (by funext a; fin_cases a <;> rfl) inb_S1x384x768_S1x384x768_0_0_0 (k0_pay64 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16)) (ix3 0 r k)
  refine Eq.trans ?_ (e.trans ?_)
  · rfl
  exact (pay64_at (h13 x0 x1 x2 x3 x4 x5 x6 x7 x8) (z62 arg27 (h14 x0 x1 x2 x3 x4 x5 x6 x7 x8) (h15 x0 x1 x2 x3 x4 x5 x6 x7 x8) x9 x10 x11 x12) x13 x14 x15 x16 r k).trans (o63_at x0 x1 x2 x3 x4 x5 x6 x7 x8 x9 x10 x11 x12 x13 x14 x15 x16 arg27 r k)

end Cert.TailIdeal.Gen

end
-- ==== Proof.KernelFin23.lean ====
/- Output 23 of the tiled program, at every index. -/
module

public import proofs.«01_k».proof.Proof.KernelRead
public import proofs.«01_k».proof.Proof.KernelOut23

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin23 (c : Dev nD) : (dats m 0 c).arrAt 23 cfg0.N = res23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 23 _ (by decide +kernel) fun t hf y => ?_
  obtain ⟨b, u, v, rfl⟩ : ∃ (b : Fin 1) (u : Fin 384) (v : Fin 768), y = ix3 b u v := ⟨y 0, y 1, y 2, by funext a; fin_cases a <;> rfl⟩
  obtain rfl : b = 0 := Subsingleton.elim _ _
  have e : (win0_23.blk t).view.emb (ix3 0 u v) = ix3 (grid0.coords t 0) u v := by
    blk_ext [idx23 t]
  refine Eq.trans ?_ (congrArg (res23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 23 t (ix3 0 u v) = _
  rw [after0_23]
  unfold outsAt0
  dsimp only
  refine Eq.trans (out23_at ..) ?_
  rw [o_eq]
  rfl

end Cert.TailIdeal.Value

end
-- ==== Proof.KernelOut24.lean ====
/- Output 24 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld24_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld24_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld24_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld24_w3 {e : EltTy} (x : Vec Ideal S768x768 e) : View.ld x (Rect.unit ![0, 0] ![768, 768] inb_S768x768_S768x768_0_0) = x :=
  View.ld_unit_zero (S := S768x768) (by funext a; fin_cases a <;> rfl) _ x

theorem out24_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (r : Fin 384) (k : Fin 768) :
    out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 r k) = code (O x0 x1 x2 x3 x4 x5 x6 x7 x8 x9 x10 x11 x12 x13 x14 x15 x16 r k) (scale (O x0 x1 x2 x3 x4 x5 x6 x7 x8 x9 x10 x11 x12 x13 x14 x15 x16 r)) := by
  unfold out0_A_24
  rw [View.read_writes_eq_canon _ _ _ (cover0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld24_w0, ld24_w1, ld24_w2, ld24_w3]
  have e := congrFun (View.canon_unit_zero (Val := Elt Ideal) (S := S1x384x768) (e := .i8) (by funext a; fin_cases a <;> rfl) inb_S1x384x768_S1x384x768_0_0_0 (k0_pay68 (k0_pay63 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16) (k0_pay65 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16) (k0_pay66 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16))) (ix3 0 r k)
  refine Eq.trans ?_ (e.trans ?_)
  · rfl
  refine (pay68_at (h13 x0 x1 x2 x3 x4 x5 x6 x7 x8) (z62 arg27 (h14 x0 x1 x2 x3 x4 x5 x6 x7 x8) (h15 x0 x1 x2 x3 x4 x5 x6 x7 x8) x9 x10 x11 x12) x13 x14 x15 x16 r k).trans ?_
  simp only [o63_at x0 x1 x2 x3 x4 x5 x6 x7 x8 x9 x10 x11 x12 x13 x14 x15 x16]

end Cert.TailIdeal.Gen

end
-- ==== Proof.KernelFin24.lean ====
/- Output 24 of the tiled program, at every index. -/
module

public import proofs.«01_k».proof.Proof.KernelRead
public import proofs.«01_k».proof.Proof.KernelOut24

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin24 (c : Dev nD) : (dats m 0 c).arrAt 24 cfg0.N = res24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 24 _ (by decide +kernel) fun t hf y => ?_
  obtain ⟨b, u, v, rfl⟩ : ∃ (b : Fin 1) (u : Fin 384) (v : Fin 768), y = ix3 b u v := ⟨y 0, y 1, y 2, by funext a; fin_cases a <;> rfl⟩
  obtain rfl : b = 0 := Subsingleton.elim _ _
  have e : (win0_24.blk t).view.emb (ix3 0 u v) = ix3 (grid0.coords t 0) u v := by
    blk_ext [idx24 t]
  refine Eq.trans ?_ (congrArg (res24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 24 t (ix3 0 u v) = _
  rw [after0_24]
  unfold outsAt0
  dsimp only
  refine Eq.trans (out24_at ..) ?_
  rw [o_eq]
  rfl

end Cert.TailIdeal.Value

end
-- ==== Proof.KernelOut25.lean ====
/- Output 25 of the tiled program, entry by entry. -/
module

public import proofs.«01_k».proof.Proof.KernelRows

@[expose] public section

set_option maxRecDepth 16384

noncomputable section

namespace Cert.TailIdeal.Gen

open Idealize.ShloMosaic Idealize.ShloMosaic.TcCoe Idealize.SL.Sem Cert.Rows

theorem ld25_w0 {e : EltTy} (x : Vec Ideal S1x768x384 e) : View.ld x (Rect.unit ![0, 0, 0] ![1, 768, 384] inb_S1x768x384_S1x768x384_0_0_0) = x :=
  View.ld_unit_zero (S := S1x768x384) (by funext a; fin_cases a <;> rfl) _ x

theorem ld25_w1 {e : EltTy} (x : Vec Ideal S1x384x768 e) : View.ld x (Rect.unit ![0, 0, 0] ![1, 384, 768] inb_S1x384x768_S1x384x768_0_0_0) = x :=
  View.ld_unit_zero (S := S1x384x768) (by funext a; fin_cases a <;> rfl) _ x

theorem ld25_w2 {e : EltTy} (x : Vec Ideal S1x768 e) : View.ld x (Rect.unit ![0, 0] ![1, 768] inb_S1x768_S1x768_0_0) = x :=
  View.ld_unit_zero (S := S1x768) (by funext a; fin_cases a <;> rfl) _ x

theorem ld25_w3 {e : EltTy} (x : Vec Ideal S768x768 e) : View.ld x (Rect.unit ![0, 0] ![768, 768] inb_S768x768_S768x768_0_0) = x :=
  View.ld_unit_zero (S := S768x768) (by funext a; fin_cases a <;> rfl) _ x

theorem out25_at (c : Dev nD) (i : grid0.Coords) (arg1 : Memref sig .tc .vmem S1x768x384 .f32) (harg1 : arg1.IsWhole) (arg2 : Memref sig .tc .vmem S1x384x768 .bf16) (harg2 : arg2.IsWhole) (arg3 : Memref sig .tc .vmem S1x768 .f32) (harg3 : arg3.IsWhole) (arg4 : Memref sig .tc .vmem S1x768 .f32) (harg4 : arg4.IsWhole) (arg5 : Memref sig .tc .vmem S768x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S768x3072 .i8) (harg10 : arg10.IsWhole) (arg11 : Memref sig .tc .vmem S1x3072 .f32) (harg11 : arg11.IsWhole) (arg12 : Memref sig .tc .vmem S1x3072 .f32) (harg12 : arg12.IsWhole) (arg13 : Memref sig .tc .vmem S3072x768 .i8) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768x384 .i8) (harg18 : arg18.IsWhole) (arg19 : Memref sig .tc .vmem S1x1x384 .f32) (harg19 : arg19.IsWhole) (arg20 : Memref sig .tc .vmem S1x384x768 .i8) (harg20 : arg20.IsWhole) (arg21 : Memref sig .tc .vmem S1x1x384 .f32) (harg21 : arg21.IsWhole) (arg22 : Memref sig .tc .vmem S1x384x3072 .i8) (harg22 : arg22.IsWhole) (arg23 : Memref sig .tc .vmem S1x1x384 .f32) (harg23 : arg23.IsWhole) (arg24 : Memref sig .tc .vmem S1x384x768 .f32) (harg24 : arg24.IsWhole) (arg25 : Memref sig .tc .vmem S1x384x768 .i8) (harg25 : arg25.IsWhole) (arg26 : Memref sig .tc .vmem S1x1x384 .f32) (harg26 : arg26.IsWhole) (arg27 : Memref sig .tc .vmem S384x3072 .f32) (harg27 : arg27.IsWhole)
    (x0 : Vec Ideal S1x768x384 .f32) (x1 : Vec Ideal S1x384x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) (r : Fin 384) :
    out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 (ix3 0 0 r) = scale (O x0 x1 x2 x3 x4 x5 x6 x7 x8 x9 x10 x11 x12 x13 x14 x15 x16 r) := by
  unfold out0_A_25
  rw [View.read_writes_eq_canon _ _ _ (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, ld25_w0, ld25_w1, ld25_w2, ld25_w3]
  have e := congrFun (View.canon_unit_zero (Val := Elt Ideal) (S := S1x1x384) (e := .f32) (by funext a; fin_cases a <;> rfl) inb_S1x1x384_S1x1x384_0_0_0 (k0_pay1 (k0_pay69 (k0_pay65 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16) (k0_pay66 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16)))) (ix3 0 0 r)
  refine Eq.trans ?_ (e.trans ?_)
  · rfl
  refine (pay1_at (k0_pay69 (k0_pay65 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16) (k0_pay66 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16)) r).trans ?_
  refine (pay69_at (k0_pay65 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16) (k0_pay66 (h13 x0 x1 x2 x3 x4 x5 x6 x7 x8) (z62 arg27 (h14 x0 x1 x2 x3 x4 x5 x6 x7 x8) (h15 x0 x1 x2 x3 x4 x5 x6 x7 x8) x9 x10 x11 x12) x13 x14 x15 x16) r).trans ?_
  rw [pay67_at]
  simp only [o63_at x0 x1 x2 x3 x4 x5 x6 x7 x8 x9 x10 x11 x12 x13 x14 x15 x16]

end Cert.TailIdeal.Gen

end
-- ==== Proof.KernelFin25.lean ====
/- Output 25 of the tiled program, at every index. -/
module

public import proofs.«01_k».proof.Proof.KernelRead
public import proofs.«01_k».proof.Proof.KernelOut25

@[expose] public section

set_option maxRecDepth 16384

noncomputable section

namespace Cert.TailIdeal.Value

open Idealize.ShloMosaic Idealize.ShloMosaic.TcCoe Idealize.SL.Sem
open Cert.TailIdeal Cert.TailIdeal.Gen Cert.Rows

variable (m : (ℓ : Loc nD τ sig) → Buf (Elt Ideal) ℓ)

theorem fin25 (c : Dev nD) : (dats m 0 c).arrAt 25 cfg0.N = res25 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 25 _ (by decide +kernel) fun t hf y => ?_
  obtain ⟨b, u, v, rfl⟩ : ∃ (b : Fin 1) (u : Fin 1) (v : Fin 384), y = ix3 b u v := ⟨y 0, y 1, y 2, by funext a; fin_cases a <;> rfl⟩
  obtain rfl : b = 0 := Subsingleton.elim _ _
  obtain rfl : u = 0 := Subsingleton.elim _ _
  have e : (win0_25.blk t).view.emb (ix3 0 0 v) = ix3 (grid0.coords t 0) 0 v := by
    blk_ext [idx25 t]
  refine Eq.trans ?_ (congrArg (res25 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 25 t (ix3 0 0 v) = _
  rw [after0_25]
  unfold outsAt0
  dsimp only
  refine Eq.trans (out25_at ..) ?_
  rw [o_eq]
  rfl

end Cert.TailIdeal.Value

end
-- ==== Proof.RefShape.lean ====
/- What the reference of the tail computes, entry by entry. -/
module

public import proofs.«01_k».proof.Proof.Gen.TailRefIdeal.Skeleton
public import proofs.«01_k».proof.Proof.Rows

@[expose] public section

set_option maxRecDepth 16384

noncomputable section

namespace Cert.TailRefIdeal.Gen

open Idealize.ShloMosaic Idealize.ShloMosaic.TcCoe Idealize.SL.Sem Cert.Rows

/-- Row `s` of batch `b` among the 1152 rows. -/
def rowOf (b : Fin 3) (s : Fin 384) : Fin 1152 := ⟨384 * b + s, by omega⟩

theorem rowOf_eq (b : Fin 3) (s : Fin 384) (h : b.val * 384 + s.val < 1152) : (⟨b.val * 384 + s.val, h⟩ : Fin 1152) = rowOf b s :=
  Fin.ext (by simp only [rowOf]; omega)

theorem pay1_at (v : FVec Ideal S1152 .f32) (b : Fin 3) (s : Fin 384) : k0_pay1 v (ix3 b 0 s) = v (ix1 (rowOf b s)) := by
  pointwise [k0_pay1]
  rw [rowOf_eq]

theorem pay2_at (v : IVec S1152x768 8) (b : Fin 3) (s : Fin 384) (j : Fin 768) : k0_pay2 v (ix3 b s j) = v (ix2 (rowOf b s) j) := by
  pointwise [k0_pay2]
  rw [rowOf_eq]

theorem pay3_at (v : FVec Ideal S1152 .f32) (b : Fin 3) (s : Fin 384) : k0_pay3 v (ix3 b 0 s) = v (ix1 (rowOf b s)) := by
  pointwise [k0_pay3]
  rw [rowOf_eq]

theorem pay4_at (v : IVec S1152x3072 8) (b : Fin 3) (s : Fin 384) (j : Fin 3072) : k0_pay4 v (ix3 b s j) = v (ix2 (rowOf b s) j) := by
  pointwise [k0_pay4]
  rw [rowOf_eq]

theorem pay5_at (v : FVec Ideal S1152 .f32) (b : Fin 3) (s : Fin 384) : k0_pay5 v (ix3 b 0 s) = v (ix1 (rowOf b s)) := by
  pointwise [k0_pay5]
  rw [rowOf_eq]

theorem pay6_at (v : FVec Ideal S1152x768 .f32) (b : Fin 3) (s : Fin 384) (j : Fin 768) : k0_pay6 v (ix3 b s j) = v (ix2 (rowOf b s) j) := by
  pointwise [k0_pay6]
  rw [rowOf_eq]

theorem pay7_at (v : IVec S1152x768 8) (b : Fin 3) (s : Fin 384) (j : Fin 768) : k0_pay7 v (ix3 b s j) = v (ix2 (rowOf b s) j) := by
  pointwise [k0_pay7]
  rw [rowOf_eq]

theorem pay8_at (v : FVec Ideal S1152 .f32) (b : Fin 3) (s : Fin 384) : k0_pay8 v (ix3 b 0 s) = v (ix1 (rowOf b s)) := by
  pointwise [k0_pay8]
  rw [rowOf_eq]

theorem pay35_at (v : IVec S1152x768 8) (b : Fin 3) (j : Fin 768) (s : Fin 384) : k0_pay35 v (ix3 b j s) = v (ix2 (rowOf b s) j) := by
  pointwise [k0_pay35]
  rw [rowOf_eq]

end Cert.TailRefIdeal.Gen

end
-- ==== Proof.RefArgs.lean ====
/- Each block the reference loads, read of the argument arrays. -/
module

public import proofs.«01_k».proof.Proof.Gen.TailRefIdeal.Frame
public import proofs.«01_k».proof.Proof.RefShape
public import proofs.«01_k».proof.Proof.Rows
public import Idealize.ShloMosaic.Lib.Pipeline.ValueKit.Point

@[expose] public section

set_option maxRecDepth 16384

noncomputable section

namespace Cert.TailRefIdeal.Value

open Idealize.ShloMosaic Idealize.ShloMosaic.TcCoe Idealize.SL.Sem
open Cert.TailRefIdeal Cert.TailRefIdeal.Gen Cert.Rows

variable (m : (ℓ : Loc nD τ sig) → Buf (Elt Ideal) ℓ)

theorem idx0 : ∀ t : Fin cfg0.N, win0_0.index t = ![0, 0] :=
  (by decide +kernel : ∀ t : Fin grid0.N, _)

theorem idx1 : ∀ t : Fin cfg0.N, win0_1.index t = ![0, 0] :=
  (by decide +kernel : ∀ t : Fin grid0.N, _)

theorem idx2 : ∀ t : Fin cfg0.N, win0_2.index t = ![0, 0] :=
  (by decide +kernel : ∀ t : Fin grid0.N, _)

theorem idx3 : ∀ t : Fin cfg0.N, win0_3.index t = ![0, 0] :=
  (by decide +kernel : ∀ t : Fin grid0.N, _)

theorem idx4 : ∀ t : Fin cfg0.N, win0_4.index t = ![0, 0] :=
  (by decide +kernel : ∀ t : Fin grid0.N, _)

theorem idx5 : ∀ t : Fin cfg0.N, win0_5.index t = ![0, 0] :=
  (by decide +kernel : ∀ t : Fin grid0.N, _)

theorem idx6 : ∀ t : Fin cfg0.N, win0_6.index t = ![0, 0] :=
  (by decide +kernel : ∀ t : Fin grid0.N, _)

theorem idx7 : ∀ t : Fin cfg0.N, win0_7.index t = ![0, 0] :=
  (by decide +kernel : ∀ t : Fin grid0.N, _)

theorem idx8 : ∀ t : Fin cfg0.N, win0_8.index t = ![0, 0] :=
  (by decide +kernel : ∀ t : Fin grid0.N, _)

theorem idx9 : ∀ t : Fin cfg0.N, win0_9.index t = ![0, 0] :=
  (by decide +kernel : ∀ t : Fin grid0.N, _)

theorem idx10 : ∀ t : Fin cfg0.N, win0_10.index t = ![0, 0] :=
  (by decide +kernel : ∀ t : Fin grid0.N, _)

theorem idx11 : ∀ t : Fin cfg0.N, win0_11.index t = ![0, 0] :=
  (by decide +kernel : ∀ t : Fin grid0.N, _)

theorem idx12 : ∀ t : Fin cfg0.N, win0_12.index t = ![0, 0] :=
  (by decide +kernel : ∀ t : Fin grid0.N, _)

theorem idx13 : ∀ t : Fin cfg0.N, win0_13.index t = ![0, 0] :=
  (by decide +kernel : ∀ t : Fin grid0.N, _)

theorem idx14 : ∀ t : Fin cfg0.N, win0_14.index t = ![0, 0] :=
  (by decide +kernel : ∀ t : Fin grid0.N, _)

theorem idx15 : ∀ t : Fin cfg0.N, win0_15.index t = ![0, 0] :=
  (by decide +kernel : ∀ t : Fin grid0.N, _)

theorem idx16 : ∀ t : Fin cfg0.N, win0_16.index t = ![0, 0] :=
  (by decide +kernel : ∀ t : Fin grid0.N, _)

theorem blk0 (c : Dev nD) (t : Fin cfg0.N) (b : Fin 3) (s : Fin 384) (k : Fin 768) : iblk m c 0 t (ix2 (rowOf b s) k) = m ((c : Thread nD τ).loc main_arg0) (ix3 b k s) := by
  blk_ext! [iblk, V, idx0 t]
  all_goals (simp only [rowOf]; omega)

theorem blk1 (c : Dev nD) (t : Fin cfg0.N) (b : Fin 3) (s : Fin 384) (k : Fin 768) : iblk m c 1 t (ix2 (rowOf b s) k) = m ((c : Thread nD τ).loc main_arg1) (ix3 b s k) := by
  blk_ext! [iblk, V, idx1 t]
  all_goals (simp only [rowOf]; omega)

theorem blk2 (c : Dev nD) (t : Fin cfg0.N) (k : Fin 768) : iblk m c 2 t (ix2 0 k) = m ((c : Thread nD τ).loc main_arg2) (ix1 k) := by
  blk_ext! [iblk, V, idx2 t]

theorem blk3 (c : Dev nD) (t : Fin cfg0.N) (k : Fin 768) : iblk m c 3 t (ix2 0 k) = m ((c : Thread nD τ).loc main_arg3) (ix1 k) := by
  blk_ext! [iblk, V, idx3 t]

theorem blk4 (c : Dev nD) (t : Fin cfg0.N) (k : Fin 768) (j : Fin 768) : iblk m c 4 t (ix2 k j) = m ((c : Thread nD τ).loc main_arg4) (ix3 (⟨k.val / 64, by omega⟩ : Fin 12) (⟨k.val % 64, by omega⟩ : Fin 64) j) := by
  blk_ext! [iblk, V, idx4 t]

theorem blk5 (c : Dev nD) (t : Fin cfg0.N) (k : Fin 768) : iblk m c 5 t (ix2 0 k) = m ((c : Thread nD τ).loc main_arg5) (ix1 k) := by
  blk_ext! [iblk, V, idx5 t]

theorem blk6 (c : Dev nD) (t : Fin cfg0.N) (k : Fin 768) : iblk m c 6 t (ix2 0 k) = m ((c : Thread nD τ).loc main_arg6) (ix1 k) := by
  blk_ext! [iblk, V, idx6 t]

theorem blk7 (c : Dev nD) (t : Fin cfg0.N) (k : Fin 768) : iblk m c 7 t (ix2 0 k) = m ((c : Thread nD τ).loc main_arg13) (ix1 k) := by
  blk_ext! [iblk, V, idx7 t]

theorem blk8 (c : Dev nD) (t : Fin cfg0.N) (k : Fin 768) : iblk m c 8 t (ix2 0 k) = m ((c : Thread nD τ).loc main_arg14) (ix1 k) := by
  blk_ext! [iblk, V, idx8 t]

theorem blk9 (c : Dev nD) (t : Fin cfg0.N) (k : Fin 768) (j : Fin 3072) : iblk m c 9 t (ix2 k j) = m (((c : Thread nD τ)).loc main_arg7) (ix2 k j) := by
  blk_ext! [iblk, V, idx9 t]

theorem blk10 (c : Dev nD) (t : Fin cfg0.N) (k : Fin 3072) : iblk m c 10 t (ix2 0 k) = m ((c : Thread nD τ).loc main_arg8) (ix1 k) := by
  blk_ext! [iblk, V, idx10 t]

theorem blk11 (c : Dev nD) (t : Fin cfg0.N) (k : Fin 3072) : iblk m c 11 t (ix2 0 k) = m ((c : Thread nD τ).loc main_arg9) (ix1 k) := by
  blk_ext! [iblk, V, idx11 t]

theorem blk12 (c : Dev nD) (t : Fin cfg0.N) (k : Fin 3072) (j : Fin 768) : iblk m c 12 t (ix2 k j) = m (((c : Thread nD τ)).loc main_arg10) (ix2 k j) := by
  blk_ext! [iblk, V, idx12 t]

theorem blk13 (c : Dev nD) (t : Fin cfg0.N) (k : Fin 768) : iblk m c 13 t (ix2 0 k) = m ((c : Thread nD τ).loc main_arg11) (ix1 k) := by
  blk_ext! [iblk, V, idx13 t]

theorem blk14 (c : Dev nD) (t : Fin cfg0.N) (k : Fin 768) : iblk m c 14 t (ix2 0 k) = m ((c : Thread nD τ).loc main_arg12) (ix1 k) := by
  blk_ext! [iblk, V, idx14 t]

theorem blk15 (c : Dev nD) (t : Fin cfg0.N) (k : Fin 768) : iblk m c 15 t (ix2 0 k) = m ((c : Thread nD τ).loc main_arg15) (ix1 k) := by
  blk_ext! [iblk, V, idx15 t]

theorem blk16 (c : Dev nD) (t : Fin cfg0.N) (k : Fin 768) : iblk m c 16 t (ix2 0 k) = m ((c : Thread nD τ).loc main_arg16) (ix1 k) := by
  blk_ext! [iblk, V, idx16 t]

end Cert.TailRefIdeal.Value

end
-- ==== Proof.RefVec.lean ====
/- What the reference of the tail computes, entry by entry. -/
module

public import proofs.«01_k».proof.Proof.Gen.TailRefIdeal.Skeleton
public import proofs.«01_k».proof.Proof.Rows

@[expose] public section

set_option maxRecDepth 16384

noncomputable section

namespace Cert.TailRefIdeal.Gen

open Idealize.ShloMosaic Idealize.ShloMosaic.TcCoe Idealize.SL.Sem Cert.Rows

/-- A vector of scales from a vector of largest absolute values. -/
theorem scaleOf_vec (M : FVec Ideal S1152 .f32) (r : Fin 1152) :
    select (cmpf .oeq M (broadcast S1152 (Scalar.ofBits (F := Ideal) .f32 0x00000000#32)))
      (broadcast S1152 (Scalar.ofBits (F := Ideal) .f32 0x3F800000#32))
      (divf M (broadcast S1152 (Scalar.ofBits (F := Ideal) .f32 0x42FE0000#32))) (ix1 r) = scaleOf (M (ix1 r)) := by
  pointwise []
  rfl

/-- The scales of 1152 rows of 768 entries. -/
theorem scale_768 (a : FVec Ideal S1152x768 .f32) (r : Fin 1152) :
    select (cmpf .oeq (multiReduction (F := Ideal) .maximumf [1] S1152 (absf a) 0xFF800000#32 reduces_S1152x768_S1152 (.inl rfl) rfl) (broadcast S1152 (Scalar.ofBits (F := Ideal) .f32 0x00000000#32)))
      (broadcast S1152 (Scalar.ofBits (F := Ideal) .f32 0x3F800000#32))
      (divf (multiReduction (F := Ideal) .maximumf [1] S1152 (absf a) 0xFF800000#32 reduces_S1152x768_S1152 (.inl rfl) rfl) (broadcast S1152 (Scalar.ofBits (F := Ideal) .f32 0x42FE0000#32))) (ix1 r) =
      scale fun k => a (ix2 r k) := by
  have hM : ∀ r, multiReduction (F := Ideal) .maximumf [1] S1152 (absf a) 0xFF800000#32 reduces_S1152x768_S1152 (.inl rfl) rfl (ix1 r) =
      amax fun k => a (ix2 r k) := fun r => by
    pointwise []
    rfl
  rw [scale, ← hM]
  exact scaleOf_vec _ r

/-- The codes of 1152 rows of 768 entries. -/
theorem code_768 (a : FVec Ideal S1152x768 .f32) (b : FVec Ideal S1152 .f32) (r : Fin 1152) (j : Fin 768) :
    fptosi 8 (minimumf (broadcast S1152x768 (Scalar.sitofp (F := Ideal) FTy.f32 127#32))
        (maximumf (broadcast S1152x768 (Scalar.sitofp (F := Ideal) FTy.f32 4294967169#32))
          (roundeven (divf a (broadcastTo S1152x768 (shapeCast S1152x1 b shapeCasts_S1152_S1152x1) broadcasts_S1152x1_S1152x768)))))
      (ix2 r j) = code (a (ix2 r j)) (b (ix1 r)) := by
  pointwise []
  rfl

/-- The scales of 1152 rows of 3072 entries. -/
theorem scale_3072 (a : FVec Ideal S1152x3072 .f32) (r : Fin 1152) :
    select (cmpf .oeq (multiReduction (F := Ideal) .maximumf [1] S1152 (absf a) 0xFF800000#32 reduces_S1152x3072_S1152 (.inl rfl) rfl) (broadcast S1152 (Scalar.ofBits (F := Ideal) .f32 0x00000000#32)))
      (broadcast S1152 (Scalar.ofBits (F := Ideal) .f32 0x3F800000#32))
      (divf (multiReduction (F := Ideal) .maximumf [1] S1152 (absf a) 0xFF800000#32 reduces_S1152x3072_S1152 (.inl rfl) rfl) (broadcast S1152 (Scalar.ofBits (F := Ideal) .f32 0x42FE0000#32))) (ix1 r) =
      scale fun k => a (ix2 r k) := by
  have hM : ∀ r, multiReduction (F := Ideal) .maximumf [1] S1152 (absf a) 0xFF800000#32 reduces_S1152x3072_S1152 (.inl rfl) rfl (ix1 r) =
      amax fun k => a (ix2 r k) := fun r => by
    pointwise []
    rfl
  rw [scale, ← hM]
  exact scaleOf_vec _ r

/-- The codes of 1152 rows of 3072 entries. -/
theorem code_3072 (a : FVec Ideal S1152x3072 .f32) (b : FVec Ideal S1152 .f32) (r : Fin 1152) (j : Fin 3072) :
    fptosi 8 (minimumf (broadcast S1152x3072 (Scalar.sitofp (F := Ideal) FTy.f32 127#32))
        (maximumf (broadcast S1152x3072 (Scalar.sitofp (F := Ideal) FTy.f32 4294967169#32))
          (roundeven (divf a (broadcastTo S1152x3072 (shapeCast S1152x1 b shapeCasts_S1152_S1152x1) broadcasts_S1152x1_S1152x3072)))))
      (ix2 r j) = code (a (ix2 r j)) (b (ix1 r)) := by
  pointwise []
  rfl

/-- The output projection and the residual. -/
theorem lin_768 (a : IVec S1152x768 8) (c : FVec Ideal S1152 .f32) (w : Vec Ideal S768x768 .i8) (s b : Vec Ideal S1x768 .f32) (x : FVec Ideal S1152x768 .f32) (r : Fin 1152) (j : Fin 768) :
    addf (addf (mulf (mulf (matmul dot_S1152x768_S768x768_S1152x768_1_0_0_1_n_n none (sitofp (F := Ideal) .bf16 a) (sitofp (F := Ideal) .bf16 (shapeCast S768x768 w shapeCasts_S768x768_S768x768)) (constant S1152x768 .f32 0x00000000#32))
        (broadcastTo S1152x768 (shapeCast S1152x1 c shapeCasts_S1152_S1152x1) broadcasts_S1152x1_S1152x768))
        (broadcastTo S1152x768 (shapeCast S1x768 s shapeCasts_S1x768_S1x768) broadcasts_S1x768_S1152x768))
        (broadcastTo S1152x768 (shapeCast S1x768 b shapeCasts_S1x768_S1x768) broadcasts_S1x768_S1152x768)) x (ix2 r j) =
      lin (fun k => num (a (ix2 r k))) (c (ix1 r)) (fun k j => w (ix2 k j)) (fun j => s (ix2 0 j)) (fun j => b (ix2 0 j)) j + x (ix2 r j) := by
  pointwise []
  rfl

/-- The first layer of the feed-forward network. -/
theorem lin_in (a : IVec S1152x768 8) (c : FVec Ideal S1152 .f32) (w : Vec Ideal S768x3072 .i8) (s b : Vec Ideal S1x3072 .f32) (r : Fin 1152) (j : Fin 3072) :
    (addf (mulf (mulf (matmul dot_S1152x768_S768x3072_S1152x3072_1_0_0_1_n_n none (sitofp (F := Ideal) .bf16 a) (sitofp (F := Ideal) .bf16 w) (constant S1152x3072 .f32 0x00000000#32))
        (broadcastTo S1152x3072 (shapeCast S1152x1 c shapeCasts_S1152_S1152x1) broadcasts_S1152x1_S1152x3072))
        (broadcastTo S1152x3072 (shapeCast S1x3072 s shapeCasts_S1x3072_S1x3072) broadcasts_S1x3072_S1152x3072))
        (broadcastTo S1152x3072 (shapeCast S1x3072 b shapeCasts_S1x3072_S1x3072) broadcasts_S1x3072_S1152x3072)) (ix2 r j) =
      lin (fun k => num (a (ix2 r k))) (c (ix1 r)) (fun k j => w (ix2 k j)) (fun j => s (ix2 0 j)) (fun j => b (ix2 0 j)) j := by
  pointwise []
  rfl

/-- The second layer of the feed-forward network and the residual. -/
theorem lin_out (a : IVec S1152x3072 8) (c : FVec Ideal S1152 .f32) (w : Vec Ideal S3072x768 .i8) (s b : Vec Ideal S1x768 .f32) (x : FVec Ideal S1152x768 .f32) (r : Fin 1152) (j : Fin 768) :
    addf (addf (mulf (mulf (matmul dot_S1152x3072_S3072x768_S1152x768_1_0_0_1_n_n none (sitofp (F := Ideal) .bf16 a) (sitofp (F := Ideal) .bf16 w) (constant S1152x768 .f32 0x00000000#32))
        (broadcastTo S1152x768 (shapeCast S1152x1 c shapeCasts_S1152_S1152x1) broadcasts_S1152x1_S1152x768))
        (broadcastTo S1152x768 (shapeCast S1x768 s shapeCasts_S1x768_S1x768) broadcasts_S1x768_S1152x768))
        (broadcastTo S1152x768 (shapeCast S1x768 b shapeCasts_S1x768_S1x768) broadcasts_S1x768_S1152x768)) x (ix2 r j) =
      lin (fun k => num (a (ix2 r k))) (c (ix1 r)) (fun k j => w (ix2 k j)) (fun j => s (ix2 0 j)) (fun j => b (ix2 0 j)) j + x (ix2 r j) := by
  pointwise []
  rfl

/-- The activation. -/
theorem gelu_at (a : FVec Ideal S1152x3072 .f32) (r : Fin 1152) (j : Fin 3072) :
    mulf (mulf (broadcast S1152x3072 (Scalar.ofBits (F := Ideal) .f32 0x3F000000#32)) a)
      (addf (broadcast S1152x3072 (Scalar.ofBits (F := Ideal) .f32 0x3F800000#32)) (erf (divf a (broadcast S1152x3072 (Scalar.ofBits (F := Ideal) .f32 0x3FB504F3#32))))) (ix2 r j) =
      gelu (a (ix2 r j)) := by
  pointwise []
  rfl

end Cert.TailRefIdeal.Gen

end
-- ==== Proof.RefRows.lean ====
/- What the reference of the tail computes, entry by entry. -/
module

public import proofs.«01_k».proof.Proof.Gen.TailRefIdeal.Skeleton
public import proofs.«01_k».proof.Proof.RefVec

@[expose] public section

set_option maxRecDepth 16384

noncomputable section

namespace Cert.TailRefIdeal.Gen

open Idealize.ShloMosaic Idealize.ShloMosaic.TcCoe Idealize.SL.Sem Cert.Rows

theorem pay9_at (v0 : Vec Ideal S1152x768 .bf16) (v3 v5 : Vec Ideal S1x768 .f32) (r : Fin 1152) (j : Fin 768) :
    k0_pay9 v0 v3 v5 (ix2 r j) = ln (fun k => v0 (ix2 r k)) (fun k => v3 (ix2 0 k)) (fun k => v5 (ix2 0 k)) j := by
  pointwise [k0_pay9]
  rfl

theorem pay11_at (v : Vec Ideal S1152x768 .f32) (r : Fin 1152) : k0_pay11 v (ix1 r) = scale fun k => v (ix2 r k) := by
  have h : ∀ r k, k0_pay10 v (ix2 r k) = v (ix2 r k) := fun r k => by pointwise [k0_pay10]
  unfold k0_pay11
  simp only [← h]
  exact scale_768 _ r

theorem pay13_at (v : Vec Ideal S1152x768 .f32) (r : Fin 1152) (j : Fin 768) :
    k0_pay13 (k0_pay12 v) (ix2 r j) = code (v (ix2 r j)) (scale fun k => v (ix2 r k)) := by
  have h : ∀ r k, k0_pay10 v (ix2 r k) = v (ix2 r k) := fun r k => by pointwise [k0_pay10]
  rw [← pay11_at, ← h]
  unfold k0_pay13 k0_pay12
  exact code_768 _ _ r j

theorem pay14_at (v28 : FVec Ideal S1152x768 .f32) (v38 : FVec Ideal S1152 .f32) (v42 : FVec Ideal S1152x768 .f32) (v50 : Vec Ideal S768x768 .i8) (v52 v54 : Vec Ideal S1x768 .f32) (r : Fin 1152) (j : Fin 768) :
    k0_pay14 v28 v38 v42 v50 v52 v54 (ix2 r j) = lin (fun k => num (k0_pay13 v42 (ix2 r k))) (v38 (ix1 r)) (fun k j => v50 (ix2 k j))
      (fun j => v52 (ix2 0 j)) (fun j => v54 (ix2 0 j)) j + v28 (ix2 r j) := by
  unfold k0_pay14
  exact lin_768 _ _ _ _ _ _ r j

end Cert.TailRefIdeal.Gen

end
-- ==== Proof.RefRowsB.lean ====
/- What the reference of the tail computes, entry by entry. -/
module

public import proofs.«01_k».proof.Proof.Gen.TailRefIdeal.Skeleton
public import proofs.«01_k».proof.Proof.RefVec

@[expose] public section

set_option maxRecDepth 16384

noncomputable section

namespace Cert.TailRefIdeal.Gen

open Idealize.ShloMosaic Idealize.ShloMosaic.TcCoe Idealize.SL.Sem Cert.Rows

theorem pay17_at (v28 : FVec Ideal S1152x768 .f32) (v38 : FVec Ideal S1152 .f32) (v42 : FVec Ideal S1152x768 .f32) (v50 : Vec Ideal S768x768 .i8) (v52 v54 : Vec Ideal S1x768 .f32) (r : Fin 1152) : k0_pay17 v28 v38 v42 v50 v52 v54 (ix2 r 0) = mean fun k => k0_pay14 v28 v38 v42 v50 v52 v54 (ix2 r k) := by
  unfold k0_pay17
  generalize k0_pay14 v28 v38 v42 v50 v52 v54 = a
  pointwise []
  rfl

theorem pay18_at (v28 : FVec Ideal S1152x768 .f32) (v38 : FVec Ideal S1152 .f32) (v42 : FVec Ideal S1152x768 .f32) (v50 : Vec Ideal S768x768 .i8) (v52 v54 : Vec Ideal S1x768 .f32) (r : Fin 1152) : k0_pay18 v28 v38 v42 v50 v52 v54 (ix2 r 0) = var fun k => k0_pay14 v28 v38 v42 v50 v52 v54 (ix2 r k) := by
  have h := pay17_at v28 v38 v42 v50 v52 v54
  unfold k0_pay18
  generalize k0_pay17 v28 v38 v42 v50 v52 v54 = b at h ⊢
  generalize k0_pay14 v28 v38 v42 v50 v52 v54 = a at h ⊢
  pointwise []
  rw [h]
  rfl

theorem pay21_at (v28 : FVec Ideal S1152x768 .f32) (v38 : FVec Ideal S1152 .f32) (v42 : FVec Ideal S1152x768 .f32) (v50 : Vec Ideal S768x768 .i8) (v52 v54 : Vec Ideal S1x768 .f32) (v67 v69 : Vec Ideal S1x768 .f32) (r : Fin 1152) (j : Fin 768) :
    k0_pay21 (k0_pay15 v67) (k0_pay16 v69) (k0_pay18 v28 v38 v42 v50 v52 v54) (k0_pay19 v28 v38 v42 v50 v52 v54) k0_pay20 (ix2 r j) =
      ln (fun k => k0_pay14 v28 v38 v42 v50 v52 v54 (ix2 r k)) (fun k => v67 (ix2 0 k)) (fun k => v69 (ix2 0 k)) j := by
  have h := pay17_at v28 v38 v42 v50 v52 v54
  have h' := pay18_at v28 v38 v42 v50 v52 v54
  unfold k0_pay21 k0_pay15 k0_pay16 k0_pay19 k0_pay20
  generalize k0_pay18 v28 v38 v42 v50 v52 v54 = c at h' ⊢
  generalize k0_pay17 v28 v38 v42 v50 v52 v54 = b at h ⊢
  generalize k0_pay14 v28 v38 v42 v50 v52 v54 = a at h h' ⊢
  pointwise []
  rw [h, h']
  rfl

end Cert.TailRefIdeal.Gen

end
-- ==== Proof.RefRowsC.lean ====
/- What the reference of the tail computes, entry by entry. -/
module

public import proofs.«01_k».proof.Proof.Gen.TailRefIdeal.Skeleton
public import proofs.«01_k».proof.Proof.RefVec

@[expose] public section

set_option maxRecDepth 16384

noncomputable section

namespace Cert.TailRefIdeal.Gen

open Idealize.ShloMosaic Idealize.ShloMosaic.TcCoe Idealize.SL.Sem Cert.Rows

theorem pay22_at (v68 v70 : FVec Ideal S1x768 .f32) (v81 : FVec Ideal S1152x1 .f32) (v83 : FVec Ideal S1152x768 .f32) (v84 : FVec Ideal S1152x1 .f32) (r : Fin 1152) : k0_pay22 v68 v70 v81 v83 v84 (ix1 r) = scale fun k => k0_pay21 v68 v70 v81 v83 v84 (ix2 r k) := by
  unfold k0_pay22
  exact scale_768 _ r

theorem pay23_at (v68 v70 : FVec Ideal S1x768 .f32) (v81 : FVec Ideal S1152x1 .f32) (v83 : FVec Ideal S1152x768 .f32) (v84 : FVec Ideal S1152x1 .f32) (r : Fin 1152) (j : Fin 768) :
    k0_pay23 v68 v70 v81 v83 v84 (ix2 r j) = code (k0_pay21 v68 v70 v81 v83 v84 (ix2 r j)) (scale fun k => k0_pay21 v68 v70 v81 v83 v84 (ix2 r k)) := by
  rw [← pay22_at]
  unfold k0_pay23
  exact code_768 _ _ r j

theorem pay24_at (v68 v70 : FVec Ideal S1x768 .f32) (v81 : FVec Ideal S1152x1 .f32) (v83 : FVec Ideal S1152x768 .f32) (v84 : FVec Ideal S1152x1 .f32) (w : Vec Ideal S768x3072 .i8) (s b : Vec Ideal S1x3072 .f32) (r : Fin 1152) (l : Fin 3072) :
    k0_pay24 v68 v70 v81 v83 v84 w s b (ix2 r l) = lin (fun k => num (k0_pay23 v68 v70 v81 v83 v84 (ix2 r k))) (k0_pay22 v68 v70 v81 v83 v84 (ix1 r)) (fun k l => w (ix2 k l))
      (fun l => s (ix2 0 l)) (fun l => b (ix2 0 l)) l := by
  unfold k0_pay24
  exact lin_in _ _ _ _ _ r l

theorem pay27_at (v68 v70 : FVec Ideal S1x768 .f32) (v81 : FVec Ideal S1152x1 .f32) (v83 : FVec Ideal S1152x768 .f32) (v84 : FVec Ideal S1152x1 .f32) (w : Vec Ideal S768x3072 .i8) (s b : Vec Ideal S1x3072 .f32) (r : Fin 1152) (l : Fin 3072) :
    k0_pay27 (k0_pay24 v68 v70 v81 v83 v84 w s b) (k0_pay25 v68 v70 v81 v83 v84 w s b) k0_pay26 (ix2 r l) = gelu (k0_pay24 v68 v70 v81 v83 v84 w s b (ix2 r l)) := by
  unfold k0_pay27 k0_pay25 k0_pay26
  exact gelu_at _ r l

end Cert.TailRefIdeal.Gen

end
-- ==== Proof.RefRowsD.lean ====
/- What the reference of the tail computes, entry by entry. -/
module

public import proofs.«01_k».proof.Proof.Gen.TailRefIdeal.Skeleton
public import proofs.«01_k».proof.Proof.RefVec

@[expose] public section

set_option maxRecDepth 16384

noncomputable section

namespace Cert.TailRefIdeal.Gen

open Idealize.ShloMosaic Idealize.ShloMosaic.TcCoe Idealize.SL.Sem Cert.Rows

theorem pay28_at (v126 v128 v129 : FVec Ideal S1152x3072 .f32) (r : Fin 1152) : k0_pay28 v126 v128 v129 (ix1 r) = scale fun k => k0_pay27 v126 v128 v129 (ix2 r k) := by
  unfold k0_pay28
  exact scale_3072 _ r

theorem pay29_at (v126 v128 v129 : FVec Ideal S1152x3072 .f32) (r : Fin 1152) (j : Fin 3072) :
    k0_pay29 v126 v128 v129 (ix2 r j) = code (k0_pay27 v126 v128 v129 (ix2 r j)) (scale fun k => k0_pay27 v126 v128 v129 (ix2 r k)) := by
  rw [← pay28_at]
  unfold k0_pay29
  exact code_3072 _ _ r j

theorem pay30_at (v92 : FVec Ideal S1152x768 .f32) (v126 v128 v129 : FVec Ideal S1152x3072 .f32) (w : Vec Ideal S3072x768 .i8) (s b : Vec Ideal S1x768 .f32) (r : Fin 1152) (j : Fin 768) :
    k0_pay30 v92 v126 v128 v129 w s b (ix2 r j) = lin (fun k => num (k0_pay29 v126 v128 v129 (ix2 r k))) (k0_pay28 v126 v128 v129 (ix1 r)) (fun k j => w (ix2 k j))
      (fun j => s (ix2 0 j)) (fun j => b (ix2 0 j)) j + v92 (ix2 r j) := by
  unfold k0_pay30
  exact lin_out _ _ _ _ _ _ r j

end Cert.TailRefIdeal.Gen

end
-- ==== Proof.RefRowsE.lean ====
/- What the reference of the tail computes, entry by entry. -/
module

public import proofs.«01_k».proof.Proof.Gen.TailRefIdeal.Skeleton
public import proofs.«01_k».proof.Proof.RefVec

@[expose] public section

set_option maxRecDepth 16384

noncomputable section

namespace Cert.TailRefIdeal.Gen

open Idealize.ShloMosaic Idealize.ShloMosaic.TcCoe Idealize.SL.Sem Cert.Rows

theorem pay32_at (v169 : FVec Ideal S1152x768 .f32) (v170 v172 : Vec Ideal S1x768 .f32) (r : Fin 1152) (j : Fin 768) :
    k0_pay32 v169 (k0_pay31 v170) v172 (ix2 r j) = ln (fun k => v169 (ix2 r k)) (fun k => v170 (ix2 0 k)) (fun k => v172 (ix2 0 k)) j := by
  pointwise [k0_pay32, k0_pay31]
  rfl

theorem pay33_at (v169 : FVec Ideal S1152x768 .f32) (v171 : FVec Ideal S1x768 .f32) (v172 : Vec Ideal S1x768 .f32) (r : Fin 1152) :
    k0_pay33 v169 v171 v172 (ix1 r) = scale fun k => k0_pay32 v169 v171 v172 (ix2 r k) := by
  unfold k0_pay33
  exact scale_768 _ r

theorem pay34_at (v169 : FVec Ideal S1152x768 .f32) (v171 : FVec Ideal S1x768 .f32) (v172 : Vec Ideal S1x768 .f32) (r : Fin 1152) (j : Fin 768) :
    k0_pay34 v169 v171 v172 (ix2 r j) = code (k0_pay32 v169 v171 v172 (ix2 r j)) (scale fun k => k0_pay32 v169 v171 v172 (ix2 r k)) := by
  rw [← pay33_at]
  unfold k0_pay34
  exact code_768 _ _ r j

end Cert.TailRefIdeal.Gen

end
-- ==== Proof.RefBlock.lean ====
/- The outputs of the reference of the tail, entry by entry. -/
module

public import proofs.«01_k».proof.Proof.Gen.TailRefIdeal.Frame
public import Idealize.ShloMosaic.Lib.Pipeline.Value
public import proofs.«01_k».proof.Proof.Spec
public import proofs.«01_k».proof.Proof.RefRows
public import proofs.«01_k».proof.Proof.RefRowsB
public import proofs.«01_k».proof.Proof.RefRowsC
public import proofs.«01_k».proof.Proof.RefRowsD
public import proofs.«01_k».proof.Proof.RefRowsE
public import proofs.«01_k».proof.Proof.RefShape

@[expose] public section

set_option maxRecDepth 16384

noncomputable section

namespace Cert.TailRefIdeal.Gen

open Idealize.ShloMosaic Idealize.ShloMosaic.TcCoe Idealize.SL.Sem Cert.Rows

/-- The parameters, from the blocks of the arrays. -/
def par (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32) : Params where
  g0 := fun k => x2 (ix2 0 k)
  b0 := fun k => x3 (ix2 0 k)
  wo := fun k j => x4 (ix2 k j)
  so := fun k => x5 (ix2 0 k)
  bo := fun k => x6 (ix2 0 k)
  g1 := fun k => x7 (ix2 0 k)
  b1 := fun k => x8 (ix2 0 k)
  w1 := fun k j => x9 (ix2 k j)
  s1 := fun k => x10 (ix2 0 k)
  bb1 := fun k => x11 (ix2 0 k)
  w2 := fun k j => x12 (ix2 k j)
  s2 := fun k => x13 (ix2 0 k)
  bb2 := fun k => x14 (ix2 0 k)
  g2 := fun k => x15 (ix2 0 k)
  b2 := fun k => x16 (ix2 0 k)

theorem ld_r0 {e : EltTy} (x : Vec Ideal S1152x768 e) : View.ld x r0_0 = x :=
  View.ld_unit_zero (by funext a; fin_cases a <;> rfl) _ x

theorem ld_r1 {e : EltTy} (x : Vec Ideal S1x768 e) : View.ld x r0_1 = x :=
  View.ld_unit_zero (by funext a; fin_cases a <;> rfl) _ x

theorem ld_r2 {e : EltTy} (x : Vec Ideal S768x768 e) : View.ld x r0_2 = x :=
  View.ld_unit_zero (by funext a; fin_cases a <;> rfl) _ x

theorem ld_r3 {e : EltTy} (x : Vec Ideal S768x3072 e) : View.ld x r0_3 = x :=
  View.ld_unit_zero (by funext a; fin_cases a <;> rfl) _ x

theorem ld_r4 {e : EltTy} (x : Vec Ideal S1x3072 e) : View.ld x r0_4 = x :=
  View.ld_unit_zero (by funext a; fin_cases a <;> rfl) _ x

theorem ld_r5 {e : EltTy} (x : Vec Ideal S3072x768 e) : View.ld x r0_5 = x :=
  View.ld_unit_zero (by funext a; fin_cases a <;> rfl) _ x

variable (x0 : Vec Ideal S1152x768 .f32) (x1 : Vec Ideal S1152x768 .bf16) (x2 : Vec Ideal S1x768 .f32) (x3 : Vec Ideal S1x768 .f32) (x4 : Vec Ideal S768x768 .i8) (x5 : Vec Ideal S1x768 .f32) (x6 : Vec Ideal S1x768 .f32) (x7 : Vec Ideal S1x768 .f32) (x8 : Vec Ideal S1x768 .f32) (x9 : Vec Ideal S768x3072 .i8) (x10 : Vec Ideal S1x3072 .f32) (x11 : Vec Ideal S1x3072 .f32) (x12 : Vec Ideal S3072x768 .i8) (x13 : Vec Ideal S1x768 .f32) (x14 : Vec Ideal S1x768 .f32) (x15 : Vec Ideal S1x768 .f32) (x16 : Vec Ideal S1x768 .f32)

/-- The normalised rows after the output projection. -/
theorem h1_at (r : Fin 1152) (j : Fin 768) : k0_pay21 (k0_pay39 x0 x1 x2 x3 x4 x5 x6 x7 x8 x9 x10 x11 x12 x13 x14 x15 x16) (k0_pay40 x0 x1 x2 x3 x4 x5 x6 x7 x8 x9 x10 x11 x12 x13 x14 x15 x16) (k0_pay41 x0 x1 x2 x3 x4 x5 x6 x7 x8 x9 x10 x11 x12 x13 x14 x15 x16) (k0_pay42 x0 x1 x2 x3 x4 x5 x6 x7 x8 x9 x10 x11 x12 x13 x14 x15 x16) (k0_pay43 x0 x1 x2 x3 x4 x5 x6 x7 x8 x9 x10 x11 x12 x13 x14 x15 x16) (ix2 r j) = (norm1 (par x2 x3 x4 x5 x6 x7 x8 x9 x10 x11 x12 x13 x14 x15 x16) (fun k => x0 (ix2 r k)) (fun k => x1 (ix2 r k))) j := by
  unfold k0_pay39 k0_pay40 k0_pay41 k0_pay42 k0_pay43 k0_pay36 k0_pay37 k0_pay38
  simp only [ld_r0, ld_r1, ld_r2]
  rw [pay21_at]
  simp only [pay14_at, pay9_at, pay11_at, pay13_at, num_code]
  rfl

/-- Their scales. -/
theorem h1s_at (r : Fin 1152) : k0_pay22 (k0_pay39 x0 x1 x2 x3 x4 x5 x6 x7 x8 x9 x10 x11 x12 x13 x14 x15 x16) (k0_pay40 x0 x1 x2 x3 x4 x5 x6 x7 x8 x9 x10 x11 x12 x13 x14 x15 x16) (k0_pay41 x0 x1 x2 x3 x4 x5 x6 x7 x8 x9 x10 x11 x12 x13 x14 x15 x16) (k0_pay42 x0 x1 x2 x3 x4 x5 x6 x7 x8 x9 x10 x11 x12 x13 x14 x15 x16) (k0_pay43 x0 x1 x2 x3 x4 x5 x6 x7 x8 x9 x10 x11 x12 x13 x14 x15 x16) (ix1 r) = scale (norm1 (par x2 x3 x4 x5 x6 x7 x8 x9 x10 x11 x12 x13 x14 x15 x16) (fun k => x0 (ix2 r k)) (fun k => x1 (ix2 r k))) := by
  rw [pay22_at]
  simp only [h1_at]

/-- Their codes. -/
theorem h1c_at (r : Fin 1152) (j : Fin 768) : k0_pay23 (k0_pay39 x0 x1 x2 x3 x4 x5 x6 x7 x8 x9 x10 x11 x12 x13 x14 x15 x16) (k0_pay40 x0 x1 x2 x3 x4 x5 x6 x7 x8 x9 x10 x11 x12 x13 x14 x15 x16) (k0_pay41 x0 x1 x2 x3 x4 x5 x6 x7 x8 x9 x10 x11 x12 x13 x14 x15 x16) (k0_pay42 x0 x1 x2 x3 x4 x5 x6 x7 x8 x9 x10 x11 x12 x13 x14 x15 x16) (k0_pay43 x0 x1 x2 x3 x4 x5 x6 x7 x8 x9 x10 x11 x12 x13 x14 x15 x16) (ix2 r j) = code ((norm1 (par x2 x3 x4 x5 x6 x7 x8 x9 x10 x11 x12 x13 x14 x15 x16) (fun k => x0 (ix2 r k)) (fun k => x1 (ix2 r k))) j) (scale (norm1 (par x2 x3 x4 x5 x6 x7 x8 x9 x10 x11 x12 x13 x14 x15 x16) (fun k => x0 (ix2 r k)) (fun k => x1 (ix2 r k)))) := by
  rw [pay23_at]
  simp only [h1_at]

/-- The activations. -/
theorem g_at (r : Fin 1152) (l : Fin 3072) : k0_pay27 (k0_pay44 x0 x1 x2 x3 x4 x5 x6 x7 x8 x9 x10 x11 x12 x13 x14 x15 x16) (k0_pay45 x0 x1 x2 x3 x4 x5 x6 x7 x8 x9 x10 x11 x12 x13 x14 x15 x16) (k0_pay46 x0 x1 x2 x3 x4 x5 x6 x7 x8 x9 x10 x11 x12 x13 x14 x15 x16) (ix2 r l) = (act (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k)))) l := by
  unfold k0_pay44 k0_pay45 k0_pay46
  simp only [ld_r3, ld_r4]
  rw [pay27_at, pay24_at]
  simp only [h1c_at, h1s_at, num_code]
  rfl

/-- Their scales. -/
theorem gs_at (r : Fin 1152) : k0_pay28 (k0_pay44 x0 x1 x2 x3 x4 x5 x6 x7 x8 x9 x10 x11 x12 x13 x14 x15 x16) (k0_pay45 x0 x1 x2 x3 x4 x5 x6 x7 x8 x9 x10 x11 x12 x13 x14 x15 x16) (k0_pay46 x0 x1 x2 x3 x4 x5 x6 x7 x8 x9 x10 x11 x12 x13 x14 x15 x16) (ix1 r) = scale (act (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k)))) := by
  rw [pay28_at]
  simp only [g_at]

/-- Their codes. -/
theorem gc_at (r : Fin 1152) (l : Fin 3072) : k0_pay29 (k0_pay44 x0 x1 x2 x3 x4 x5 x6 x7 x8 x9 x10 x11 x12 x13 x14 x15 x16) (k0_pay45 x0 x1 x2 x3 x4 x5 x6 x7 x8 x9 x10 x11 x12 x13 x14 x15 x16) (k0_pay46 x0 x1 x2 x3 x4 x5 x6 x7 x8 x9 x10 x11 x12 x13 x14 x15 x16) (ix2 r l) = code ((act (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k)))) l) (scale (act (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k))))) := by
  rw [pay29_at]
  simp only [g_at]

/-- The second product with the residual. -/
theorem z_at (r : Fin 1152) (j : Fin 768) : (k0_pay47 x0 x1 x2 x3 x4 x5 x6 x7 x8 x9 x10 x11 x12 x13 x14 x15 x16) (ix2 r j) =
    lin (fun l => q ((act (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k)))) l) (scale (act (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k)))))) (scale (act (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k))))) (par x2 x3 x4 x5 x6 x7 x8 x9 x10 x11 x12 x13 x14 x15 x16).w2 (par x2 x3 x4 x5 x6 x7 x8 x9 x10 x11 x12 x13 x14 x15 x16).s2 (par x2 x3 x4 x5 x6 x7 x8 x9 x10 x11 x12 x13 x14 x15 x16).bb2 j + (norm1 (par x2 x3 x4 x5 x6 x7 x8 x9 x10 x11 x12 x13 x14 x15 x16) (fun k => x0 (ix2 r k)) (fun k => x1 (ix2 r k))) j := by
  unfold k0_pay47
  simp only [ld_r1, ld_r5]
  rw [pay30_at]
  simp only [gc_at, gs_at, h1_at, num_code]
  rfl

/-- The layer's output rows. -/
theorem o_at (r : Fin 1152) (j : Fin 768) : k0_pay32 (k0_pay47 x0 x1 x2 x3 x4 x5 x6 x7 x8 x9 x10 x11 x12 x13 x14 x15 x16) (k0_pay48 x0 x1 x2 x3 x4 x5 x6 x7 x8 x9 x10 x11 x12 x13 x14 x15 x16) (View.ld x16 r0_1) (ix2 r j) = (norm2 (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k))) (act (par x2 x3 x4 x5 x6 x7 x8 x9 x10 x11 x12 x13 x14 x15 x16) (norm1 (par x2 x3 x4 x5 x6 x7 x8 x9 x10 x11 x12 x13 x14 x15 x16) (fun k => x0 (ix2 r k)) (fun k => x1 (ix2 r k))))) j := by
  unfold k0_pay48
  simp only [ld_r1]
  rw [pay32_at]
  simp only [z_at]
  rfl

/-- The codes of the context. -/
theorem out17_at (b : Fin 3) (s : Fin 384) (j : Fin 768) : out0_17 x0 x1 x2 x3 x4 x5 x6 x7 x8 x9 x10 x11 x12 x13 x14 x15 x16 (ix3 b j s) = code (x0 (ix2 (rowOf b s) j)) (scale (fun k => x0 (ix2 (rowOf b s) k))) := by
  unfold out0_17
  rw [View.canon_unit_zero (by funext a; fin_cases a <;> rfl), pay35_at]
  unfold k0_pay38
  rw [ld_r0, pay13_at]

/-- The scales of the context. -/
theorem out18_at (b : Fin 3) (s : Fin 384) : out0_18 x0 x1 x2 x3 x4 x5 x6 x7 x8 x9 x10 x11 x12 x13 x14 x15 x16 (ix3 b 0 s) = scale (fun k => x0 (ix2 (rowOf b s) k)) := by
  unfold out0_18
  rw [View.canon_unit_zero (by funext a; fin_cases a <;> rfl), pay1_at]
  unfold k0_pay37
  rw [ld_r0, pay11_at]

/-- The codes of the normalised rows. -/
theorem out19_at (b : Fin 3) (s : Fin 384) (j : Fin 768) : out0_19 x0 x1 x2 x3 x4 x5 x6 x7 x8 x9 x10 x11 x12 x13 x14 x15 x16 (ix3 b s j) = code ((norm1 (par x2 x3 x4 x5 x6 x7 x8 x9 x10 x11 x12 x13 x14 x15 x16) (fun k => x0 (ix2 (rowOf b s) k)) (fun k => x1 (ix2 (rowOf b s) k))) j) (scale (norm1 (par x2 x3 x4 x5 x6 x7 x8 x9 x10 x11 x12 x13 x14 x15 x16) (fun k => x0 (ix2 (rowOf b s) k)) (fun k => x1 (ix2 (rowOf b s) k)))) := by
  unfold out0_19
  rw [View.canon_unit_zero (by funext a; fin_cases a <;> rfl), pay2_at]
  rw [h1c_at]

/-- The scales of the normalised rows. -/
theorem out20_at (b : Fin 3) (s : Fin 384) : out0_20 x0 x1 x2 x3 x4 x5 x6 x7 x8 x9 x10 x11 x12 x13 x14 x15 x16 (ix3 b 0 s) = scale (norm1 (par x2 x3 x4 x5 x6 x7 x8 x9 x10 x11 x12 x13 x14 x15 x16) (fun k => x0 (ix2 (rowOf b s) k)) (fun k => x1 (ix2 (rowOf b s) k))) := by
  unfold out0_20
  rw [View.canon_unit_zero (by funext a; fin_cases a <;> rfl), pay3_at]
  rw [h1s_at]

/-- The codes of the activations. -/
theorem out21_at (b : Fin 3) (s : Fin 384) (l : Fin 3072) : out0_21 x0 x1 x2 x3 x4 x5 x6 x7 x8 x9 x10 x11 x12 x13 x14 x15 x16 (ix3 b s l) = code ((act (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k)))) l) (scale (act (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k))))) := by
  unfold out0_21
  rw [View.canon_unit_zero (by funext a; fin_cases a <;> rfl), pay4_at]
  rw [gc_at]

/-- The scales of the activations. -/
theorem out22_at (b : Fin 3) (s : Fin 384) : out0_22 x0 x1 x2 x3 x4 x5 x6 x7 x8 x9 x10 x11 x12 x13 x14 x15 x16 (ix3 b 0 s) = scale (act (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k)))) := by
  unfold out0_22
  rw [View.canon_unit_zero (by funext a; fin_cases a <;> rfl), pay5_at]
  rw [gs_at]

/-- The layer's output. -/
theorem out23_at (b : Fin 3) (s : Fin 384) (j : Fin 768) : out0_23 x0 x1 x2 x3 x4 x5 x6 x7 x8 x9 x10 x11 x12 x13 x14 x15 x16 (ix3 b s j) = (norm2 (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k))) (act (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k))))) j := by
  unfold out0_23
  rw [View.canon_unit_zero (by funext a; fin_cases a <;> rfl), pay6_at]
  rw [o_at]

/-- The output's codes. -/
theorem out24_at (b : Fin 3) (s : Fin 384) (j : Fin 768) : out0_24 x0 x1 x2 x3 x4 x5 x6 x7 x8 x9 x10 x11 x12 x13 x14 x15 x16 (ix3 b s j) = code ((norm2 (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k))) (act (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k))))) j) (scale (norm2 (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k))) (act (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k)))))) := by
  unfold out0_24
  rw [View.canon_unit_zero (by funext a; fin_cases a <;> rfl), pay7_at]
  rw [pay34_at]
  simp only [o_at]

/-- The output's scales. -/
theorem out25_at (b : Fin 3) (s : Fin 384) : out0_25 x0 x1 x2 x3 x4 x5 x6 x7 x8 x9 x10 x11 x12 x13 x14 x15 x16 (ix3 b 0 s) = scale (norm2 (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k))) (act (par x2 x3 x4 x5 x6 x7 x8 x9 x10 x11 x12 x13 x14 x15 x16) (norm1 (par x2 x3 x4 x5 x6 x7 x8 x9 x10 x11 x12 x13 x14 x15 x16) (fun k => x0 (ix2 (rowOf b s) k)) (fun k => x1 (ix2 (rowOf b s) k))))) := by
  unfold out0_25
  rw [View.canon_unit_zero (by funext a; fin_cases a <;> rfl), pay8_at]
  rw [pay33_at]
  simp only [o_at]

end Cert.TailRefIdeal.Gen

end
-- ==== Proof.RefArrays.lean ====
/- The reference's output arrays: what its one grid point writes back. -/
module

public import proofs.«01_k».proof.Proof.Gen.TailRefIdeal.Frame
public import Idealize.ShloMosaic.Lib.Pipeline.Value

@[expose] public section

noncomputable section

namespace Cert.TailRefIdeal.Value

open Cert.TailRefIdeal Cert.TailRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 17).cut (grid0.coords t) ((dats m 0 c).after 17 t) = _
  rw [after0_17]

/-- The index map sends distinct grid points to distinct block indices (decided over the 1 point). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S3x768x384.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 18).cut (grid0.coords t) ((dats m 0 c).after 18 t) = _
  rw [after0_18]

/-- The index map sends distinct grid points to distinct block indices (decided over the 1 point). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S3x1x384.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 19).cut (grid0.coords t) ((dats m 0 c).after 19 t) = _
  rw [after0_19]

/-- The index map sends distinct grid points to distinct block indices (decided over the 1 point). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S3x384x768.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 20).cut (grid0.coords t) ((dats m 0 c).after 20 t) = _
  rw [after0_20]

/-- The index map sends distinct grid points to distinct block indices (decided over the 1 point). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S3x1x384.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 21).cut (grid0.coords t) ((dats m 0 c).after 21 t) = _
  rw [after0_21]

/-- The index map sends distinct grid points to distinct block indices (decided over the 1 point). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S3x384x3072.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 22).cut (grid0.coords t) ((dats m 0 c).after 22 t) = _
  rw [after0_22]

/-- The index map sends distinct grid points to distinct block indices (decided over the 1 point). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S3x1x384.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 23).cut (grid0.coords t) ((dats m 0 c).after 23 t) = _
  rw [after0_23]

/-- The index map sends distinct grid points to distinct block indices (decided over the 1 point). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S3x384x768.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 24).cut (grid0.coords t) ((dats m 0 c).after 24 t) = _
  rw [after0_24]

/-- The index map sends distinct grid points to distinct block indices (decided over the 1 point). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S3x384x768.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the body's result for that window (`Gen.out0_25`: its stores
    as pieces over the input windows' blocks), read through the window's block. -/
theorem flushed25 (c : Dev nD) (t : Fin cfg0.N) :
    (dats m 0 c).flushed 25 t = (cfg0.win 25).cut (grid0.coords t) (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 25).cut (grid0.coords t) ((dats m 0 c).after 25 t) = _
  rw [after0_25]

/-- The index map sends distinct grid points to distinct block indices (decided over the 1 point). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S3x1x384.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v16_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v16_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v16_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v16_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v16_4) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v16_5) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v16_6) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v16_7) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v16_8) = (dats m 0 c).arrAt 25 cfg0.N :=
  (h c).1 25

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 9 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 9).trans (((dats m 0 c).arrAt_in 9 rfl _).trans ((A_eq m c 9).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 12 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 12).trans (((dats m 0 c).arrAt_in 12 rfl _).trans ((A_eq m c 12).trans (V_main_arg10 m c)))

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v16_0) = (dats m 0 c).arrAt 17 cfg0.N
      ∧ r.2.mem ((c : Thread nD τ).loc main_v16_1) = (dats m 0 c).arrAt 18 cfg0.N
      ∧ r.2.mem ((c : Thread nD τ).loc main_v16_2) = (dats m 0 c).arrAt 19 cfg0.N
      ∧ r.2.mem ((c : Thread nD τ).loc main_v16_3) = (dats m 0 c).arrAt 20 cfg0.N
      ∧ r.2.mem ((c : Thread nD τ).loc main_v16_4) = (dats m 0 c).arrAt 21 cfg0.N
      ∧ r.2.mem ((c : Thread nD τ).loc main_v16_5) = (dats m 0 c).arrAt 22 cfg0.N
      ∧ r.2.mem ((c : Thread nD τ).loc main_v16_6) = (dats m 0 c).arrAt 23 cfg0.N
      ∧ r.2.mem ((c : Thread nD τ).loc main_v16_7) = (dats m 0 c).arrAt 24 cfg0.N
      ∧ r.2.mem ((c : Thread nD τ).loc main_v16_8) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post17 m r h c,
      post18 m r h c,
      post19 m r h c,
      post20 m r h c,
      post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.TailRefIdeal.Value

end
-- ==== Proof.RefRead.lean ====
/- The rows of the reference, of the argument arrays. -/
module

public import proofs.«01_k».proof.Proof.RefArgs
public import proofs.«01_k».proof.Proof.RefBlock
public import proofs.«01_k».proof.Proof.RefArrays
public import proofs.«01_k».proof.Proof.Results

@[expose] public section

set_option maxRecDepth 16384

noncomputable section

namespace Cert.TailRefIdeal.Value

open Idealize.ShloMosaic Idealize.ShloMosaic.TcCoe Idealize.SL.Sem
open Cert.TailRefIdeal Cert.TailRefIdeal.Gen Cert.Rows

variable (m : (ℓ : Loc nD τ sig) → Buf (Elt Ideal) ℓ)

theorem par_eq (c : Dev nD) (t : Fin cfg0.N) : par (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = argPar (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  simp only [par, argPar, blk2, blk3, blk4, blk5, blk6, blk7, blk8, blk9, blk10, blk11, blk12, blk13, blk14, blk15, blk16]

theorem ctx_eq (c : Dev nD) (t : Fin cfg0.N) (b : Fin 3) (s : Fin 384) : (fun k => iblk m c 0 t (ix2 (rowOf b s) k)) = argC (m ((c : Thread nD τ).loc main_arg0)) b s := by
  funext k
  exact blk0 m c t b s k

theorem x_eq (c : Dev nD) (t : Fin cfg0.N) (b : Fin 3) (s : Fin 384) : (fun k => iblk m c 1 t (ix2 (rowOf b s) k)) = argX (m ((c : Thread nD τ).loc main_arg1)) b s := by
  funext k
  exact blk1 m c t b s k

theorem idx17 : ∀ t : Fin cfg0.N, win0_17.index t = ![0, 0, 0] :=
  (by decide +kernel : ∀ t : Fin grid0.N, _)

theorem idx18 : ∀ t : Fin cfg0.N, win0_18.index t = ![0, 0, 0] :=
  (by decide +kernel : ∀ t : Fin grid0.N, _)

theorem idx19 : ∀ t : Fin cfg0.N, win0_19.index t = ![0, 0, 0] :=
  (by decide +kernel : ∀ t : Fin grid0.N, _)

theorem idx20 : ∀ t : Fin cfg0.N, win0_20.index t = ![0, 0, 0] :=
  (by decide +kernel : ∀ t : Fin grid0.N, _)

theorem idx21 : ∀ t : Fin cfg0.N, win0_21.index t = ![0, 0, 0] :=
  (by decide +kernel : ∀ t : Fin grid0.N, _)

theorem idx22 : ∀ t : Fin cfg0.N, win0_22.index t = ![0, 0, 0] :=
  (by decide +kernel : ∀ t : Fin grid0.N, _)

theorem idx23 : ∀ t : Fin cfg0.N, win0_23.index t = ![0, 0, 0] :=
  (by decide +kernel : ∀ t : Fin grid0.N, _)

theorem idx24 : ∀ t : Fin cfg0.N, win0_24.index t = ![0, 0, 0] :=
  (by decide +kernel : ∀ t : Fin grid0.N, _)

theorem idx25 : ∀ t : Fin cfg0.N, win0_25.index t = ![0, 0, 0] :=
  (by decide +kernel : ∀ t : Fin grid0.N, _)

end Cert.TailRefIdeal.Value

end
-- ==== Proof.RefFin.lean ====
/- The nine outputs of the reference, at every index. -/
module

public import proofs.«01_k».proof.Proof.RefRead

@[expose] public section

set_option maxRecDepth 16384

noncomputable section

namespace Cert.TailRefIdeal.Value

open Idealize.ShloMosaic Idealize.ShloMosaic.TcCoe Idealize.SL.Sem
open Cert.TailRefIdeal Cert.TailRefIdeal.Gen Cert.Rows

variable (m : (ℓ : Loc nD τ sig) → Buf (Elt Ideal) ℓ)

theorem fin17 (c : Dev nD) : (dats m 0 c).arrAt 17 cfg0.N = res17 (m ((c : Thread nD τ).loc main_arg0)) := by
  refine (dats m 0 c).arrAt_eq_of_covers 17 _ (by decide +kernel) fun t hf y => ?_
  obtain ⟨b, u, v, rfl⟩ : ∃ (b : Fin 3) (u : Fin 768) (v : Fin 384), y = ix3 b u v := ⟨y 0, y 1, y 2, by funext a; fin_cases a <;> rfl⟩
  have e : (win0_17.blk t).view.emb (ix3 b u v) = ix3 b u v := by
    blk_ext [idx17 t]
  refine Eq.trans ?_ (congrArg (res17 (m ((c : Thread nD τ).loc main_arg0))) e).symm
  show (dats m 0 c).after 17 t (ix3 b u v) = _
  rw [after0_17]
  refine (out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b v u).trans ?_
  simp only [blk0, par_eq, ctx_eq, x_eq]
  rfl

theorem fin18 (c : Dev nD) : (dats m 0 c).arrAt 18 cfg0.N = res18 (m ((c : Thread nD τ).loc main_arg0)) := by
  refine (dats m 0 c).arrAt_eq_of_covers 18 _ (by decide +kernel) fun t hf y => ?_
  obtain ⟨b, u, v, rfl⟩ : ∃ (b : Fin 3) (u : Fin 1) (v : Fin 384), y = ix3 b u v := ⟨y 0, y 1, y 2, by funext a; fin_cases a <;> rfl⟩
  obtain rfl : u = 0 := Subsingleton.elim _ _
  have e : (win0_18.blk t).view.emb (ix3 b 0 v) = ix3 b 0 v := by
    blk_ext [idx18 t]
  refine Eq.trans ?_ (congrArg (res18 (m ((c : Thread nD τ).loc main_arg0))) e).symm
  show (dats m 0 c).after 18 t (ix3 b 0 v) = _
  rw [after0_18]
  refine (out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b v).trans ?_
  simp only [par_eq, ctx_eq, x_eq]
  rfl

theorem fin19 (c : Dev nD) : (dats m 0 c).arrAt 19 cfg0.N = res19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 19 _ (by decide +kernel) fun t hf y => ?_
  obtain ⟨b, u, v, rfl⟩ : ∃ (b : Fin 3) (u : Fin 384) (v : Fin 768), y = ix3 b u v := ⟨y 0, y 1, y 2, by funext a; fin_cases a <;> rfl⟩
  have e : (win0_19.blk t).view.emb (ix3 b u v) = ix3 b u v := by
    blk_ext [idx19 t]
  refine Eq.trans ?_ (congrArg (res19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 19 t (ix3 b u v) = _
  rw [after0_19]
  refine (out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b u v).trans ?_
  simp only [par_eq, ctx_eq, x_eq]
  rfl

theorem fin20 (c : Dev nD) : (dats m 0 c).arrAt 20 cfg0.N = res20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 20 _ (by decide +kernel) fun t hf y => ?_
  obtain ⟨b, u, v, rfl⟩ : ∃ (b : Fin 3) (u : Fin 1) (v : Fin 384), y = ix3 b u v := ⟨y 0, y 1, y 2, by funext a; fin_cases a <;> rfl⟩
  obtain rfl : u = 0 := Subsingleton.elim _ _
  have e : (win0_20.blk t).view.emb (ix3 b 0 v) = ix3 b 0 v := by
    blk_ext [idx20 t]
  refine Eq.trans ?_ (congrArg (res20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 20 t (ix3 b 0 v) = _
  rw [after0_20]
  refine (out20_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b v).trans ?_
  simp only [par_eq, ctx_eq, x_eq]
  rfl

theorem fin21 (c : Dev nD) : (dats m 0 c).arrAt 21 cfg0.N = res21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 21 _ (by decide +kernel) fun t hf y => ?_
  obtain ⟨b, u, v, rfl⟩ : ∃ (b : Fin 3) (u : Fin 384) (v : Fin 3072), y = ix3 b u v := ⟨y 0, y 1, y 2, by funext a; fin_cases a <;> rfl⟩
  have e : (win0_21.blk t).view.emb (ix3 b u v) = ix3 b u v := by
    blk_ext [idx21 t]
  refine Eq.trans ?_ (congrArg (res21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 21 t (ix3 b u v) = _
  rw [after0_21]
  refine (out21_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b u v).trans ?_
  simp only [par_eq, ctx_eq, x_eq]
  rfl

theorem fin22 (c : Dev nD) : (dats m 0 c).arrAt 22 cfg0.N = res22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 22 _ (by decide +kernel) fun t hf y => ?_
  obtain ⟨b, u, v, rfl⟩ : ∃ (b : Fin 3) (u : Fin 1) (v : Fin 384), y = ix3 b u v := ⟨y 0, y 1, y 2, by funext a; fin_cases a <;> rfl⟩
  obtain rfl : u = 0 := Subsingleton.elim _ _
  have e : (win0_22.blk t).view.emb (ix3 b 0 v) = ix3 b 0 v := by
    blk_ext [idx22 t]
  refine Eq.trans ?_ (congrArg (res22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 22 t (ix3 b 0 v) = _
  rw [after0_22]
  refine (out22_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b v).trans ?_
  simp only [par_eq, ctx_eq, x_eq]
  rfl

theorem fin23 (c : Dev nD) : (dats m 0 c).arrAt 23 cfg0.N = res23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 23 _ (by decide +kernel) fun t hf y => ?_
  obtain ⟨b, u, v, rfl⟩ : ∃ (b : Fin 3) (u : Fin 384) (v : Fin 768), y = ix3 b u v := ⟨y 0, y 1, y 2, by funext a; fin_cases a <;> rfl⟩
  have e : (win0_23.blk t).view.emb (ix3 b u v) = ix3 b u v := by
    blk_ext [idx23 t]
  refine Eq.trans ?_ (congrArg (res23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 23 t (ix3 b u v) = _
  rw [after0_23]
  refine (out23_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b u v).trans ?_
  simp only [par_eq, ctx_eq, x_eq]
  rfl

theorem fin24 (c : Dev nD) : (dats m 0 c).arrAt 24 cfg0.N = res24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 24 _ (by decide +kernel) fun t hf y => ?_
  obtain ⟨b, u, v, rfl⟩ : ∃ (b : Fin 3) (u : Fin 384) (v : Fin 768), y = ix3 b u v := ⟨y 0, y 1, y 2, by funext a; fin_cases a <;> rfl⟩
  have e : (win0_24.blk t).view.emb (ix3 b u v) = ix3 b u v := by
    blk_ext [idx24 t]
  refine Eq.trans ?_ (congrArg (res24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 24 t (ix3 b u v) = _
  rw [after0_24]
  refine (out24_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b u v).trans ?_
  simp only [par_eq, ctx_eq, x_eq]
  rfl

theorem fin25 (c : Dev nD) : (dats m 0 c).arrAt 25 cfg0.N = res25 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 25 _ (by decide +kernel) fun t hf y => ?_
  obtain ⟨b, u, v, rfl⟩ : ∃ (b : Fin 3) (u : Fin 1) (v : Fin 384), y = ix3 b u v := ⟨y 0, y 1, y 2, by funext a; fin_cases a <;> rfl⟩
  obtain rfl : u = 0 := Subsingleton.elim _ _
  have e : (win0_25.blk t).view.emb (ix3 b 0 v) = ix3 b 0 v := by
    blk_ext [idx25 t]
  refine Eq.trans ?_ (congrArg (res25 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).symm
  show (dats m 0 c).after 25 t (ix3 b 0 v) = _
  rw [after0_25]
  refine (out25_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) b v).trans ?_
  simp only [par_eq, ctx_eq, x_eq]
  rfl

end Cert.TailRefIdeal.Value

end
-- ==== Proof.RelSpec.lean ====
/- The projection of the relative positions, entry by entry, and the four results as functions of the argument arrays. -/
module

public import proofs.«01_k».proof.Proof.Rows

@[expose] public section

set_option maxRecDepth 16384

noncomputable section

namespace Cert.Rows

open Idealize.ShloMosaic Idealize.ShloMosaic.TcCoe Idealize.SL.Sem

/-- One entry of a linear layer on quantised operands. -/
def ent (c : Fin 768 → EReal) (s : EReal) (w : Fin 768 → BitVec 8) (sw b : EReal) : EReal := (∑ k, c k * num (w k)) * s * sw + b

/-- Column `64 * h + d` of part `p` of the projection: entry `d` of head `h`. -/
def col (p : Fin 2) (h : Fin 12) (d : Fin 64) : Fin 2304 := ⟨768 * p + 64 * h + d, by omega⟩

variable (a0 : Vec Ideal (⟨2, ![512, 768]⟩ : Shape) .i8) (a1 : Vec Ideal (⟨1, ![512]⟩ : Shape) .f32) (a2 : Vec Ideal (⟨2, ![768, 2304]⟩ : Shape) .i8)
  (a3 a4 : Vec Ideal (⟨1, ![2304]⟩ : Shape) .f32)

/-- The projected position `r`, head `h` of part `p`. -/
def relH (p : Fin 2) (h : Fin 12) (r : Fin 512) (d : Fin 64) : EReal :=
  ent (fun k => num (a0 (ix2 r k))) (a1 (ix1 r)) (fun k => a2 (ix2 k (col p h d))) (a3 (ix1 (col p h d))) (a4 (ix1 (col p h d)))

/-- The codes of a part, stored with the position last. -/
def relC (p : Fin 2) : Vec Ideal (⟨2, ![768, 512]⟩ : Shape) .i8 := fun y =>
  code (relH a0 a1 a2 a3 a4 p ⟨(y 0).val / 64, by have h : (y 0).val < 768 := (y 0).isLt; omega⟩ (y 1) ⟨(y 0).val % 64, by omega⟩)
    (scale (relH a0 a1 a2 a3 a4 p ⟨(y 0).val / 64, by have h : (y 0).val < 768 := (y 0).isLt; omega⟩ (y 1)))

/-- The scales of a part, one for each head and position. -/
def relS (p : Fin 2) : Vec Ideal (⟨2, ![12, 512]⟩ : Shape) .f32 := fun y => scale (relH a0 a1 a2 a3 a4 p (y 0) (y 1))

variable {a0 a1 a2 a3 a4} {b0 : Vec Ideal (⟨2, ![512, 768]⟩ : Shape) .i8} {b1 : Vec Ideal (⟨1, ![512]⟩ : Shape) .f32} {b2 : Vec Ideal (⟨2, ![768, 2304]⟩ : Shape) .i8}
  {b3 b4 : Vec Ideal (⟨1, ![2304]⟩ : Shape) .f32}

theorem relC_congr (p : Fin 2) (h0 : b0 = a0) (h1 : b1 = a1) (h2 : b2 = a2) (h3 : b3 = a3) (h4 : b4 = a4) : relC b0 b1 b2 b3 b4 p = relC a0 a1 a2 a3 a4 p := by
  rw [h0, h1, h2, h3, h4]

theorem relS_congr (p : Fin 2) (h0 : b0 = a0) (h1 : b1 = a1) (h2 : b2 = a2) (h3 : b3 = a3) (h4 : b4 = a4) : relS b0 b1 b2 b3 b4 p = relS a0 a1 a2 a3 a4 p := by
  rw [h0, h1, h2, h3, h4]

end Cert.Rows

end
-- ==== Proof.RelHead.lean ====
/- One head of the projection as the tiled program computes it, for every head of both parts: head `g mod 12` of part `g / 12`. -/
module

public import proofs.«01_k».proof.Proof.Gen.RelIdeal.Skeleton
public import Idealize.ShloMosaic.Lib.Pipeline.ValueKit.Point
public import proofs.«01_k».proof.Proof.RelSpec

@[expose] public section

set_option maxRecDepth 16384

noncomputable section

namespace Cert.RelIdeal.Gen

open Idealize.ShloMosaic Idealize.ShloMosaic.TcCoe Idealize.SL.Sem Cert.Rows

/-- The 384 columns of the weights from `384 * (g / 6)` on. -/
def wOf (g : Fin 24) (x2 : Vec Ideal S768x2304 .i8) : Vec Ideal S768x384 .i8 :=
  View.ld x2 (Rect.unit ![0, 384 * (g.val / 6)] ![768, 384] (fun a => match a with | ⟨0, _⟩ => by show 0 + 768 ≤ 768; omega | ⟨1, _⟩ => by show 384 * (g.val / 6) + 384 ≤ 2304; omega))

/-- Row `g / 2` of the table of scales or biases. -/
def rowAt (g : Fin 24) (x : Vec Ideal S18x128 .f32) : Vec Ideal S1x128 .f32 :=
  View.ld x (Rect.unit ![g.val / 2, 0] ![1, 128] (fun a => match a with | ⟨0, _⟩ => by show g.val / 2 + 1 ≤ 18; omega | ⟨1, _⟩ => by show 0 + 128 ≤ 128; omega))

/-- The head's 64 scales or biases as a column. -/
def colOf (g : Fin 24) (x : Vec Ideal S18x128 .f32) : FVec Ideal S64x1 .f32 :=
  extractStridedSlice S64x1 ![64 * (g.val % 2), 0] (transpose S128x128 [1, 0] (broadcastTo S128x128 (shapeCast S1x128 (shapeCast S1x128 (rowAt g x) shapeCasts_S1x128_S1x128) shapeCasts_S1x128_S1x128) broadcasts_S1x128_S128x128) transposes_S128x128_p1_0_S128x128)
    ⟨rfl, fun a => match a with | ⟨0, _⟩ => by show 64 * (g.val % 2) + 64 ≤ 128; omega | ⟨1, _⟩ => by show 0 + 1 ≤ 128; omega⟩

/-- The head's rows of the product. -/
def accOf (g : Fin 24) (x0 : Vec Ideal S512x768 .i8) (x2 : Vec Ideal S768x2304 .i8) : FVec Ideal S64x512 .f32 :=
  extractStridedSlice S64x512 ![64 * (g.val % 6), 0] (k0_pay4 x0 (wOf g x2))
    ⟨rfl, fun a => match a with | ⟨0, _⟩ => by show 64 * (g.val % 6) + 64 ≤ 384; omega | ⟨1, _⟩ => by show 0 + 512 ≤ 512; omega⟩

/-- The head's values. -/
def valOf (g : Fin 24) (x0 : Vec Ideal S512x768 .i8) (x1 : Vec Ideal S1x512 .f32) (x2 : Vec Ideal S768x2304 .i8) (x3 x4 : Vec Ideal S18x128 .f32) : FVec Ideal S64x512 .f32 :=
  addf (mulf (mulf (accOf g x0 x2) (broadcastTo S64x512 (k0_pay3 x1) broadcasts_S1x512_S64x512)) (broadcastTo S64x512 (colOf g x3) broadcasts_S64x1_S64x512))
    (broadcastTo S64x512 (colOf g x4) broadcasts_S64x1_S64x512)

/-- The largest absolute value of each column. -/
def maxV (v : FVec Ideal S64x512 .f32) : FVec Ideal S1x512 .f32 :=
  shapeCast S1x512 (multiReduction .maximumf [0] S512 (absf v) 0xFF800000#32 reduces_S64x512_S512 (.inl rfl) rfl) shapeCasts_S512_S1x512

/-- The scale of each column. -/
def scaleV (v : FVec Ideal S64x512 .f32) : FVec Ideal S1x512 .f32 :=
  select (cmpf .oeq (maxV v) (broadcast S1x512 (Scalar.ofBits .f32 0x00000000#32))) (broadcast S1x512 (Scalar.ofBits .f32 0x3F800000#32))
    (divf (maxV v) (broadcast S1x512 (Scalar.ofBits .f32 0x42FE0000#32)))

/-- The codes of each column. -/
def codeV (v : FVec Ideal S64x512 .f32) : IVec S64x512 8 :=
  fptosi 8 (truncf .bf16 (minimumf (broadcast S64x512 (Scalar.sitofp .f32 127#32)) (maximumf (broadcast S64x512 (Scalar.sitofp .f32 4294967169#32))
    (roundeven (divf v (broadcastTo S64x512 (scaleV v) broadcasts_S1x512_S64x512))))) bitsLt_bf16_f32)

theorem maxV_at (v : FVec Ideal S64x512 .f32) (r : Fin 512) : maxV v (ix2 0 r) = amax fun d => v (ix2 d r) := by
  pointwise [maxV]
  rfl

theorem scaleV_at (v : FVec Ideal S64x512 .f32) (r : Fin 512) : scaleV v (ix2 0 r) = scale fun d => v (ix2 d r) := by
  pointwise [scaleV]
  rw [maxV_at]
  rfl

theorem codeV_at (v : FVec Ideal S64x512 .f32) (d : Fin 64) (r : Fin 512) : codeV v (ix2 d r) = code (v (ix2 d r)) (scale fun d => v (ix2 d r)) := by
  pointwise [codeV]
  rw [scaleV_at]
  rfl

theorem wOf_at (g : Fin 24) (x2 : Vec Ideal S768x2304 .i8) (k : Fin 768) (j : Fin 384) :
    wOf g x2 (ix2 k j) = x2 (ix2 k ⟨384 * (g.val / 6) + j, by omega⟩) := by
  unfold wOf
  show x2 _ = x2 _
  congr 1
  funext a
  fin_cases a
  · exact Fin.ext (show 0 + 1 * k.val = k.val by omega)
  · exact Fin.ext (show 384 * (g.val / 6) + 1 * j.val = 384 * (g.val / 6) + j.val by omega)

theorem rowAt_at (g : Fin 24) (x : Vec Ideal S18x128 .f32) (j : Fin 128) : rowAt g x (ix2 0 j) = x (ix2 ⟨g.val / 2, by omega⟩ j) := by
  unfold rowAt
  show x _ = x _
  congr 1
  funext a
  fin_cases a
  · exact Fin.ext (show g.val / 2 + 1 * 0 = g.val / 2 by omega)
  · exact Fin.ext (show 0 + 1 * j.val = j.val by omega)

theorem colOf_at (g : Fin 24) (x : Vec Ideal S18x128 .f32) (d : Fin 64) :
    colOf g x (ix2 d 0) = x (ix2 ⟨g.val / 2, by omega⟩ ⟨64 * (g.val % 2) + d, by omega⟩) := by
  pointwise [colOf]
  exact rowAt_at g x _

theorem pay4_at (v0 : Vec Ideal S512x768 .i8) (v4 : Vec Ideal S768x384 .i8) (j : Fin 384) (r : Fin 512) :
    k0_pay4 v0 v4 (ix2 j r) = ∑ k, num (v0 (ix2 r k)) * num (v4 (ix2 k j)) := by
  pointwise [k0_pay4, k0_pay2]
  exact Finset.sum_congr rfl fun k _ => mul_comm _ _

theorem accOf_at (g : Fin 24) (x0 : Vec Ideal S512x768 .i8) (x2 : Vec Ideal S768x2304 .i8) (d : Fin 64) (r : Fin 512) :
    accOf g x0 x2 (ix2 d r) = ∑ k, num (x0 (ix2 r k)) * num (x2 (ix2 k ⟨64 * g.val + d, by omega⟩)) := by
  pointwise [accOf]
  rw [pay4_at]
  refine Finset.sum_congr rfl fun k _ => ?_
  rw [wOf_at]
  congr 4
  ext
  simp only
  omega

theorem valOf_at (g : Fin 24) (x0 : Vec Ideal S512x768 .i8) (x1 : Vec Ideal S1x512 .f32) (x2 : Vec Ideal S768x2304 .i8) (x3 x4 : Vec Ideal S18x128 .f32) (d : Fin 64) (r : Fin 512) :
    valOf g x0 x1 x2 x3 x4 (ix2 d r) = ent (fun k => num (x0 (ix2 r k))) (x1 (ix2 0 r)) (fun k => x2 (ix2 k ⟨64 * g.val + d, by omega⟩))
      (x3 (ix2 ⟨g.val / 2, by omega⟩ ⟨64 * (g.val % 2) + d, by omega⟩)) (x4 (ix2 ⟨g.val / 2, by omega⟩ ⟨64 * (g.val % 2) + d, by omega⟩)) := by
  pointwise [valOf, k0_pay3]
  rw [accOf_at, colOf_at, colOf_at]
  rfl

end Cert.RelIdeal.Gen

end
-- ==== Proof.RelPieces.lean ====
/- The four output blocks of the tiled program from what each head stores. -/
module

public import proofs.«01_k».proof.Proof.RelHead
public import Idealize.ShloMosaic.Lib.Pipeline.Value

@[expose] public section

set_option maxRecDepth 16384

noncomputable section

namespace Cert.RelIdeal.Gen

open Idealize.ShloMosaic Idealize.ShloMosaic.TcCoe Idealize.SL.Sem Cert.Rows

variable (x0 : Vec Ideal S512x768 .i8) (x1 : Vec Ideal S1x512 .f32) (x2 : Vec Ideal S768x2304 .i8) (x3 x4 : Vec Ideal S18x128 .f32)

/-- Head `h` of part `p` among the 24 heads. -/
def gOf (p : Fin 2) (h : Fin 12) : Fin 24 := ⟨12 * p + h, by omega⟩

/-- The rows of the codes that head `h` writes. -/
abbrev rC (h : Fin 12) : Rect S768x512 :=
  Rect.unit ![64 * h.val, 0] ![64, 512] (fun a => match a with | ⟨0, _⟩ => by show 64 * h.val + 64 ≤ 768; omega | ⟨1, _⟩ => by show 0 + 512 ≤ 512; omega)

/-- The row of the scales that head `h` writes. -/
abbrev rS (h : Fin 12) : Rect S12x512 :=
  Rect.unit ![h.val, 0] ![1, 512] (fun a => match a with | ⟨0, _⟩ => by show h.val + 1 ≤ 12; omega | ⟨1, _⟩ => by show 0 + 512 ≤ 512; omega)

/-- What head `h` of part `p` stores as codes. -/
abbrev cP (p : Fin 2) (h : Fin 12) : View.Piece (Elt Ideal) S768x512 .i8 := ⟨rC h, codeV (valOf (gOf p h) x0 x1 x2 x3 x4)⟩

/-- What it stores as scales. -/
abbrev sP (p : Fin 2) (h : Fin 12) : View.Piece (Elt Ideal) S12x512 .f32 := ⟨rS h, scaleV (valOf (gOf p h) x0 x1 x2 x3 x4)⟩

/-- The heads in the order of their stores, last first. -/
abbrev heads : List (Fin 12) := [11, 10, 9, 8, 7, 6, 5, 4, 3, 2, 1, 0]

/-- The values of head `h` of part `p` for position `r`. -/
def vRow (p : Fin 2) (h : Fin 12) (r : Fin 512) (d : Fin 64) : EReal := valOf (gOf p h) x0 x1 x2 x3 x4 (ix2 d r)

/-- The block of codes of part `p`. -/
def blkC (p : Fin 2) : Vec Ideal S768x512 .i8 := fun y =>
  code (vRow x0 x1 x2 x3 x4 p ⟨(y 0).val / 64, by have h : (y 0).val < 768 := (y 0).isLt; omega⟩ (y 1) ⟨(y 0).val % 64, by omega⟩)
    (scale (vRow x0 x1 x2 x3 x4 p ⟨(y 0).val / 64, by have h : (y 0).val < 768 := (y 0).isLt; omega⟩ (y 1)))

/-- The block of scales of part `p`. -/
def blkS (p : Fin 2) : Vec Ideal S12x512 .f32 := fun y => scale (vRow x0 x1 x2 x3 x4 p (y 0) (y 1))

theorem mem_heads (h : Fin 12) : h ∈ heads := by revert h; decide

theorem canon_c (p : Fin 2) (y : S768x512.Idx) : View.canon (heads.map (cP x0 x1 x2 x3 x4 p)) y = blkC x0 x1 x2 x3 x4 p y := by
  refine View.canon_apply_of_pieces (blkC x0 x1 x2 x3 x4 p) _ ?_ y ?_
  · intro pc hpc x
    obtain ⟨h, -, rfl⟩ := List.mem_map.1 hpc
    have hx : x = ix2 (x 0) (x 1) := by funext a; fin_cases a <;> rfl
    rw [hx]
    refine (codeV_at (valOf (gOf p h) x0 x1 x2 x3 x4) (x 0) (x 1)).trans ?_
    have h0 : (x 0).val < 64 := (x 0).isLt
    show code (vRow x0 x1 x2 x3 x4 p h (x 1) (x 0)) (scale (vRow x0 x1 x2 x3 x4 p h (x 1))) = code (vRow x0 x1 x2 x3 x4 p _ _ _) (scale (vRow x0 x1 x2 x3 x4 p _ _))
    congr 3
    · exact Fin.ext (show h.val = (64 * h.val + 1 * (x 0).val) / 64 by omega)
    · exact Fin.ext (show (x 1).val = 0 + 1 * (x 1).val by omega)
    · exact Fin.ext (show (x 0).val = (64 * h.val + 1 * (x 0).val) % 64 by omega)
    · exact Fin.ext (show h.val = (64 * h.val + 1 * (x 0).val) / 64 by omega)
    · exact Fin.ext (show (x 1).val = 0 + 1 * (x 1).val by omega)
  · have hy : (y 0).val < 768 := (y 0).isLt
    have hy1 : (y 1).val < 512 := (y 1).isLt
    refine ⟨cP x0 x1 x2 x3 x4 p ⟨(y 0).val / 64, by omega⟩, List.mem_map.2 ⟨_, mem_heads _, rfl⟩, ?_⟩
    show y ∈ (rC ⟨(y 0).val / 64, by omega⟩).set
    rw [Rect.mem_set_unit]
    intro a
    fin_cases a
    · show 64 * ((y 0).val / 64) ≤ (y 0).val ∧ (y 0).val < 64 * ((y 0).val / 64) + 64
      omega
    · show 0 ≤ (y 1).val ∧ (y 1).val < 0 + 512
      omega

theorem canon_s (p : Fin 2) (y : S12x512.Idx) : View.canon (heads.map (sP x0 x1 x2 x3 x4 p)) y = blkS x0 x1 x2 x3 x4 p y := by
  refine View.canon_apply_of_pieces (blkS x0 x1 x2 x3 x4 p) _ ?_ y ?_
  · intro pc hpc x
    obtain ⟨h, -, rfl⟩ := List.mem_map.1 hpc
    obtain ⟨r, rfl⟩ : ∃ r : Fin 512, x = ix2 (0 : Fin 1) r := by
      refine ⟨x 1, ?_⟩
      funext a
      fin_cases a
      · exact Subsingleton.elim (α := Fin 1) _ _
      · rfl
    have k : scaleV (valOf (gOf p h) x0 x1 x2 x3 x4) (ix2 0 r) = blkS x0 x1 x2 x3 x4 p (ix2 h r) := by
      rw [scaleV_at]
      rfl
    dsimp only [sP]
    refine k.trans (congrArg (blkS x0 x1 x2 x3 x4 p) ?_)
    funext a
    fin_cases a
    · exact Fin.ext (show h.val = h.val + 1 * 0 by omega)
    · exact Fin.ext (show r.val = 0 + 1 * r.val by omega)
  · have hy : (y 0).val < 12 := (y 0).isLt
    have hy1 : (y 1).val < 512 := (y 1).isLt
    refine ⟨sP x0 x1 x2 x3 x4 p (y 0), List.mem_map.2 ⟨_, mem_heads _, rfl⟩, ?_⟩
    show y ∈ (rS (y 0)).set
    rw [Rect.mem_set_unit]
    intro a
    fin_cases a
    · show (y 0).val ≤ (y 0).val ∧ (y 0).val < (y 0).val + 1
      omega
    · show 0 ≤ (y 1).val ∧ (y 1).val < 0 + 512
      omega

theorem ld_0 (x : Vec Ideal S512x768 .i8) : View.ld x (Rect.unit ![0, 0] ![512, 768] inb_S512x768_S512x768_0_0) = x :=
  View.ld_unit_zero (S := S512x768) (by funext a; fin_cases a <;> rfl) _ x

theorem ld_1 (x : Vec Ideal S1x512 .f32) : View.ld x (Rect.unit ![0, 0] ![1, 512] inb_S1x512_S1x512_0_0) = x :=
  View.ld_unit_zero (S := S1x512) (by funext a; fin_cases a <;> rfl) _ x

end Cert.RelIdeal.Gen

end
-- ==== Proof.RelArgs.lean ====
/- What the tiled program reads from its arguments. -/
module

public import proofs.«01_k».proof.Proof.RelPieces
public import proofs.«01_k».proof.Proof.Gen.RelIdeal.Value
public import Idealize.ShloMosaic.Lib.Pipeline.ValueKit.Point

@[expose] public section

set_option maxRecDepth 16384

noncomputable section

namespace Cert.RelIdeal.Value

open Idealize.ShloMosaic Idealize.ShloMosaic.TcCoe Idealize.SL.Sem
open Cert.RelIdeal Cert.RelIdeal.Gen Cert.Rows

variable (m : (ℓ : Loc nD τ sig) → Buf (Elt Ideal) ℓ)

theorem idx0 : ∀ t : Fin cfg0.N, win0_0.index t = ![0, 0] :=
  (by decide +kernel : ∀ t : Fin grid0.N, _)

theorem idx1 : ∀ t : Fin cfg0.N, win0_1.index t = ![0, 0] :=
  (by decide +kernel : ∀ t : Fin grid0.N, _)

theorem idx2 : ∀ t : Fin cfg0.N, win0_2.index t = ![0, 0] :=
  (by decide +kernel : ∀ t : Fin grid0.N, _)

theorem idx3 : ∀ t : Fin cfg0.N, win0_3.index t = ![0, 0] :=
  (by decide +kernel : ∀ t : Fin grid0.N, _)

theorem idx4 : ∀ t : Fin cfg0.N, win0_4.index t = ![0, 0] :=
  (by decide +kernel : ∀ t : Fin grid0.N, _)

theorem idx7 : ∀ t : Fin cfg0.N, win0_7.index t = ![0, 0] :=
  (by decide +kernel : ∀ t : Fin grid0.N, _)

theorem idx8 : ∀ t : Fin cfg0.N, win0_8.index t = ![0, 0] :=
  (by decide +kernel : ∀ t : Fin grid0.N, _)

theorem idx9 : ∀ t : Fin cfg0.N, win0_9.index t = ![0, 0] :=
  (by decide +kernel : ∀ t : Fin grid0.N, _)

theorem idx10 : ∀ t : Fin cfg0.N, win0_10.index t = ![0, 0] :=
  (by decide +kernel : ∀ t : Fin grid0.N, _)

theorem blk0 (c : Dev nD) (t : Fin cfg0.N) (r : Fin 512) (k : Fin 768) : iblk m c 0 t (ix2 r k) = m ((c : Thread nD τ).loc main_arg0) (ix2 r k) := by
  blk_ext! [iblk, V, idx0 t]

theorem blk1 (c : Dev nD) (t : Fin cfg0.N) (r : Fin 512) : iblk m c 1 t (ix2 0 r) = m ((c : Thread nD τ).loc main_arg1) (ix1 r) := by
  blk_ext! [iblk, V, idx1 t]

theorem blk2 (c : Dev nD) (t : Fin cfg0.N) (k : Fin 768) (j : Fin 2304) : iblk m c 2 t (ix2 k j) = m ((c : Thread nD τ).loc main_arg2) (ix2 k j) := by
  blk_ext! [iblk, V, idx2 t]

theorem blk3 (c : Dev nD) (t : Fin cfg0.N) (u : Fin 18) (v : Fin 128) : iblk m c 3 t (ix2 u v) = m ((c : Thread nD τ).loc main_arg3) (ix1 (⟨128 * u.val + v.val, by omega⟩ : Fin 2304)) := by
  blk_ext! [iblk, V, idx3 t]
  all_goals (simp only []; omega)

theorem blk4 (c : Dev nD) (t : Fin cfg0.N) (u : Fin 18) (v : Fin 128) : iblk m c 4 t (ix2 u v) = m ((c : Thread nD τ).loc main_arg4) (ix1 (⟨128 * u.val + v.val, by omega⟩ : Fin 2304)) := by
  blk_ext! [iblk, V, idx4 t]
  all_goals (simp only []; omega)

/-- The values a head computes, from the arguments. -/
theorem vRow_eq (c : Dev nD) (t : Fin cfg0.N) (p : Fin 2) (h : Fin 12) (r : Fin 512) (d : Fin 64) :
    vRow (iblk m c 0 t) (iblk m c 1 t) (iblk m c 2 t) (iblk m c 3 t) (iblk m c 4 t) p h r d = relH (m ((c : Thread nD τ).loc main_arg0)) (m ((c : Thread nD τ).loc main_arg1)) (m ((c : Thread nD τ).loc main_arg2)) (m ((c : Thread nD τ).loc main_arg3)) (m ((c : Thread nD τ).loc main_arg4)) p h r d := by
  unfold vRow relH
  rw [valOf_at]
  simp only [blk0, blk1, blk2, blk3, blk4]
  have e2 : ∀ hlt, (⟨64 * (gOf p h).val + d.val, hlt⟩ : Fin 2304) = col p h d := fun _ => Fin.ext (by simp only [gOf, col]; omega)
  have e3 : ∀ hlt, (⟨128 * ((gOf p h).val / 2) + (64 * ((gOf p h).val % 2) + d.val), hlt⟩ : Fin 2304) = col p h d := fun _ => Fin.ext (by simp only [gOf, col]; omega)
  simp only [e2, e3]

theorem blkC_eq (c : Dev nD) (t : Fin cfg0.N) (p : Fin 2) : blkC (iblk m c 0 t) (iblk m c 1 t) (iblk m c 2 t) (iblk m c 3 t) (iblk m c 4 t) p = relC (m ((c : Thread nD τ).loc main_arg0)) (m ((c : Thread nD τ).loc main_arg1)) (m ((c : Thread nD τ).loc main_arg2)) (m ((c : Thread nD τ).loc main_arg3)) (m ((c : Thread nD τ).loc main_arg4)) p := by
  funext y
  unfold blkC relC
  have e : vRow (iblk m c 0 t) (iblk m c 1 t) (iblk m c 2 t) (iblk m c 3 t) (iblk m c 4 t) p = relH (m ((c : Thread nD τ).loc main_arg0)) (m ((c : Thread nD τ).loc main_arg1)) (m ((c : Thread nD τ).loc main_arg2)) (m ((c : Thread nD τ).loc main_arg3)) (m ((c : Thread nD τ).loc main_arg4)) p := funext fun h => funext fun r => funext fun d => vRow_eq m c t p h r d
  rw [e]

theorem blkS_eq (c : Dev nD) (t : Fin cfg0.N) (p : Fin 2) : blkS (iblk m c 0 t) (iblk m c 1 t) (iblk m c 2 t) (iblk m c 3 t) (iblk m c 4 t) p = relS (m ((c : Thread nD τ).loc main_arg0)) (m ((c : Thread nD τ).loc main_arg1)) (m ((c : Thread nD τ).loc main_arg2)) (m ((c : Thread nD τ).loc main_arg3)) (m ((c : Thread nD τ).loc main_arg4)) p := by
  funext y
  unfold blkS relS
  have e : vRow (iblk m c 0 t) (iblk m c 1 t) (iblk m c 2 t) (iblk m c 3 t) (iblk m c 4 t) p = relH (m ((c : Thread nD τ).loc main_arg0)) (m ((c : Thread nD τ).loc main_arg1)) (m ((c : Thread nD τ).loc main_arg2)) (m ((c : Thread nD τ).loc main_arg3)) (m ((c : Thread nD τ).loc main_arg4)) p := funext fun h => funext fun r => funext fun d => vRow_eq m c t p h r d
  rw [e]

end Cert.RelIdeal.Value

end
-- ==== Proof.RelOut.lean ====
/- The four output blocks of the tiled program. -/
module

public import proofs.«01_k».proof.Proof.RelPieces
public import proofs.«01_k».proof.Proof.Gen.RelIdeal.Frame

@[expose] public section

set_option maxRecDepth 16384

noncomputable section

namespace Cert.RelIdeal.Gen

open Idealize.ShloMosaic Idealize.ShloMosaic.TcCoe Idealize.SL.Sem Cert.Rows

variable (c : Dev nD) (arg0 : Memref sig .tc .vmem S512x768 .i8) (harg0 : arg0.IsWhole) (arg1 : Memref sig .tc .vmem S1x512 .f32) (harg1 : arg1.IsWhole) (arg2 : Memref sig .tc .vmem S768x2304 .i8) (harg2 : arg2.IsWhole) (arg3 : Memref sig .tc .vmem S18x128 .f32) (harg3 : arg3.IsWhole) (arg4 : Memref sig .tc .vmem S18x128 .f32) (harg4 : arg4.IsWhole) (arg5 : Memref sig .tc .vmem S1x768 .i32) (harg5 : arg5.IsWhole) (arg6 : Memref sig .tc .vmem S1x768 .i32) (harg6 : arg6.IsWhole) (arg7 : Memref sig .tc .vmem S768x512 .i8) (harg7 : arg7.IsWhole) (arg8 : Memref sig .tc .vmem S12x512 .f32) (harg8 : arg8.IsWhole) (arg9 : Memref sig .tc .vmem S768x512 .i8) (harg9 : arg9.IsWhole) (arg10 : Memref sig .tc .vmem S12x512 .f32) (harg10 : arg10.IsWhole) (arg11 : Memref sig .tc .vmem S768x768 .bf16) (harg11 : arg11.IsWhole) (arg12 : Memref sig .tc .vmem S12x768 .f32) (harg12 : arg12.IsWhole) (arg13 : Memref sig .tc .vmem S12x672x256 .bf16) (harg13 : arg13.IsWhole) (arg14 : Memref sig .tc .vmem S12x768 .f32) (harg14 : arg14.IsWhole)
  (x0 : Vec Ideal S512x768 .i8) (x1 : Vec Ideal S1x512 .f32) (x2 : Vec Ideal S768x2304 .i8) (x3 x4 : Vec Ideal S18x128 .f32) (x5 x6 : Vec Ideal S1x768 .i32)

set_option maxHeartbeats 4000000 in
theorem out7_eq : out0_A_7 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = blkC x0 x1 x2 x3 x4 0 := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  funext y
  unfold kernelRun0_A
  dsimp only
  sl_unfold_words
  simp only [View.readAt_eq_ld, harg0.read_unread, harg1.read_unread, harg2.read_unread, harg3.read_unread, harg4.read_unread, harg5.read_unread, harg6.read_unread, ld_0, ld_1]
  exact canon_c x0 x1 x2 x3 x4 0 y

set_option maxHeartbeats 4000000 in
theorem out8_eq : out0_A_8 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = blkS x0 x1 x2 x3 x4 0 := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  funext y
  unfold kernelRun0_A
  dsimp only
  sl_unfold_words
  simp only [View.readAt_eq_ld, harg0.read_unread, harg1.read_unread, harg2.read_unread, harg3.read_unread, harg4.read_unread, harg5.read_unread, harg6.read_unread, ld_0, ld_1]
  exact canon_s x0 x1 x2 x3 x4 0 y

set_option maxHeartbeats 4000000 in
theorem out9_eq : out0_A_9 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = blkC x0 x1 x2 x3 x4 1 := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  funext y
  unfold kernelRun0_A
  dsimp only
  sl_unfold_words
  simp only [View.readAt_eq_ld, harg0.read_unread, harg1.read_unread, harg2.read_unread, harg3.read_unread, harg4.read_unread, harg5.read_unread, harg6.read_unread, ld_0, ld_1]
  exact canon_c x0 x1 x2 x3 x4 1 y

set_option maxHeartbeats 4000000 in
theorem out10_eq : out0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = blkS x0 x1 x2 x3 x4 1 := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  funext y
  unfold kernelRun0_A
  dsimp only
  sl_unfold_words
  simp only [View.readAt_eq_ld, harg0.read_unread, harg1.read_unread, harg2.read_unread, harg3.read_unread, harg4.read_unread, harg5.read_unread, harg6.read_unread, ld_0, ld_1]
  exact canon_s x0 x1 x2 x3 x4 1 y

end Cert.RelIdeal.Gen

end
-- ==== Proof.RelFin.lean ====
/- The four outputs of the tiled program, at every index. -/
module

public import proofs.«01_k».proof.Proof.RelArgs
public import proofs.«01_k».proof.Proof.RelOut

@[expose] public section

set_option maxRecDepth 16384

noncomputable section

namespace Cert.RelIdeal.Value

open Idealize.ShloMosaic Idealize.ShloMosaic.TcCoe Idealize.SL.Sem
open Cert.RelIdeal Cert.RelIdeal.Gen Cert.Rows

variable (m : (ℓ : Loc nD τ sig) → Buf (Elt Ideal) ℓ)

theorem fin7 (c : Dev nD) : (dats m 0 c).arrAt 7 cfg0.N = relC (m ((c : Thread nD τ).loc main_arg0)) (m ((c : Thread nD τ).loc main_arg1)) (m ((c : Thread nD τ).loc main_arg2)) (m ((c : Thread nD τ).loc main_arg3)) (m ((c : Thread nD τ).loc main_arg4)) 0 := by
  refine (dats m 0 c).arrAt_eq_of_covers 7 _ (by decide +kernel) fun t hf y => ?_
  obtain ⟨u, v, rfl⟩ : ∃ (u : Fin 768) (v : Fin 512), y = ix2 u v := ⟨y 0, y 1, by funext a; fin_cases a <;> rfl⟩
  have e : (win0_7.blk t).view.emb (ix2 u v) = ix2 u v := by
    blk_ext [idx7 t]
  refine Eq.trans ?_ (congrArg (relC (m ((c : Thread nD τ).loc main_arg0)) (m ((c : Thread nD τ).loc main_arg1)) (m ((c : Thread nD τ).loc main_arg2)) (m ((c : Thread nD τ).loc main_arg3)) (m ((c : Thread nD τ).loc main_arg4)) 0) e).symm
  show (dats m 0 c).after 7 t (ix2 u v) = _
  rw [after0_7]
  unfold outsAt0
  dsimp only
  refine (congrFun (out7_eq ..) (ix2 u v)).trans ?_
  rw [blkC_eq]

theorem fin8 (c : Dev nD) : (dats m 0 c).arrAt 8 cfg0.N = relS (m ((c : Thread nD τ).loc main_arg0)) (m ((c : Thread nD τ).loc main_arg1)) (m ((c : Thread nD τ).loc main_arg2)) (m ((c : Thread nD τ).loc main_arg3)) (m ((c : Thread nD τ).loc main_arg4)) 0 := by
  refine (dats m 0 c).arrAt_eq_of_covers 8 _ (by decide +kernel) fun t hf y => ?_
  obtain ⟨u, v, rfl⟩ : ∃ (u : Fin 12) (v : Fin 512), y = ix2 u v := ⟨y 0, y 1, by funext a; fin_cases a <;> rfl⟩
  have e : (win0_8.blk t).view.emb (ix2 u v) = ix2 u v := by
    blk_ext [idx8 t]
  refine Eq.trans ?_ (congrArg (relS (m ((c : Thread nD τ).loc main_arg0)) (m ((c : Thread nD τ).loc main_arg1)) (m ((c : Thread nD τ).loc main_arg2)) (m ((c : Thread nD τ).loc main_arg3)) (m ((c : Thread nD τ).loc main_arg4)) 0) e).symm
  show (dats m 0 c).after 8 t (ix2 u v) = _
  rw [after0_8]
  unfold outsAt0
  dsimp only
  refine (congrFun (out8_eq ..) (ix2 u v)).trans ?_
  rw [blkS_eq]

theorem fin9 (c : Dev nD) : (dats m 0 c).arrAt 9 cfg0.N = relC (m ((c : Thread nD τ).loc main_arg0)) (m ((c : Thread nD τ).loc main_arg1)) (m ((c : Thread nD τ).loc main_arg2)) (m ((c : Thread nD τ).loc main_arg3)) (m ((c : Thread nD τ).loc main_arg4)) 1 := by
  refine (dats m 0 c).arrAt_eq_of_covers 9 _ (by decide +kernel) fun t hf y => ?_
  obtain ⟨u, v, rfl⟩ : ∃ (u : Fin 768) (v : Fin 512), y = ix2 u v := ⟨y 0, y 1, by funext a; fin_cases a <;> rfl⟩
  have e : (win0_9.blk t).view.emb (ix2 u v) = ix2 u v := by
    blk_ext [idx9 t]
  refine Eq.trans ?_ (congrArg (relC (m ((c : Thread nD τ).loc main_arg0)) (m ((c : Thread nD τ).loc main_arg1)) (m ((c : Thread nD τ).loc main_arg2)) (m ((c : Thread nD τ).loc main_arg3)) (m ((c : Thread nD τ).loc main_arg4)) 1) e).symm
  show (dats m 0 c).after 9 t (ix2 u v) = _
  rw [after0_9]
  unfold outsAt0
  dsimp only
  refine (congrFun (out9_eq ..) (ix2 u v)).trans ?_
  rw [blkC_eq]

theorem fin10 (c : Dev nD) : (dats m 0 c).arrAt 10 cfg0.N = relS (m ((c : Thread nD τ).loc main_arg0)) (m ((c : Thread nD τ).loc main_arg1)) (m ((c : Thread nD τ).loc main_arg2)) (m ((c : Thread nD τ).loc main_arg3)) (m ((c : Thread nD τ).loc main_arg4)) 1 := by
  refine (dats m 0 c).arrAt_eq_of_covers 10 _ (by decide +kernel) fun t hf y => ?_
  obtain ⟨u, v, rfl⟩ : ∃ (u : Fin 12) (v : Fin 512), y = ix2 u v := ⟨y 0, y 1, by funext a; fin_cases a <;> rfl⟩
  have e : (win0_10.blk t).view.emb (ix2 u v) = ix2 u v := by
    blk_ext [idx10 t]
  refine Eq.trans ?_ (congrArg (relS (m ((c : Thread nD τ).loc main_arg0)) (m ((c : Thread nD τ).loc main_arg1)) (m ((c : Thread nD τ).loc main_arg2)) (m ((c : Thread nD τ).loc main_arg3)) (m ((c : Thread nD τ).loc main_arg4)) 1) e).symm
  show (dats m 0 c).after 10 t (ix2 u v) = _
  rw [after0_10]
  unfold outsAt0
  dsimp only
  refine (congrFun (out10_eq ..) (ix2 u v)).trans ?_
  rw [blkS_eq]

end Cert.RelIdeal.Value

end
-- ==== Proof.RelRef.lean ====
/- The four outputs of the reference of the relative positions, entry by entry. -/
module

public import proofs.«01_k».proof.Proof.Gen.RelRefIdeal.Frame
public import Idealize.ShloMosaic.Lib.Pipeline.ValueKit.Point
public import proofs.«01_k».proof.Proof.RelSpec

@[expose] public section

set_option maxRecDepth 16384

noncomputable section

namespace Cert.RelRefIdeal.Gen

open Idealize.ShloMosaic Idealize.ShloMosaic.TcCoe Idealize.SL.Sem Cert.Rows

variable (x0 : Vec Ideal S512x768 .i8) (x1 : Vec Ideal S1x512 .f32) (x2 : Vec Ideal S768x1536 .i8) (x3 x4 : Vec Ideal S1x1536 .f32)

/-- Column `64 * h + d` of part `p`. -/
def colR (p : Fin 2) (h : Fin 12) (d : Fin 64) : Fin 1536 := ⟨768 * p + 64 * h + d, by omega⟩

/-- The projected position `r`, head `h` of part `p`, of the blocks. -/
def refH (p : Fin 2) (h : Fin 12) (r : Fin 512) (d : Fin 64) : EReal :=
  ent (fun k => num (x0 (ix2 r k))) (x1 (ix2 0 r)) (fun k => x2 (ix2 k (colR p h d))) (x3 (ix2 0 (colR p h d))) (x4 (ix2 0 (colR p h d)))

/-- The codes of a part, from the blocks. -/
def refC (p : Fin 2) : Vec Ideal S768x512 .i8 := fun y =>
  code (refH x0 x1 x2 x3 x4 p ⟨(y 0).val / 64, by have h : (y 0).val < 768 := (y 0).isLt; omega⟩ (y 1) ⟨(y 0).val % 64, by omega⟩)
    (scale (refH x0 x1 x2 x3 x4 p ⟨(y 0).val / 64, by have h : (y 0).val < 768 := (y 0).isLt; omega⟩ (y 1)))

/-- The scales of a part, from the blocks. -/
def refS (p : Fin 2) : Vec Ideal S12x512 .f32 := fun y => scale (refH x0 x1 x2 x3 x4 p (y 0) (y 1))

theorem pay6_at (r : Fin 512) (p : Fin 2) (h : Fin 12) (d : Fin 64) : k0_pay6 x0 x1 x2 x3 x4 (ix4 r p h d) = refH x0 x1 x2 x3 x4 p h r d := by
  pointwise [k0_pay6]
  have e : ∀ hlt, (⟨p.val * 768 + h.val * 64 + d.val, hlt⟩ : Fin 1536) = colR p h d := fun _ => Fin.ext (by simp only [colR]; omega)
  simp only [e]
  rfl

theorem pay7_at (r : Fin 512) (h : Fin 12) (d : Fin 64) : k0_pay7 x0 x1 x2 x3 x4 (ix3 r h d) = refH x0 x1 x2 x3 x4 0 h r d := by
  pointwise [k0_pay7]
  exact pay6_at x0 x1 x2 x3 x4 r 0 h d

theorem pay10_at (r : Fin 512) (h : Fin 12) (d : Fin 64) : k0_pay10 x0 x1 x2 x3 x4 (ix3 r h d) = refH x0 x1 x2 x3 x4 1 h r d := by
  pointwise [k0_pay10]
  exact pay6_at x0 x1 x2 x3 x4 r 1 h d

theorem pay8_at (r : Fin 512) (h : Fin 12) : k0_pay8 x0 x1 x2 x3 x4 (ix2 r h) = scale (refH x0 x1 x2 x3 x4 0 h r) := by
  pointwise [k0_pay8]
  simp only [pay7_at]
  rfl

theorem pay9_at (r : Fin 512) (h : Fin 12) (d : Fin 64) : k0_pay9 x0 x1 x2 x3 x4 (ix3 r h d) = code (refH x0 x1 x2 x3 x4 0 h r d) (scale (refH x0 x1 x2 x3 x4 0 h r)) := by
  pointwise [k0_pay9]
  rw [pay8_at, pay7_at]
  rfl

theorem pay1_at (v : FVec Ideal S512x12x64 .f32) (r : Fin 512) (h : Fin 12) : k0_pay1 v (ix2 r h) = scale fun d => v (ix3 r h d) := by
  pointwise [k0_pay1]
  rfl

theorem pay2_at (v : IVec S512x12x64 8) (i : Fin 768) (r : Fin 512) : k0_pay2 v (ix2 i r) = v (ix3 r ⟨i.val / 64, by omega⟩ ⟨i.val % 64, by omega⟩) := by
  pointwise [k0_pay2]

theorem pay3_at (v : FVec Ideal S512x12 .f32) (h : Fin 12) (r : Fin 512) : k0_pay3 v (ix2 h r) = v (ix2 r h) := by
  pointwise [k0_pay3]

theorem pay4_at (v : FVec Ideal S512x12x64 .f32) (i : Fin 768) (r : Fin 512) :
    k0_pay4 v (ix2 i r) = code (v (ix3 r ⟨i.val / 64, by omega⟩ ⟨i.val % 64, by omega⟩)) (scale fun d => v (ix3 r ⟨i.val / 64, by omega⟩ d)) := by
  pointwise [k0_pay4]
  rw [pay1_at]
  rfl

theorem pay5_at (v : FVec Ideal S512x12x64 .f32) (h : Fin 12) (r : Fin 512) : k0_pay5 v (ix2 h r) = scale fun d => v (ix3 r h d) := by
  pointwise [k0_pay5]
  exact pay1_at v r h

theorem ldr_0 (x : Vec Ideal S512x768 .i8) : View.ld x r0_0 = x := View.ld_unit_zero (by funext a; fin_cases a <;> rfl) _ x

theorem ldr_1 (x : Vec Ideal S1x512 .f32) : View.ld x r0_1 = x := View.ld_unit_zero (by funext a; fin_cases a <;> rfl) _ x

theorem ldr_2 (x : Vec Ideal S768x1536 .i8) : View.ld x r0_2 = x := View.ld_unit_zero (by funext a; fin_cases a <;> rfl) _ x

theorem ldr_3 (x : Vec Ideal S1x1536 .f32) : View.ld x r0_3 = x := View.ld_unit_zero (by funext a; fin_cases a <;> rfl) _ x

theorem out5_eq : out0_5 x0 x1 x2 x3 x4 = refC x0 x1 x2 x3 x4 0 := by
  funext y
  obtain ⟨i, r, rfl⟩ : ∃ (i : Fin 768) (r : Fin 512), y = ix2 i r := ⟨y 0, y 1, by funext a; fin_cases a <;> rfl⟩
  unfold out0_5
  rw [View.canon_unit_zero (by funext a; fin_cases a <;> rfl)]
  simp only [ldr_0, ldr_1, ldr_2, ldr_3]
  rw [pay2_at, pay9_at]
  rfl

theorem out6_eq : out0_6 x0 x1 x2 x3 x4 = refS x0 x1 x2 x3 x4 0 := by
  funext y
  obtain ⟨i, r, rfl⟩ : ∃ (i : Fin 12) (r : Fin 512), y = ix2 i r := ⟨y 0, y 1, by funext a; fin_cases a <;> rfl⟩
  unfold out0_6
  rw [View.canon_unit_zero (by funext a; fin_cases a <;> rfl)]
  simp only [ldr_0, ldr_1, ldr_2, ldr_3]
  rw [pay3_at, pay8_at]
  rfl

theorem out7_eq : out0_7 x0 x1 x2 x3 x4 = refC x0 x1 x2 x3 x4 1 := by
  funext y
  obtain ⟨i, r, rfl⟩ : ∃ (i : Fin 768) (r : Fin 512), y = ix2 i r := ⟨y 0, y 1, by funext a; fin_cases a <;> rfl⟩
  unfold out0_7 k0_pay11
  rw [View.canon_unit_zero (by funext a; fin_cases a <;> rfl)]
  simp only [ldr_0, ldr_1, ldr_2, ldr_3]
  rw [pay4_at]
  simp only [pay10_at]
  rfl

theorem out8_eq : out0_8 x0 x1 x2 x3 x4 = refS x0 x1 x2 x3 x4 1 := by
  funext y
  obtain ⟨i, r, rfl⟩ : ∃ (i : Fin 12) (r : Fin 512), y = ix2 i r := ⟨y 0, y 1, by funext a; fin_cases a <;> rfl⟩
  unfold out0_8 k0_pay11
  rw [View.canon_unit_zero (by funext a; fin_cases a <;> rfl)]
  simp only [ldr_0, ldr_1, ldr_2, ldr_3]
  rw [pay5_at]
  simp only [pay10_at]
  rfl

end Cert.RelRefIdeal.Gen

end
-- ==== Proof.RelRefFin.lean ====
/- The four results of the reference, from its arguments. -/
module

public import proofs.«01_k».proof.Proof.RelRef
public import proofs.«01_k».proof.Proof.Gen.RelRefIdeal.Value

@[expose] public section

set_option maxRecDepth 16384

noncomputable section

namespace Cert.RelRefIdeal.Value

open Idealize.ShloMosaic Idealize.ShloMosaic.TcCoe Idealize.SL.Sem
open Cert.RelRefIdeal Cert.RelRefIdeal.Gen Cert.Rows

variable (m : (ℓ : Loc nD τ sig) → Buf (Elt Ideal) ℓ)

theorem idx0 : ∀ t : Fin cfg0.N, win0_0.index t = ![0, 0] :=
  (by decide +kernel : ∀ t : Fin grid0.N, _)

theorem idx1 : ∀ t : Fin cfg0.N, win0_1.index t = ![0, 0] :=
  (by decide +kernel : ∀ t : Fin grid0.N, _)

theorem idx2 : ∀ t : Fin cfg0.N, win0_2.index t = ![0, 0] :=
  (by decide +kernel : ∀ t : Fin grid0.N, _)

theorem idx3 : ∀ t : Fin cfg0.N, win0_3.index t = ![0, 0] :=
  (by decide +kernel : ∀ t : Fin grid0.N, _)

theorem idx4 : ∀ t : Fin cfg0.N, win0_4.index t = ![0, 0] :=
  (by decide +kernel : ∀ t : Fin grid0.N, _)

theorem idx5 : ∀ t : Fin cfg0.N, win0_5.index t = ![0, 0] :=
  (by decide +kernel : ∀ t : Fin grid0.N, _)

theorem idx6 : ∀ t : Fin cfg0.N, win0_6.index t = ![0, 0] :=
  (by decide +kernel : ∀ t : Fin grid0.N, _)

theorem idx7 : ∀ t : Fin cfg0.N, win0_7.index t = ![0, 0] :=
  (by decide +kernel : ∀ t : Fin grid0.N, _)

theorem idx8 : ∀ t : Fin cfg0.N, win0_8.index t = ![0, 0] :=
  (by decide +kernel : ∀ t : Fin grid0.N, _)

theorem blk0 (c : Dev nD) (t : Fin cfg0.N) (r : Fin 512) (k : Fin 768) : iblk m c 0 t (ix2 r k) = m ((c : Thread nD τ).loc main_arg0) (ix2 r k) := by
  blk_ext! [iblk, V, idx0 t]

theorem blk1 (c : Dev nD) (t : Fin cfg0.N) (r : Fin 512) : iblk m c 1 t (ix2 0 r) = m ((c : Thread nD τ).loc main_arg1) (ix1 r) := by
  blk_ext! [iblk, V, idx1 t]

theorem blk2 (c : Dev nD) (t : Fin cfg0.N) (k : Fin 768) (j : Fin 1536) : iblk m c 2 t (ix2 k j) = m ((c : Thread nD τ).loc main_arg2) (ix2 k (⟨j.val, by omega⟩ : Fin 2304)) := by
  blk_ext! [iblk, V, idx2 t]

theorem blk3 (c : Dev nD) (t : Fin cfg0.N) (j : Fin 1536) : iblk m c 3 t (ix2 0 j) = m ((c : Thread nD τ).loc main_arg3) (ix1 (⟨j.val, by omega⟩ : Fin 2304)) := by
  blk_ext! [iblk, V, idx3 t]

theorem blk4 (c : Dev nD) (t : Fin cfg0.N) (j : Fin 1536) : iblk m c 4 t (ix2 0 j) = m ((c : Thread nD τ).loc main_arg4) (ix1 (⟨j.val, by omega⟩ : Fin 2304)) := by
  blk_ext! [iblk, V, idx4 t]

/-- The projected values, from the arguments. -/
theorem refH_eq (c : Dev nD) (t : Fin cfg0.N) (p : Fin 2) (h : Fin 12) (r : Fin 512) (d : Fin 64) :
    refH (iblk m c 0 t) (iblk m c 1 t) (iblk m c 2 t) (iblk m c 3 t) (iblk m c 4 t) p h r d = relH (m ((c : Thread nD τ).loc main_arg0)) (m ((c : Thread nD τ).loc main_arg1)) (m ((c : Thread nD τ).loc main_arg2)) (m ((c : Thread nD τ).loc main_arg3)) (m ((c : Thread nD τ).loc main_arg4)) p h r d := by
  unfold refH relH
  simp only [blk0, blk1, blk2, blk3, blk4]
  rfl

theorem refC_eq (c : Dev nD) (t : Fin cfg0.N) (p : Fin 2) : refC (iblk m c 0 t) (iblk m c 1 t) (iblk m c 2 t) (iblk m c 3 t) (iblk m c 4 t) p = relC (m ((c : Thread nD τ).loc main_arg0)) (m ((c : Thread nD τ).loc main_arg1)) (m ((c : Thread nD τ).loc main_arg2)) (m ((c : Thread nD τ).loc main_arg3)) (m ((c : Thread nD τ).loc main_arg4)) p := by
  funext y
  unfold refC relC
  have e : refH (iblk m c 0 t) (iblk m c 1 t) (iblk m c 2 t) (iblk m c 3 t) (iblk m c 4 t) p = relH (m ((c : Thread nD τ).loc main_arg0)) (m ((c : Thread nD τ).loc main_arg1)) (m ((c : Thread nD τ).loc main_arg2)) (m ((c : Thread nD τ).loc main_arg3)) (m ((c : Thread nD τ).loc main_arg4)) p := funext fun h => funext fun r => funext fun d => refH_eq m c t p h r d
  rw [e]

theorem refS_eq (c : Dev nD) (t : Fin cfg0.N) (p : Fin 2) : refS (iblk m c 0 t) (iblk m c 1 t) (iblk m c 2 t) (iblk m c 3 t) (iblk m c 4 t) p = relS (m ((c : Thread nD τ).loc main_arg0)) (m ((c : Thread nD τ).loc main_arg1)) (m ((c : Thread nD τ).loc main_arg2)) (m ((c : Thread nD τ).loc main_arg3)) (m ((c : Thread nD τ).loc main_arg4)) p := by
  funext y
  unfold refS relS
  have e : refH (iblk m c 0 t) (iblk m c 1 t) (iblk m c 2 t) (iblk m c 3 t) (iblk m c 4 t) p = relH (m ((c : Thread nD τ).loc main_arg0)) (m ((c : Thread nD τ).loc main_arg1)) (m ((c : Thread nD τ).loc main_arg2)) (m ((c : Thread nD τ).loc main_arg3)) (m ((c : Thread nD τ).loc main_arg4)) p := funext fun h => funext fun r => funext fun d => refH_eq m c t p h r d
  rw [e]

theorem fin5 (c : Dev nD) : (dats m 0 c).arrAt 5 cfg0.N = relC (m ((c : Thread nD τ).loc main_arg0)) (m ((c : Thread nD τ).loc main_arg1)) (m ((c : Thread nD τ).loc main_arg2)) (m ((c : Thread nD τ).loc main_arg3)) (m ((c : Thread nD τ).loc main_arg4)) 0 := by
  refine (dats m 0 c).arrAt_eq_of_covers 5 _ (by decide +kernel) fun t hf y => ?_
  obtain ⟨u, v, rfl⟩ : ∃ (u : Fin 768) (v : Fin 512), y = ix2 u v := ⟨y 0, y 1, by funext a; fin_cases a <;> rfl⟩
  have e : (win0_5.blk t).view.emb (ix2 u v) = ix2 u v := by
    blk_ext [idx5 t]
  refine Eq.trans ?_ (congrArg (relC (m ((c : Thread nD τ).loc main_arg0)) (m ((c : Thread nD τ).loc main_arg1)) (m ((c : Thread nD τ).loc main_arg2)) (m ((c : Thread nD τ).loc main_arg3)) (m ((c : Thread nD τ).loc main_arg4)) 0) e).symm
  show (dats m 0 c).after 5 t (ix2 u v) = _
  rw [after0_5]
  refine (congrFun (out5_eq (iblk m c 0 t) (iblk m c 1 t) (iblk m c 2 t) (iblk m c 3 t) (iblk m c 4 t)) (ix2 u v)).trans ?_
  rw [refC_eq]

theorem fin6 (c : Dev nD) : (dats m 0 c).arrAt 6 cfg0.N = relS (m ((c : Thread nD τ).loc main_arg0)) (m ((c : Thread nD τ).loc main_arg1)) (m ((c : Thread nD τ).loc main_arg2)) (m ((c : Thread nD τ).loc main_arg3)) (m ((c : Thread nD τ).loc main_arg4)) 0 := by
  refine (dats m 0 c).arrAt_eq_of_covers 6 _ (by decide +kernel) fun t hf y => ?_
  obtain ⟨u, v, rfl⟩ : ∃ (u : Fin 12) (v : Fin 512), y = ix2 u v := ⟨y 0, y 1, by funext a; fin_cases a <;> rfl⟩
  have e : (win0_6.blk t).view.emb (ix2 u v) = ix2 u v := by
    blk_ext [idx6 t]
  refine Eq.trans ?_ (congrArg (relS (m ((c : Thread nD τ).loc main_arg0)) (m ((c : Thread nD τ).loc main_arg1)) (m ((c : Thread nD τ).loc main_arg2)) (m ((c : Thread nD τ).loc main_arg3)) (m ((c : Thread nD τ).loc main_arg4)) 0) e).symm
  show (dats m 0 c).after 6 t (ix2 u v) = _
  rw [after0_6]
  refine (congrFun (out6_eq (iblk m c 0 t) (iblk m c 1 t) (iblk m c 2 t) (iblk m c 3 t) (iblk m c 4 t)) (ix2 u v)).trans ?_
  rw [refS_eq]

theorem fin7 (c : Dev nD) : (dats m 0 c).arrAt 7 cfg0.N = relC (m ((c : Thread nD τ).loc main_arg0)) (m ((c : Thread nD τ).loc main_arg1)) (m ((c : Thread nD τ).loc main_arg2)) (m ((c : Thread nD τ).loc main_arg3)) (m ((c : Thread nD τ).loc main_arg4)) 1 := by
  refine (dats m 0 c).arrAt_eq_of_covers 7 _ (by decide +kernel) fun t hf y => ?_
  obtain ⟨u, v, rfl⟩ : ∃ (u : Fin 768) (v : Fin 512), y = ix2 u v := ⟨y 0, y 1, by funext a; fin_cases a <;> rfl⟩
  have e : (win0_7.blk t).view.emb (ix2 u v) = ix2 u v := by
    blk_ext [idx7 t]
  refine Eq.trans ?_ (congrArg (relC (m ((c : Thread nD τ).loc main_arg0)) (m ((c : Thread nD τ).loc main_arg1)) (m ((c : Thread nD τ).loc main_arg2)) (m ((c : Thread nD τ).loc main_arg3)) (m ((c : Thread nD τ).loc main_arg4)) 1) e).symm
  show (dats m 0 c).after 7 t (ix2 u v) = _
  rw [after0_7]
  refine (congrFun (out7_eq (iblk m c 0 t) (iblk m c 1 t) (iblk m c 2 t) (iblk m c 3 t) (iblk m c 4 t)) (ix2 u v)).trans ?_
  rw [refC_eq]

theorem fin8 (c : Dev nD) : (dats m 0 c).arrAt 8 cfg0.N = relS (m ((c : Thread nD τ).loc main_arg0)) (m ((c : Thread nD τ).loc main_arg1)) (m ((c : Thread nD τ).loc main_arg2)) (m ((c : Thread nD τ).loc main_arg3)) (m ((c : Thread nD τ).loc main_arg4)) 1 := by
  refine (dats m 0 c).arrAt_eq_of_covers 8 _ (by decide +kernel) fun t hf y => ?_
  obtain ⟨u, v, rfl⟩ : ∃ (u : Fin 12) (v : Fin 512), y = ix2 u v := ⟨y 0, y 1, by funext a; fin_cases a <;> rfl⟩
  have e : (win0_8.blk t).view.emb (ix2 u v) = ix2 u v := by
    blk_ext [idx8 t]
  refine Eq.trans ?_ (congrArg (relS (m ((c : Thread nD τ).loc main_arg0)) (m ((c : Thread nD τ).loc main_arg1)) (m ((c : Thread nD τ).loc main_arg2)) (m ((c : Thread nD τ).loc main_arg3)) (m ((c : Thread nD τ).loc main_arg4)) 1) e).symm
  show (dats m 0 c).after 8 t (ix2 u v) = _
  rw [after0_8]
  refine (congrFun (out8_eq (iblk m c 0 t) (iblk m c 1 t) (iblk m c 2 t) (iblk m c 3 t) (iblk m c 4 t)) (ix2 u v)).trans ?_
  rw [refS_eq]

end Cert.RelRefIdeal.Value

end
-- ==== Proof.lean ====
/- The claims about two calls of the layer, its tail and the projections of the relative positions: the run of each
   kernel as written and over the reals, the run of its reference, and the equality of their results. -/
module

public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.BitsFrame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.TailFrame
public import proofs.«01_k».proof.Proof.KernelFin17
public import proofs.«01_k».proof.Proof.KernelFin18
public import proofs.«01_k».proof.Proof.KernelFin19
public import proofs.«01_k».proof.Proof.KernelFin20
public import proofs.«01_k».proof.Proof.KernelFin21
public import proofs.«01_k».proof.Proof.KernelFin22
public import proofs.«01_k».proof.Proof.KernelFin23
public import proofs.«01_k».proof.Proof.KernelFin24
public import proofs.«01_k».proof.Proof.KernelFin25
public import proofs.«01_k».proof.Proof.RefFin
public import proofs.«01_k».proof.Proof.RelFin
public import proofs.«01_k».proof.Proof.RelRefFin
public import proofs.«01_k».proof.Proof.Gen.TailRefIdeal
public import proofs.«01_k».proof.Proof.Gen.TailRefIdeal.Skeleton
public import proofs.«01_k».proof.Proof.Gen.TailRefIdeal.Launch
public import proofs.«01_k».proof.Proof.Gen.TailRefIdeal.Points
public import proofs.«01_k».proof.Proof.Gen.TailRefIdeal.Frame
public import proofs.«01_k».proof.Proof.Gen.Rel
public import proofs.«01_k».proof.Proof.Gen.Rel.Skeleton
public import proofs.«01_k».proof.Proof.Gen.Rel.Launch
public import proofs.«01_k».proof.Proof.Gen.Rel.Points
public import proofs.«01_k».proof.Proof.Gen.Rel.Frame
public import proofs.«01_k».proof.Proof.Gen.RelIdeal
public import proofs.«01_k».proof.Proof.Gen.RelIdeal.Skeleton
public import proofs.«01_k».proof.Proof.Gen.RelIdeal.Launch
public import proofs.«01_k».proof.Proof.Gen.RelIdeal.Points
public import proofs.«01_k».proof.Proof.Gen.RelIdeal.Frame
public import proofs.«01_k».proof.Proof.Gen.RelIdeal.Value
public import proofs.«01_k».proof.Proof.Gen.RelRefIdeal
public import proofs.«01_k».proof.Proof.Gen.RelRefIdeal.Skeleton
public import proofs.«01_k».proof.Proof.Gen.RelRefIdeal.Launch
public import proofs.«01_k».proof.Proof.Gen.RelRefIdeal.Points
public import proofs.«01_k».proof.Proof.Gen.RelRefIdeal.Frame
public import proofs.«01_k».proof.Proof.Gen.RelRefIdeal.Value
public import Idealize.ShloMosaic.Adequacy
public import Idealize.ShloMosaic.Init

@[expose] public section

noncomputable section

namespace Cert.Proof

open Idealize.ShloMosaic Idealize.SL.Sem Cert.Tail Cert.Rows

set_option maxHeartbeats 2000000 in
/-- The tiled kernel and the reference end with the same nine arrays, whatever the arguments. -/
theorem same : algebraic_TailIdeal_TailRefIdeal (hTailIdeal := Cert.TailIdeal.Gen.facts) (hTailRefIdeal := Cert.TailRefIdeal.Gen.facts) := by
  intro m g m' g' _ h
  refine ⟨fun c => (Cert.TailIdeal.Gen.dats m 0 c).arrAt 17 Cert.TailIdeal.cfg0.N,
    fun c => (Cert.TailIdeal.Gen.dats m 0 c).arrAt 18 Cert.TailIdeal.cfg0.N,
    fun c => (Cert.TailIdeal.Gen.dats m 0 c).arrAt 19 Cert.TailIdeal.cfg0.N,
    fun c => (Cert.TailIdeal.Gen.dats m 0 c).arrAt 20 Cert.TailIdeal.cfg0.N,
    fun c => (Cert.TailIdeal.Gen.dats m 0 c).arrAt 21 Cert.TailIdeal.cfg0.N,
    fun c => (Cert.TailIdeal.Gen.dats m 0 c).arrAt 22 Cert.TailIdeal.cfg0.N,
    fun c => (Cert.TailIdeal.Gen.dats m 0 c).arrAt 23 Cert.TailIdeal.cfg0.N,
    fun c => (Cert.TailIdeal.Gen.dats m 0 c).arrAt 24 Cert.TailIdeal.cfg0.N,
    fun c => (Cert.TailIdeal.Gen.dats m 0 c).arrAt 25 Cert.TailIdeal.cfg0.N, ?_, ?_⟩
  · exact Cert.TailIdeal.Value.run_blocks m g
  · refine (θ_run _ _ _).mono (fun r hr c => ?_) (Cert.TailRefIdeal.Value.run_blocks m' g')
    obtain ⟨h17, h18, h19, h20, h21, h22, h23, h24, h25, rest⟩ := hr c
    have e := h c
    have e0 := e.1
    have e1 := e.2.1
    have e2 := e.2.2.1
    have e3 := e.2.2.2.1
    have e4 := e.2.2.2.2.1
    have e5 := e.2.2.2.2.2.1
    have e6 := e.2.2.2.2.2.2.1
    have e7 := e.2.2.2.2.2.2.2.1
    have e8 := e.2.2.2.2.2.2.2.2.1
    have e9 := e.2.2.2.2.2.2.2.2.2.1
    have e10 := e.2.2.2.2.2.2.2.2.2.2.1
    have e11 := e.2.2.2.2.2.2.2.2.2.2.2.1
    have e12 := e.2.2.2.2.2.2.2.2.2.2.2.2.1
    have e13 := e.2.2.2.2.2.2.2.2.2.2.2.2.2.1
    have e14 := e.2.2.2.2.2.2.2.2.2.2.2.2.2.2.1
    have e15 := e.2.2.2.2.2.2.2.2.2.2.2.2.2.2.2.1
    have e16 := e.2.2.2.2.2.2.2.2.2.2.2.2.2.2.2.2
    have k17 := h17.trans (Cert.TailRefIdeal.Value.fin17 m' c)
    have k18 := h18.trans (Cert.TailRefIdeal.Value.fin18 m' c)
    have k19 := h19.trans (Cert.TailRefIdeal.Value.fin19 m' c)
    have k20 := h20.trans (Cert.TailRefIdeal.Value.fin20 m' c)
    have k21 := h21.trans (Cert.TailRefIdeal.Value.fin21 m' c)
    have k22 := h22.trans (Cert.TailRefIdeal.Value.fin22 m' c)
    have k23 := h23.trans (Cert.TailRefIdeal.Value.fin23 m' c)
    have k24 := h24.trans (Cert.TailRefIdeal.Value.fin24 m' c)
    have k25 := h25.trans (Cert.TailRefIdeal.Value.fin25 m' c)
    have p17 := (k17.trans (res17_congr e0)).trans (Cert.TailIdeal.Value.fin17 m c).symm
    have p18 := (k18.trans (res18_congr e0)).trans (Cert.TailIdeal.Value.fin18 m c).symm
    have p19 := (k19.trans (res19_congr e0 e1 e2 e3 e4 e5 e6 e7 e8 e9 e10 e11 e12 e13 e14 e15 e16)).trans (Cert.TailIdeal.Value.fin19 m c).symm
    have p20 := (k20.trans (res20_congr e0 e1 e2 e3 e4 e5 e6 e7 e8 e9 e10 e11 e12 e13 e14 e15 e16)).trans (Cert.TailIdeal.Value.fin20 m c).symm
    have p21 := (k21.trans (res21_congr e0 e1 e2 e3 e4 e5 e6 e7 e8 e9 e10 e11 e12 e13 e14 e15 e16)).trans (Cert.TailIdeal.Value.fin21 m c).symm
    have p22 := (k22.trans (res22_congr e0 e1 e2 e3 e4 e5 e6 e7 e8 e9 e10 e11 e12 e13 e14 e15 e16)).trans (Cert.TailIdeal.Value.fin22 m c).symm
    have p23 := (k23.trans (res23_congr e0 e1 e2 e3 e4 e5 e6 e7 e8 e9 e10 e11 e12 e13 e14 e15 e16)).trans (Cert.TailIdeal.Value.fin23 m c).symm
    have p24 := (k24.trans (res24_congr e0 e1 e2 e3 e4 e5 e6 e7 e8 e9 e10 e11 e12 e13 e14 e15 e16)).trans (Cert.TailIdeal.Value.fin24 m c).symm
    have p25 := (k25.trans (res25_congr e0 e1 e2 e3 e4 e5 e6 e7 e8 e9 e10 e11 e12 e13 e14 e15 e16)).trans (Cert.TailIdeal.Value.fin25 m c).symm
    exact ⟨p17, p18, p19, p20, p21, p22, p23, p24, p25, rest⟩

/-- The call that projects and quantises the relative positions ends with the reference's four arrays, whatever the
    arguments: the codes and the scales of the queries and of the keys. -/
theorem same_rel : algebraic_RelIdeal_RelRefIdeal (hRelIdeal := Cert.RelIdeal.Gen.facts) (hRelRefIdeal := Cert.RelRefIdeal.Gen.facts) := by
  intro m g m' g' _ h
  refine ⟨fun c => (Cert.RelIdeal.Gen.dats m 0 c).arrAt 7 Cert.RelIdeal.cfg0.N,
    fun c => (Cert.RelIdeal.Gen.dats m 0 c).arrAt 8 Cert.RelIdeal.cfg0.N,
    fun c => (Cert.RelIdeal.Gen.dats m 0 c).arrAt 9 Cert.RelIdeal.cfg0.N,
    fun c => (Cert.RelIdeal.Gen.dats m 0 c).arrAt 10 Cert.RelIdeal.cfg0.N, ?_, ?_⟩
  · refine (θ_run _ _ _).mono (fun r hr c => ?_) (Cert.RelIdeal.Value.run_blocks m g)
    obtain ⟨h7, h8, h9, h10, -, -, -, -, rest⟩ := hr c
    exact ⟨h7, h8, h9, h10, rest⟩
  · refine (θ_run _ _ _).mono (fun r hr c => ?_) (Cert.RelRefIdeal.Value.run_blocks m' g')
    obtain ⟨h5, h6, h7, h8, rest⟩ := hr c
    have e := h c
    have e0 := e.1
    have e1 := e.2.1
    have e2 := e.2.2.1
    have e3 := e.2.2.2.1
    have e4 := e.2.2.2.2.1
    have p5 := ((h5.trans (Cert.RelRefIdeal.Value.fin5 m' c)).trans (relC_congr 0 e0 e1 e2 e3 e4)).trans (Cert.RelIdeal.Value.fin7 m c).symm
    have p6 := ((h6.trans (Cert.RelRefIdeal.Value.fin6 m' c)).trans (relS_congr 0 e0 e1 e2 e3 e4)).trans (Cert.RelIdeal.Value.fin8 m c).symm
    have p7 := ((h7.trans (Cert.RelRefIdeal.Value.fin7 m' c)).trans (relC_congr 1 e0 e1 e2 e3 e4)).trans (Cert.RelIdeal.Value.fin9 m c).symm
    have p8 := ((h8.trans (Cert.RelRefIdeal.Value.fin8 m' c)).trans (relS_congr 1 e0 e1 e2 e3 e4)).trans (Cert.RelIdeal.Value.fin10 m c).symm
    exact ⟨p5, p6, p7, p8, rest⟩

/-- Every claim. -/
theorem claim : Cert.Claim := ⟨Cert.Tail.Gen.facts, Cert.TailIdeal.Gen.facts, Cert.TailRefIdeal.Gen.facts,
  Cert.Rel.Gen.facts, Cert.RelIdeal.Gen.facts, Cert.RelRefIdeal.Gen.facts,
  fun m g _ => Cert.Tail.Gen.frame m g,
  fun m g _ => Cert.TailIdeal.Gen.frame m g,
  fun m g _ => Cert.TailRefIdeal.Gen.frame m g,
  fun m g _ => Cert.Rel.Gen.frame m g,
  fun m g _ => Cert.RelIdeal.Gen.frame m g,
  fun m g _ => Cert.RelRefIdeal.Gen.frame m g,
  trivial,
  same,
  trivial,
  same_rel⟩

end Cert.Proof

end
